-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 [hPre_dispatched_tokens : Cert.Pre_dispatched_tokens.Facts] (m : (ℓ : Loc Cert.Kernel2.nD Cert.Kernel2.τ Cert.Kernel2.sig) → Buf (Elt Bits) ℓ) : Prop :=
  ∀ c : Dev Cert.Kernel2.nD,
    (Cert.Pre_dispatched_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))).1 = (fun _ => 1#1)
    ∧ (Cert.Pre_dispatched_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))).2.1 = (fun _ => 1#1)
    ∧ (Cert.Pre_dispatched_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))).2.2.1 = (fun _ => 1#1)
    ∧ (Cert.Pre_dispatched_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))).2.2.2.1 = (fun _ => 1#1)
    ∧ (Cert.Pre_dispatched_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))).2.2.2.2.1 = (fun _ => 1#1)
    ∧ (Cert.Pre_dispatched_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))).2.2.2.2.2.1 = (fun _ => 1#1)
    ∧ (Cert.Pre_dispatched_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))).2.2.2.2.2.2.1 = (fun _ => 1#1)
    ∧ (Cert.Pre_dispatched_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))).2.2.2.2.2.2.2.1 = (fun _ => 1#1)
    ∧ (Cert.Pre_dispatched_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))).2.2.2.2.2.2.2.2.1 = (fun _ => 1#1)
    ∧ (Cert.Pre_dispatched_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))).2.2.2.2.2.2.2.2.2 = (fun _ => 1#1)

def Pre_Kernel2Ideal [hPre_dispatched_tokens : Cert.Pre_dispatched_tokens.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_dispatched_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).1 = (fun _ => 1#1)
    ∧ (Cert.Pre_dispatched_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.1 = (fun _ => 1#1)
    ∧ (Cert.Pre_dispatched_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.1 = (fun _ => 1#1)
    ∧ (Cert.Pre_dispatched_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.1 = (fun _ => 1#1)
    ∧ (Cert.Pre_dispatched_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.1 = (fun _ => 1#1)
    ∧ (Cert.Pre_dispatched_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.1 = (fun _ => 1#1)
    ∧ (Cert.Pre_dispatched_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.1 = (fun _ => 1#1)
    ∧ (Cert.Pre_dispatched_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.2.1 = (fun _ => 1#1)
    ∧ (Cert.Pre_dispatched_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.2.2.1 = (fun _ => 1#1)
    ∧ (Cert.Pre_dispatched_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_dispatched_tokens [hPre_dispatched_tokens : Cert.Pre_dispatched_tokens.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_dispatched_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).1 = (fun _ => 1#1)
    ∧ (Cert.Pre_dispatched_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.1 = (fun _ => 1#1)
    ∧ (Cert.Pre_dispatched_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.1 = (fun _ => 1#1)
    ∧ (Cert.Pre_dispatched_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.1 = (fun _ => 1#1)
    ∧ (Cert.Pre_dispatched_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.1 = (fun _ => 1#1)
    ∧ (Cert.Pre_dispatched_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.1 = (fun _ => 1#1)
    ∧ (Cert.Pre_dispatched_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.1 = (fun _ => 1#1)
    ∧ (Cert.Pre_dispatched_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.2.1 = (fun _ => 1#1)
    ∧ (Cert.Pre_dispatched_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.2.2.1 = (fun _ => 1#1)
    ∧ (Cert.Pre_dispatched_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_dispatched_tokens : Cert.Pre_dispatched_tokens.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] [hPre_dispatched_tokens : Cert.Pre_dispatched_tokens.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_dispatched_tokens [hReference2Ideal : Cert.Reference2Ideal.Facts] [hPre_dispatched_tokens : Cert.Pre_dispatched_tokens.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_dispatched_tokens m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_token_rows [hKernel2Ideal : Cert.Kernel2Ideal.Facts] [hReference2Ideal : Cert.Reference2Ideal.Facts] [hPre_dispatched_tokens : Cert.Pre_dispatched_tokens.Facts] [hOn_token_rows : Cert.On_token_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![8704, 16, 128]⟩ : Shape).Idx, (Cert.On_token_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![8704, 16, 128]⟩ : Shape).Idx, (Cert.On_token_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) i = 1#1 → r.2.mem ((c.tc : Thread Cert.Reference2Ideal.nD Cert.Reference2Ideal.τ).loc Cert.Reference2Ideal.main_v51) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_queries_keys : Cert.Pre_finite_queries_keys.Facts) (hPre_dispatched_tokens : Cert.Pre_dispatched_tokens.Facts) (hOn_token_rows : Cert.On_token_rows.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2) (hPre_dispatched_tokens := hPre_dispatched_tokens)
    ∧ quiescent_Kernel2Ideal (hKernel2Ideal := hKernel2Ideal) (hPre_dispatched_tokens := hPre_dispatched_tokens)
    ∧ quiescent_Reference2Ideal (hReference2Ideal := hReference2Ideal)
    ∧ quiescent_Reference2Ideal_pre_dispatched_tokens (hReference2Ideal := hReference2Ideal) (hPre_dispatched_tokens := hPre_dispatched_tokens)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal_on_token_rows (hKernel2Ideal := hKernel2Ideal) (hReference2Ideal := hReference2Ideal) (hPre_dispatched_tokens := hPre_dispatched_tokens) (hOn_token_rows := hOn_token_rows)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== On_token_rows.lean ====
abbrev S20 : Shape := ⟨1, ![20]⟩
abbrev S1 : Shape := ⟨1, ![1]⟩
abbrev S10240 : Shape := ⟨1, ![10240]⟩
abbrev S8192x24x128 : Shape := ⟨3, ![8192, 24, 128]⟩
abbrev S1x2048 : Shape := ⟨2, ![1, 2048]⟩
abbrev S4x16x2048x512 : Shape := ⟨4, ![4, 16, 2048, 512]⟩
abbrev S4x16x512x2048 : Shape := ⟨4, ![4, 16, 512, 2048]⟩
abbrev S8192 : Shape := ⟨1, ![8192]⟩
abbrev S8704x16x128 : Shape := ⟨3, ![8704, 16, 128]⟩
abbrev S_ : Shape := ⟨0, ![]⟩

class Facts : Prop where
  bcast_S_S8704x16x128 : S_.BroadcastsInDim S8704x16x128 (![] : Fin 0 → Fin S8704x16x128.rank)

variable [Facts]

def fn {F : FTy → Type} [FloatOps F] (main_arg0 : IVec S20 32) (main_arg1 : IVec S1 32) (main_arg2 : IVec S20 32) (main_arg3 : IVec S10240 32) (main_arg4 : FVec F S8192x24x128 .f32) (main_arg5 : FVec F S1x2048 .f32) (main_arg6 : FVec F S1x2048 .f32) (main_arg7 : FVec F S1x2048 .f32) (main_arg8 : FVec F S1x2048 .f32) (main_arg9 : FVec F S4x16x2048x512 .f32) (main_arg10 : FVec F S4x16x2048x512 .f32) (main_arg11 : FVec F S4x16x512x2048 .f32) (main_arg12 : IVec S8192 32) (main_arg13 : IVec S8192 32) : IVec S8704x16x128 1 :=
  let main_v0 : IVec S8704x16x128 32 := iotaInDim S8704x16x128 32 0
  let main_c : IVec S_ 32 := constantI S_ 32 8192#32
  let main_v1 : IVec S8704x16x128 32 := broadcastInDim S8704x16x128 ![] bcast_S_S8704x16x128 main_c
  let main_v2 : IVec S8704x16x128 1 := cmpi .slt main_v0 main_v1
  main_v2
-- ==== Pre_dispatched_tokens.lean ====
abbrev S20 : Shape := ⟨1, ![20]⟩
abbrev S1 : Shape := ⟨1, ![1]⟩
abbrev S10240 : Shape := ⟨1, ![10240]⟩
abbrev S8192x24x128 : Shape := ⟨3, ![8192, 24, 128]⟩
abbrev S1x2048 : Shape := ⟨2, ![1, 2048]⟩
abbrev S4x16x2048x512 : Shape := ⟨4, ![4, 16, 2048, 512]⟩
abbrev S4x16x512x2048 : Shape := ⟨4, ![4, 16, 512, 2048]⟩
abbrev S8192 : Shape := ⟨1, ![8192]⟩
abbrev S8192x20x512 : Shape := ⟨3, ![8192, 20, 512]⟩
abbrev S_ : Shape := ⟨0, ![]⟩
abbrev S20x512 : Shape := ⟨2, ![20, 512]⟩
abbrev S1x1x1 : Shape := ⟨3, ![1, 1, 1]⟩

class Facts : Prop where
  bcast_S8192_S8192x20x512_0 : S8192.BroadcastsInDim S8192x20x512 (![0] : Fin 1 → Fin S8192x20x512.rank)
  bcast_S_S8192x20x512 : S_.BroadcastsInDim S8192x20x512 (![] : Fin 0 → Fin S8192x20x512.rank)
  shapeCasts_S10240_S20x512 : S10240.ShapeCasts S20x512
  bcast_S20x512_S8192x20x512_1_2 : S20x512.BroadcastsInDim S8192x20x512 (![1, 2] : Fin 2 → Fin S8192x20x512.rank)
  bcast_S20_S8192x20x512_1 : S20.BroadcastsInDim S8192x20x512 (![1] : Fin 1 → Fin S8192x20x512.rank)
  shapeCasts_S1_S1x1x1 : S1.ShapeCasts S1x1x1
  bcast_S1x1x1_S8192x20x512_0_1_2 : S1x1x1.BroadcastsInDim S8192x20x512 (![0, 1, 2] : Fin 3 → Fin S8192x20x512.rank)
  bcast_S_S8192 : S_.BroadcastsInDim S8192 (![] : Fin 0 → Fin S8192.rank)
  bcast_S_S10240 : S_.BroadcastsInDim S10240 (![] : Fin 0 → Fin S10240.rank)
  bcast_S_S20 : S_.BroadcastsInDim S20 (![] : Fin 0 → Fin S20.rank)
  bcast_S_S1 : S_.BroadcastsInDim S1 (![] : Fin 0 → Fin S1.rank)

variable [Facts]

def fn_part2 {F : FTy → Type} [FloatOps F] (main_arg1 : IVec S1 32) (main_v23 : IVec S8192x20x512 1) (main_v25 : IVec S8192x20x512 1) (main_v27 : IVec S8192 1) (main_v29 : IVec S8192 1) (main_v31 : IVec S10240 1) (main_v33 : IVec S10240 1) (main_v35 : IVec S20 1) (main_v37 : IVec S20 1) (main_v39 : IVec S1 1) : IVec S8192x20x512 1 × IVec S8192x20x512 1 × IVec S8192 1 × IVec S8192 1 × IVec S10240 1 × IVec S10240 1 × IVec S20 1 × IVec S20 1 × IVec S1 1 × IVec S1 1 :=
  let main_c_7 : IVec S_ 32 := constantI S_ 32 20#32
  let main_v40 : IVec S1 32 := broadcastInDim S1 ![] bcast_S_S1 main_c_7
  let main_v41 : IVec S1 1 := cmpi .sle main_arg1 main_v40
  (main_v23, main_v25, main_v27, main_v29, main_v31, main_v33, main_v35, main_v37, main_v39, main_v41)

def fn_part1 {F : FTy → Type} [FloatOps F] (main_arg0 : IVec S20 32) (main_arg1 : IVec S1 32) (main_arg3 : IVec S10240 32) (main_arg12 : IVec S8192 32) (main_v7 : IVec S8192x20x512 1) (main_v17 : IVec S8192x20x512 1) (main_v18 : IVec S8192x20x512 1) (main_v22 : IVec S8192x20x512 1) : IVec S8192x20x512 1 × IVec S8192x20x512 1 × IVec S8192 1 × IVec S8192 1 × IVec S10240 1 × IVec S10240 1 × IVec S20 1 × IVec S20 1 × IVec S1 1 × IVec S1 1 :=
  let main_v23 : IVec S8192x20x512 1 := ori main_v18 main_v22
  let main_v24 : IVec S8192x20x512 1 := noti main_v17
  let main_v25 : IVec S8192x20x512 1 := ori main_v24 main_v7
  let main_c_0 : IVec S_ 32 := constantI S_ 32 0#32
  let main_v26 : IVec S8192 32 := broadcastInDim S8192 ![] bcast_S_S8192 main_c_0
  let main_v27 : IVec S8192 1 := cmpi .sge main_arg12 main_v26
  let main_c_1 : IVec S_ 32 := constantI S_ 32 10240#32
  let main_v28 : IVec S8192 32 := broadcastInDim S8192 ![] bcast_S_S8192 main_c_1
  let main_v29 : IVec S8192 1 := cmpi .slt main_arg12 main_v28
  let main_c_2 : IVec S_ 32 := constantI S_ 32 0#32
  let main_v30 : IVec S10240 32 := broadcastInDim S10240 ![] bcast_S_S10240 main_c_2
  let main_v31 : IVec S10240 1 := cmpi .sge main_arg3 main_v30
  let main_c_3 : IVec S_ 32 := constantI S_ 32 8192#32
  let main_v32 : IVec S10240 32 := broadcastInDim S10240 ![] bcast_S_S10240 main_c_3
  let main_v33 : IVec S10240 1 := cmpi .slt main_arg3 main_v32
  let main_c_4 : IVec S_ 32 := constantI S_ 32 0#32
  let main_v34 : IVec S20 32 := broadcastInDim S20 ![] bcast_S_S20 main_c_4
  let main_v35 : IVec S20 1 := cmpi .sge main_arg0 main_v34
  let main_c_5 : IVec S_ 32 := constantI S_ 32 4#32
  let main_v36 : IVec S20 32 := broadcastInDim S20 ![] bcast_S_S20 main_c_5
  let main_v37 : IVec S20 1 := cmpi .slt main_arg0 main_v36
  let main_c_6 : IVec S_ 32 := constantI S_ 32 1#32
  let main_v38 : IVec S1 32 := broadcastInDim S1 ![] bcast_S_S1 main_c_6
  let main_v39 : IVec S1 1 := cmpi .sge main_arg1 main_v38
  fn_part2 (F := F) main_arg1 main_v23 main_v25 main_v27 main_v29 main_v31 main_v33 main_v35 main_v37 main_v39

def fn {F : FTy → Type} [FloatOps F] (main_arg0 : IVec S20 32) (main_arg1 : IVec S1 32) (main_arg2 : IVec S20 32) (main_arg3 : IVec S10240 32) (main_arg4 : FVec F S8192x24x128 .f32) (main_arg5 : FVec F S1x2048 .f32) (main_arg6 : FVec F S1x2048 .f32) (main_arg7 : FVec F S1x2048 .f32) (main_arg8 : FVec F S1x2048 .f32) (main_arg9 : FVec F S4x16x2048x512 .f32) (main_arg10 : FVec F S4x16x2048x512 .f32) (main_arg11 : FVec F S4x16x512x2048 .f32) (main_arg12 : IVec S8192 32) (main_arg13 : IVec S8192 32) : IVec S8192x20x512 1 × IVec S8192x20x512 1 × IVec S8192 1 × IVec S8192 1 × IVec S10240 1 × IVec S10240 1 × IVec S20 1 × IVec S20 1 × IVec S1 1 × IVec S1 1 :=
  let main_v0 : IVec S8192x20x512 32 := iotaInDim S8192x20x512 32 0
  let main_v1 : IVec S8192x20x512 32 := iotaInDim S8192x20x512 32 1
  let main_v2 : IVec S8192x20x512 32 := iotaInDim S8192x20x512 32 2
  let main_v3 : IVec S8192x20x512 32 := broadcastInDim S8192x20x512 ![0] bcast_S8192_S8192x20x512_0 main_arg12
  let main_c : IVec S_ 32 := constantI S_ 32 512#32
  let main_v4 : IVec S8192x20x512 32 := broadcastInDim S8192x20x512 ![] bcast_S_S8192x20x512 main_c
  let main_v5 : IVec S8192x20x512 32 := muli main_v1 main_v4
  let main_v6 : IVec S8192x20x512 32 := addi main_v5 main_v2
  let main_v7 : IVec S8192x20x512 1 := cmpi .eq main_v3 main_v6
  let main_v8 : IVec S20x512 32 := shapeCast S20x512 main_arg3 shapeCasts_S10240_S20x512
  let main_v9 : IVec S8192x20x512 32 := broadcastInDim S8192x20x512 ![1, 2] bcast_S20x512_S8192x20x512_1_2 main_v8
  let main_v10 : IVec S8192x20x512 1 := cmpi .eq main_v9 main_v0
  let main_v11 : IVec S8192x20x512 32 := broadcastInDim S8192x20x512 ![1] bcast_S20_S8192x20x512_1 main_arg2
  let main_v12 : IVec S8192x20x512 1 := cmpi .slt main_v2 main_v11
  let main_v13 : IVec S8192x20x512 1 := andi main_v10 main_v12
  let main_v14 : IVec S1x1x1 32 := shapeCast S1x1x1 main_arg1 shapeCasts_S1_S1x1x1
  let main_v15 : IVec S8192x20x512 32 := broadcastInDim S8192x20x512 ![0, 1, 2] bcast_S1x1x1_S8192x20x512_0_1_2 main_v14
  let main_v16 : IVec S8192x20x512 1 := cmpi .slt main_v1 main_v15
  let main_v17 : IVec S8192x20x512 1 := andi main_v13 main_v16
  let main_v18 : IVec S8192x20x512 1 := noti main_v7
  let main_v19 : IVec S8192x20x512 32 := broadcastInDim S8192x20x512 ![1] bcast_S20_S8192x20x512_1 main_arg0
  let main_v20 : IVec S8192x20x512 32 := broadcastInDim S8192x20x512 ![0] bcast_S8192_S8192x20x512_0 main_arg13
  let main_v21 : IVec S8192x20x512 1 := cmpi .eq main_v19 main_v20
  let main_v22 : IVec S8192x20x512 1 := andi main_v17 main_v21
  fn_part1 (F := F) main_arg0 main_arg1 main_arg3 main_arg12 main_v7 main_v17 main_v18 main_v22
-- ==== Pre_finite_queries_keys.lean ====
abbrev S8192x16x128 : Shape := ⟨3, ![8192, 16, 128]⟩
abbrev S8192x16x64 : Shape := ⟨3, ![8192, 16, 64]⟩
abbrev S8192x64 : Shape := ⟨2, ![8192, 64]⟩
abbrev S_ : Shape := ⟨0, ![]⟩

class Facts : Prop where
  bcast_S_S8192x16x128 : S_.BroadcastsInDim S8192x16x128 (![] : Fin 0 → Fin S8192x16x128.rank)
  bcast_S_S8192x16x64 : S_.BroadcastsInDim S8192x16x64 (![] : Fin 0 → Fin S8192x16x64.rank)
  bcast_S_S8192x64 : S_.BroadcastsInDim S8192x64 (![] : Fin 0 → Fin S8192x64.rank)

variable [Facts]

def fn {F : FTy → Type} [FloatOps F] (main_arg0 : FVec F S8192x16x128 .f32) (main_arg1 : FVec F S8192x16x64 .f32) (main_arg2 : FVec F S8192x16x128 .f32) (main_arg3 : FVec F S8192x64 .f32) (main_arg4 : FVec F S8192x16x128 .f32) : IVec S8192x16x128 1 × IVec S8192x16x64 1 × IVec S8192x16x128 1 × IVec S8192x64 1 :=
  let main_v0 : FVec F S8192x16x128 .f32 := Host.absf main_arg0
  let main_cst : FVec F S_ .f32 := constant S_ .f32 0x7F800000#32
  let main_v1 : FVec F S8192x16x128 .f32 := broadcastInDim S8192x16x128 ![] bcast_S_S8192x16x128 main_cst
  let main_v2 : IVec S8192x16x128 1 := cmpf .olt main_v0 main_v1
  let main_v3 : FVec F S8192x16x64 .f32 := Host.absf main_arg1
  let main_cst_0 : FVec F S_ .f32 := constant S_ .f32 0x7F800000#32
  let main_v4 : FVec F S8192x16x64 .f32 := broadcastInDim S8192x16x64 ![] bcast_S_S8192x16x64 main_cst_0
  let main_v5 : IVec S8192x16x64 1 := cmpf .olt main_v3 main_v4
  let main_v6 : FVec F S8192x16x128 .f32 := Host.absf main_arg2
  let main_cst_1 : FVec F S_ .f32 := constant S_ .f32 0x7F800000#32
  let main_v7 : FVec F S8192x16x128 .f32 := broadcastInDim S8192x16x128 ![] bcast_S_S8192x16x128 main_cst_1
  let main_v8 : IVec S8192x16x128 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  (main_v2, main_v5, main_v8, main_v11)
-- ==== Kernel.lean ====
abbrev S8192x16x128 : Shape := ⟨3, ![8192, 16, 128]⟩
abbrev S8192x16x64 : Shape := ⟨3, ![8192, 16, 64]⟩
abbrev S8192x64 : Shape := ⟨2, ![8192, 64]⟩
abbrev S_ : Shape := ⟨0, ![]⟩
abbrev S8192x16x256 : Shape := ⟨3, ![8192, 16, 256]⟩
abbrev S8192x1x64 : Shape := ⟨3, ![8192, 1, 64]⟩
abbrev S16x8192x256 : Shape := ⟨3, ![16, 8192, 256]⟩
abbrev S8192x2048 : Shape := ⟨2, ![8192, 2048]⟩
abbrev S1x2048x256 : Shape := ⟨3, ![1, 2048, 256]⟩
abbrev S1x8192x256 : Shape := ⟨3, ![1, 8192, 256]⟩
abbrev S2048x128 : Shape := ⟨2, ![2048, 128]⟩
abbrev S2048x1 : Shape := ⟨2, ![2048, 1]⟩
abbrev S2048x256 : Shape := ⟨2, ![2048, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S256x1024 : Shape := ⟨2, ![256, 1024]⟩
abbrev S256x1 : Shape := ⟨2, ![256, 1]⟩
abbrev S256 : Shape := ⟨1, ![256]⟩

abbrev nBuf : Space → Nat
  | .hbm => 28
  | .vmem => 10
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S_, .f32⟩
  | .hbm, ⟨6, _⟩ => ⟨S8192x16x64, .f32⟩
  | .hbm, ⟨7, _⟩ => ⟨S8192x16x256, .f32⟩
  | .hbm, ⟨8, _⟩ => ⟨S_, .f32⟩
  | .hbm, ⟨9, _⟩ => ⟨S8192x16x256, .f32⟩
  | .hbm, ⟨10, _⟩ => ⟨S8192x16x256, .f32⟩
  | .hbm, ⟨11, _⟩ => ⟨S_, .f32⟩
  | .hbm, ⟨12, _⟩ => ⟨S_, .f32⟩
  | .hbm, ⟨13, _⟩ => ⟨S8192x16x256, .f32⟩
  | .hbm, ⟨14, _⟩ => ⟨S8192x16x256, .f32⟩
  | .hbm, ⟨15, _⟩ => ⟨S8192x1x64, .f32⟩
  | .hbm, ⟨16, _⟩ => ⟨S8192x16x64, .f32⟩
  | .hbm, ⟨17, _⟩ => ⟨S8192x16x256, .f32⟩
  | .hbm, ⟨18, _⟩ => ⟨S_, .f32⟩
  | .hbm, ⟨19, _⟩ => ⟨S8192x16x128, .f32⟩
  | .hbm, ⟨20, _⟩ => ⟨S8192x16x256, .f32⟩
  | .hbm, ⟨21, _⟩ => ⟨S16x8192x256, .f32⟩
  | .hbm, ⟨22, _⟩ => ⟨S16x8192x256, .bf16⟩
  | .hbm, ⟨23, _⟩ => ⟨S16x8192x256, .f32⟩
  | .hbm, ⟨24, _⟩ => ⟨S16x8192x256, .bf16⟩
  | .hbm, ⟨25, _⟩ => ⟨S16x8192x256, .f32⟩
  | .hbm, ⟨26, _⟩ => ⟨S16x8192x256, .bf16⟩
  | .hbm, ⟨27, _⟩ => ⟨S8192x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S2048x128, .bf16⟩
  | .local _ .vmem, ⟨7, _⟩ => ⟨S2048x128, .bf16⟩
  | .local _ .vmem, ⟨8, _⟩ => ⟨S2048x1, .f32⟩
  | .local _ .vmem, ⟨9, _⟩ => ⟨S2048x256, .f32⟩
  | _, _ => ⟨S8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c1024_i32 : BitVec 32 := 1024#32
  let v16 : BitVec 32 := Scalar.muli arg8 c1024_i32
  v16
def k0_off1 (k0_t1 : Fin k0_t1_loop.trips) : Fin 3 → Nat :=
  let c0_9 : Index := 0#32
  let c0_i32 : BitVec 32 := 0#32
  let c1_i32 : BitVec 32 := 1#32
  let arg8 : BitVec 32 := Scf.iv c0_i32 c1_i32 k0_t1
  let c1024_i32 : BitVec 32 := 1024#32
  let v16 : BitVec 32 := Scalar.muli arg8 c1024_i32
  let v17 : BitVec 32 := v16
  let v18 : Index := Scalar.indexCast v17
  let c0_10 : Index := 0#32
  ![0, v18.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x16x128 : Shape := ⟨3, ![8192, 16, 128]⟩
abbrev S8192x16x64 : Shape := ⟨3, ![8192, 16, 64]⟩
abbrev S8192x64 : Shape := ⟨2, ![8192, 64]⟩
abbrev S16x8192x8192 : Shape := ⟨3, ![16, 8192, 8192]⟩
abbrev S8192x8192x16 : Shape := ⟨3, ![8192, 8192, 16]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S16x8192x8192, .f32⟩
  | .hbm, ⟨6, _⟩ => ⟨S8192x8192x16, .f32⟩
  | .hbm, ⟨7, _⟩ => ⟨S16x8192x8192, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S_, .f32⟩
  | .hbm, ⟨13, _⟩ => ⟨S16x8192, .f32⟩
  | .hbm, ⟨14, _⟩ => ⟨S_, .f32⟩
  | .hbm, ⟨15, _⟩ => ⟨S16x8192, .f32⟩
  | .hbm, ⟨16, _⟩ => ⟨S16x8192, .f32⟩
  | .hbm, ⟨17, _⟩ => ⟨S16x8192x1, .f32⟩
  | .hbm, ⟨18, _⟩ => ⟨S16x8192x8192, .f32⟩
  | .hbm, ⟨19, _⟩ => ⟨S16x8192x8192, .f32⟩
  | .hbm, ⟨20, _⟩ => ⟨S16x8192x8192, .f32⟩
  | .hbm, ⟨21, _⟩ => ⟨S_, .f32⟩
  | .hbm, ⟨22, _⟩ => ⟨S16x8192, .f32⟩
  | .hbm, ⟨23, _⟩ => ⟨S16x8192x1, .f32⟩
  | .hbm, ⟨24, _⟩ => ⟨S16x8192x8192, .f32⟩
  | .hbm, ⟨25, _⟩ => ⟨S16x8192x8192, .f32⟩
  | .hbm, ⟨26, _⟩ => ⟨S16x128x8192, .f32⟩
  | .hbm, ⟨27, _⟩ => ⟨S8192x16x128, .f32⟩
  | .hbm, ⟨28, _⟩ => ⟨S8192x2048, .f32⟩
  | .hbm, ⟨29, _⟩ => ⟨S8192x2048, .bf16⟩
  | _, _ => ⟨S8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S20 : Shape := ⟨1, ![20]⟩
abbrev S1 : Shape := ⟨1, ![1]⟩
abbrev S10240 : Shape := ⟨1, ![10240]⟩
abbrev S8192x24x128 : Shape := ⟨3, ![8192, 24, 128]⟩
abbrev S1x2048 : Shape := ⟨2, ![1, 2048]⟩
abbrev S4x16x2048x512 : Shape := ⟨4, ![4, 16, 2048, 512]⟩
abbrev S4x16x512x2048 : Shape := ⟨4, ![4, 16, 512, 2048]⟩
abbrev S8192 : Shape := ⟨1, ![8192]⟩
abbrev S8704x16x128 : Shape := ⟨3, ![8704, 16, 128]⟩
abbrev S1x1x2048x512 : Shape := ⟨4, ![1, 1, 2048, 512]⟩
abbrev S1x1x512x2048 : Shape := ⟨4, ![1, 1, 512, 2048]⟩
abbrev S2x512x24x128 : Shape := ⟨4, ![2, 512, 24, 128]⟩
abbrev S512x16x128 : Shape := ⟨3, ![512, 16, 128]⟩
abbrev S512x2048 : Shape := ⟨2, ![512, 2048]⟩
abbrev S1x512x512 : Shape := ⟨3, ![1, 512, 512]⟩
abbrev S2 : Shape := ⟨1, ![2]⟩
abbrev S_ : Shape := ⟨0, ![]⟩
abbrev S1x1x24x128 : Shape := ⟨4, ![1, 1, 24, 128]⟩
abbrev S1x24x128 : Shape := ⟨3, ![1, 24, 128]⟩
abbrev S1x512x24x128 : Shape := ⟨4, ![1, 512, 24, 128]⟩
abbrev S512x24x128 : Shape := ⟨3, ![512, 24, 128]⟩
abbrev S1x32x16x128 : Shape := ⟨4, ![1, 32, 16, 128]⟩
abbrev S32x16x128 : Shape := ⟨3, ![32, 16, 128]⟩
abbrev S32x2048 : Shape := ⟨2, ![32, 2048]⟩
abbrev S32 : Shape := ⟨1, ![32]⟩
abbrev S32x1 : Shape := ⟨2, ![32, 1]⟩
abbrev S2048x512 : Shape := ⟨2, ![2048, 512]⟩
abbrev S512x512 : Shape := ⟨2, ![512, 512]⟩
abbrev S1x512x8x128 : Shape := ⟨4, ![1, 512, 8, 128]⟩
abbrev S512x8x128 : Shape := ⟨3, ![512, 8, 128]⟩
abbrev S512x1024 : Shape := ⟨2, ![512, 1024]⟩
abbrev S512x128 : Shape := ⟨2, ![512, 128]⟩
abbrev S512x1 : Shape := ⟨2, ![512, 1]⟩
abbrev S1x512x16x128 : Shape := ⟨4, ![1, 512, 16, 128]⟩
abbrev S1x16x128 : Shape := ⟨3, ![1, 16, 128]⟩

abbrev nBuf : Space → Nat
  | .hbm => 11
  | .vmem => 15
  | .smem => 4
  | _ => 0

abbrev bufTy : (tb : Table) → Fin (tcTables nBuf tb) → BufTy
  | .hbm, ⟨0, _⟩ => ⟨S8192x24x128, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4x16x2048x512, .f32⟩
  | .hbm, ⟨6, _⟩ => ⟨S4x16x2048x512, .f32⟩
  | .hbm, ⟨7, _⟩ => ⟨S4x16x512x2048, .f32⟩
  | .hbm, ⟨8, _⟩ => ⟨S8192, .i32⟩
  | .hbm, ⟨9, _⟩ => ⟨S8192, .i32⟩
  | .hbm, ⟨10, _⟩ => ⟨S8704x16x128, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x2048x512, .f32⟩
  | .local _ .vmem, ⟨7, _⟩ => ⟨S1x1x2048x512, .f32⟩
  | .local _ .vmem, ⟨8, _⟩ => ⟨S1x1x512x2048, .f32⟩
  | .local _ .vmem, ⟨9, _⟩ => ⟨S1x1x512x2048, .f32⟩
  | .local _ .vmem, ⟨10, _⟩ => ⟨S2x512x24x128, .f32⟩
  | .local _ .vmem, ⟨11, _⟩ => ⟨S512x16x128, .f32⟩
  | .local _ .vmem, ⟨12, _⟩ => ⟨S512x2048, .bf16⟩
  | .local _ .vmem, ⟨13, _⟩ => ⟨S512x2048, .f32⟩
  | .local _ .vmem, ⟨14, _⟩ => ⟨S1x512x512, .bf16⟩
  | .local _ .smem, ⟨0, _⟩ => ⟨S20, .i32⟩
  | .local _ .smem, ⟨1, _⟩ => ⟨S1, .i32⟩
  | .local _ .smem, ⟨2, _⟩ => ⟨S20, .i32⟩
  | .local _ .smem, ⟨3, _⟩ => ⟨S10240, .i32⟩
  | _, _ => ⟨S8192x24x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_arg10 : Ref sig .tc := ⟨.hbm, 6, rfl⟩
abbrev main_arg11 : Ref sig .tc := ⟨.hbm, 7, rfl⟩
abbrev main_arg12 : Ref sig .tc := ⟨.hbm, 8, rfl⟩
abbrev main_arg13 : Ref sig .tc := ⟨.hbm, 9, rfl⟩
abbrev main_v0 : Ref sig .tc := ⟨.hbm, 10, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![20, 4], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond1 (i : grid0.Coords) : BitVec 1 :=
  let arg0 : BitVec 32 := BitVec.ofNat 32 (i 0).val
  let c0_i32_3 : BitVec 32 := 0#32
  let v12 : BitVec 1 := Scalar.cmpi .eq arg0 c0_i32_3
  let arg1 : BitVec 32 := BitVec.ofNat 32 (i 1).val
  let c0_i32_4 : BitVec 32 := 0#32
  let v13 : BitVec 1 := Scalar.cmpi .eq arg1 c0_i32_4
  let v14 : BitVec 1 := Scalar.andi v12 v13
  let v15 : BitVec 32 := Scalar.extui v14
  let c0_i32_5 : BitVec 32 := 0#32
  let v16 : BitVec 1 := Scalar.cmpi .ne v15 c0_i32_5
  v16

@[reducible] def k0_t1_loop : Scf.Loop 32 :=
  let c0_i32_14 : BitVec 32 := 0#32
  let c128_i32 : BitVec 32 := 128#32
  let v35 : BitVec 32 := Scalar.addi c0_i32_14 c128_i32
  let c1_i32_15 : BitVec 32 := 1#32
  ⟨c0_i32_14, v35, c1_i32_15⟩
def k0_off2 (k0_t1 : Fin k0_t1_loop.trips) : Fin 1 → Nat :=
  let c0_i32_40 : BitVec 32 := 0#32
  let c0_i32_39 : BitVec 32 := 0#32
  let c0_i32_14 : BitVec 32 := 0#32
  let c1_i32_15 : BitVec 32 := 1#32
  let arg22 : BitVec 32 := Scf.iv c0_i32_14 c1_i32_15 k0_t1
  let v49 : BitVec 32 := Scalar.addi c0_i32_39 arg22
  let v50 : BitVec 32 := Scalar.addi c0_i32_40 v49
  let v51 : Index := Scalar.indexCast v50
  ![v51.toNat]
def k0_off3 (k0_t1 : Fin k0_t1_loop.trips) : Fin 4 → Nat :=
  let c0_i32_41 : BitVec 32 := 0#32
  let c0_i32_39 : BitVec 32 := 0#32
  let c0_i32_14 : BitVec 32 := 0#32
  let c1_i32_15 : BitVec 32 := 1#32
  let arg22 : BitVec 32 := Scf.iv c0_i32_14 c1_i32_15 k0_t1
  let v49 : BitVec 32 := Scalar.addi c0_i32_39 arg22
  let c0_i32_43 : BitVec 32 := 0#32
  let c0_i32_44 : BitVec 32 := 0#32
  ![0, v49.toNat, 0, 0]
def k0_off4 (v52 : BitVec 32) : Fin 3 → Nat :=
  let c0_i32_45 : BitVec 32 := 0#32
  let c0_i32_46 : BitVec 32 := 0#32
  ![v52.toNat, 0, 0]

def k0_chk1 (i : grid0.Coords) (v52 : BitVec 32) : Prop :=
  (∀ (k0_h1 : k0_cond1 i = 1#1), ∀ a, (k0_off4 v52) a + S1x24x128.size a ≤ S8192x24x128.size a)
theorem k0_off4_inb : ∀ (i : grid0.Coords) (v52 : BitVec 32) (k0_hw1 : k0_chk1 i v52), ∀ (k0_h1 : k0_cond1 i = 1#1), ∀ a, (k0_off4 v52) a + S1x24x128.size a ≤ S8192x24x128.size a := fun i v52 k0_hw1 k0_h1 => k0_hw1 k0_h1

@[reducible] def k0_t2_loop : Scf.Loop 32 :=
  let c0_i32_17 : BitVec 32 := 0#32
  let c128_i32_18 : BitVec 32 := 128#32
  let v36 : BitVec 32 := Scalar.addi c0_i32_17 c128_i32_18
  let c1_i32_19 : BitVec 32 := 1#32
  ⟨c0_i32_17, v36, c1_i32_19⟩
def k0_off5 (k0_t2 : Fin k0_t2_loop.trips) : Fin 1 → Nat :=
  let c0_i32_40 : BitVec 32 := 0#32
  let c128_i32_39 : BitVec 32 := 128#32
  let c0_i32_17 : BitVec 32 := 0#32
  let c1_i32_19 : BitVec 32 := 1#32
  let arg22 : BitVec 32 := Scf.iv c0_i32_17 c1_i32_19 k0_t2
  let v49 : BitVec 32 := Scalar.addi c128_i32_39 arg22
  let v50 : BitVec 32 := Scalar.addi c0_i32_40 v49
  let v51 : Index := Scalar.indexCast v50
  ![v51.toNat]
def k0_off6 (k0_t2 : Fin k0_t2_loop.trips) : Fin 4 → Nat :=
  let c0_i32_41 : BitVec 32 := 0#32
  let c128_i32_39 : BitVec 32 := 128#32
  let c0_i32_17 : BitVec 32 := 0#32
  let c1_i32_19 : BitVec 32 := 1#32
  let arg22 : BitVec 32 := Scf.iv c0_i32_17 c1_i32_19 k0_t2
  let v49 : BitVec 32 := Scalar.addi c128_i32_39 arg22
  let c0_i32_43 : BitVec 32 := 0#32
  let c0_i32_44 : BitVec 32 := 0#32
  ![0, v49.toNat, 0, 0]
def k0_off7 (v52 : BitVec 32) : Fin 3 → Nat :=
  let c0_i32_45 : BitVec 32 := 0#32
  let c0_i32_46 : BitVec 32 := 0#32
  ![v52.toNat, 0, 0]

def k0_chk2 (i : grid0.Coords) (v52 : BitVec 32) : Prop :=
  (∀ (k0_h1 : k0_cond1 i = 1#1), ∀ a, (k0_off7 v52) a + S1x24x128.size a ≤ S8192x24x128.size a)
theorem k0_off7_inb : ∀ (i : grid0.Coords) (v52 : BitVec 32) (k0_hw2 : k0_chk2 i v52), ∀ (k0_h1 : k0_cond1 i = 1#1), ∀ a, (k0_off7 v52) a + S1x24x128.size a ≤ S8192x24x128.size a := fun i v52 k0_hw2 k0_h1 => k0_hw2 k0_h1

@[reducible] def k0_t3_loop : Scf.Loop 32 :=
  let c0_i32_21 : BitVec 32 := 0#32
  let c128_i32_22 : BitVec 32 := 128#32
  let v37 : BitVec 32 := Scalar.addi c0_i32_21 c128_i32_22
  let c1_i32_23 : BitVec 32 := 1#32
  ⟨c0_i32_21, v37, c1_i32_23⟩
def k0_off8 (k0_t3 : Fin k0_t3_loop.trips) : Fin 1 → Nat :=
  let c0_i32_39 : BitVec 32 := 0#32
  let c256_i32 : BitVec 32 := 256#32
  let c0_i32_21 : BitVec 32 := 0#32
  let c1_i32_23 : BitVec 32 := 1#32
  let arg22 : BitVec 32 := Scf.iv c0_i32_21 c1_i32_23 k0_t3
  let v49 : BitVec 32 := Scalar.addi c256_i32 arg22
  let v50 : BitVec 32 := Scalar.addi c0_i32_39 v49
  let v51 : Index := Scalar.indexCast v50
  ![v51.toNat]
def k0_off9 (k0_t3 : Fin k0_t3_loop.trips) : Fin 4 → Nat :=
  let c0_i32_40 : BitVec 32 := 0#32
  let c256_i32 : BitVec 32 := 256#32
  let c0_i32_21 : BitVec 32 := 0#32
  let c1_i32_23 : BitVec 32 := 1#32
  let arg22 : BitVec 32 := Scf.iv c0_i32_21 c1_i32_23 k0_t3
  let v49 : BitVec 32 := Scalar.addi c256_i32 arg22
  let c0_i32_42 : BitVec 32 := 0#32
  let c0_i32_43 : BitVec 32 := 0#32
  ![0, v49.toNat, 0, 0]
def k0_off10 (v52 : BitVec 32) : Fin 3 → Nat :=
  let c0_i32_44 : BitVec 32 := 0#32
  let c0_i32_45 : BitVec 32 := 0#32
  ![v52.toNat, 0, 0]

def k0_chk3 (i : grid0.Coords) (v52 : BitVec 32) : Prop :=
  (∀ (k0_h1 : k0_cond1 i = 1#1), ∀ a, (k0_off10 v52) a + S1x24x128.size a ≤ S8192x24x128.size a)
theorem k0_off10_inb : ∀ (i : grid0.Coords) (v52 : BitVec 32) (k0_hw3 : k0_chk3 i v52), ∀ (k0_h1 : k0_cond1 i = 1#1), ∀ a, (k0_off10 v52) a + S1x24x128.size a ≤ S8192x24x128.size a := fun i v52 k0_hw3 k0_h1 => k0_hw3 k0_h1

@[reducible] def k0_t4_loop : Scf.Loop 32 :=
  let c0_i32_25 : BitVec 32 := 0#32
  let c128_i32_26 : BitVec 32 := 128#32
  let v38 : BitVec 32 := Scalar.addi c0_i32_25 c128_i32_26
  let c1_i32_27 : BitVec 32 := 1#32
  ⟨c0_i32_25, v38, c1_i32_27⟩
def k0_off11 (k0_t4 : Fin k0_t4_loop.trips) : Fin 1 → Nat :=
  let c0_i32_39 : BitVec 32 := 0#32
  let c384_i32 : BitVec 32 := 384#32
  let c0_i32_25 : BitVec 32 := 0#32
  let c1_i32_27 : BitVec 32 := 1#32
  let arg22 : BitVec 32 := Scf.iv c0_i32_25 c1_i32_27 k0_t4
  let v49 : BitVec 32 := Scalar.addi c384_i32 arg22
  let v50 : BitVec 32 := Scalar.addi c0_i32_39 v49
  let v51 : Index := Scalar.indexCast v50
  ![v51.toNat]
def k0_off12 (k0_t4 : Fin k0_t4_loop.trips) : Fin 4 → Nat :=
  let c0_i32_40 : BitVec 32 := 0#32
  let c384_i32 : BitVec 32 := 384#32
  let c0_i32_25 : BitVec 32 := 0#32
  let c1_i32_27 : BitVec 32 := 1#32
  let arg22 : BitVec 32 := Scf.iv c0_i32_25 c1_i32_27 k0_t4
  let v49 : BitVec 32 := Scalar.addi c384_i32 arg22
  let c0_i32_42 : BitVec 32 := 0#32
  let c0_i32_43 : BitVec 32 := 0#32
  ![0, v49.toNat, 0, 0]
def k0_off13 (v52 : BitVec 32) : Fin 3 → Nat :=
  let c0_i32_44 : BitVec 32 := 0#32
  let c0_i32_45 : BitVec 32 := 0#32
  ![v52.toNat, 0, 0]

def k0_chk4 (i : grid0.Coords) (v52 : BitVec 32) : Prop :=
  (∀ (k0_h1 : k0_cond1 i = 1#1), ∀ a, (k0_off13 v52) a + S1x24x128.size a ≤ S8192x24x128.size a)
theorem k0_off13_inb : ∀ (i : grid0.Coords) (v52 : BitVec 32) (k0_hw4 : k0_chk4 i v52), ∀ (k0_h1 : k0_cond1 i = 1#1), ∀ a, (k0_off13 v52) a + S1x24x128.size a ≤ S8192x24x128.size a := fun i v52 k0_hw4 k0_h1 => k0_hw4 k0_h1

def k0_off14 (i : grid0.Coords) : Fin 1 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off15 (i : grid0.Coords) : Fin 4 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_14 : BitVec 32 := 0#32
  let c0_i32_15 : BitVec 32 := 0#32
  let c0_i32_16 : BitVec 32 := 0#32
  ![v11.toNat, 0, 0, 0]
@[reducible] def k0_t5_loop : Scf.Loop 32 :=
  let c0_i32_16 : BitVec 32 := 0#32
  let c128_i32 : BitVec 32 := 128#32
  let v37 : BitVec 32 := Scalar.addi c0_i32_16 c128_i32
  let c1_i32_17 : BitVec 32 := 1#32
  ⟨c0_i32_16, v37, c1_i32_17⟩
def k0_off16 (i : grid0.Coords) (k0_t5 : Fin k0_t5_loop.trips) : Fin 1 → Nat :=
  let arg0 : BitVec 32 := BitVec.ofNat 32 (i 0).val
  let c1_i32_14 : BitVec 32 := 1#32
  let v35 : BitVec 32 := Scalar.addi arg0 c1_i32_14
  let c512_i32 : BitVec 32 := 512#32
  let v40 : BitVec 32 := Scalar.muli v35 c512_i32
  let arg1 : BitVec 32 := BitVec.ofNat 32 (i 1).val
  let c128_i32_19 : BitVec 32 := 128#32
  let v38 : BitVec 32 := Scalar.muli arg1 c128_i32_19
  let c0_i32_16 : BitVec 32 := 0#32
  let c1_i32_17 : BitVec 32 := 1#32
  let arg22 : BitVec 32 := Scf.iv c0_i32_16 c1_i32_17 k0_t5
  let v39 : BitVec 32 := Scalar.addi v38 arg22
  let v41 : BitVec 32 := Scalar.addi v40 v39
  let v42 : Index := Scalar.indexCast v41
  ![v42.toNat]
def k0_cond3 (i : grid0.Coords) (v0 : BitVec 32) : BitVec 1 :=
  let arg0 : BitVec 32 := BitVec.ofNat 32 (i 0).val
  let c1_i32_8 : BitVec 32 := 1#32
  let v21 : BitVec 32 := Scalar.addi arg0 c1_i32_8
  let v22 : BitVec 1 := Scalar.cmpi .slt v21 v0
  let v23 : BitVec 32 := Scalar.extui v22
  let c0_i32_9 : BitVec 32 := 0#32
  let v24 : BitVec 1 := Scalar.cmpi .ne v23 c0_i32_9
  v24

def k0_chk5 (i : grid0.Coords) (v0 : BitVec 32) : Prop :=
  (∀ k0_t5 : Fin k0_t5_loop.trips, ∀ (k0_h3 : k0_cond3 i v0 = 1#1), ∀ a, (k0_off16 i k0_t5) a + S1.size a ≤ S10240.size a)
theorem k0_off16_inb : ∀ (i : grid0.Coords) (v0 : BitVec 32) (k0_hw5 : k0_chk5 i v0) (k0_t5 : Fin k0_t5_loop.trips), ∀ (k0_h3 : k0_cond3 i v0 = 1#1), ∀ a, (k0_off16 i k0_t5) a + S1.size a ≤ S10240.size a := fun i v0 k0_hw5 k0_t5 k0_h3 => k0_hw5 k0_t5 k0_h3

def k0_off17 (i : grid0.Coords) : Fin 1 → Nat :=
  let c1_i32_15 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v36 : BitVec 32 := Scalar.subi c1_i32_15 v11
  ![v36.toNat]
def k0_off18 (i : grid0.Coords) (k0_t5 : Fin k0_t5_loop.trips) : Fin 4 → Nat :=
  let c1_i32_15 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v36 : BitVec 32 := Scalar.subi c1_i32_15 v11
  let arg1 : BitVec 32 := BitVec.ofNat 32 (i 1).val
  let c128_i32_19 : BitVec 32 := 128#32
  let v38 : BitVec 32 := Scalar.muli arg1 c128_i32_19
  let c0_i32_16 : BitVec 32 := 0#32
  let c1_i32_17 : BitVec 32 := 1#32
  let arg22 : BitVec 32 := Scf.iv c0_i32_16 c1_i32_17 k0_t5
  let v39 : BitVec 32 := Scalar.addi v38 arg22
  let c0_i32_20 : BitVec 32 := 0#32
  let c0_i32_21 : BitVec 32 := 0#32
  ![v36.toNat, v39.toNat, 0, 0]
def k0_off19 (v43 : BitVec 32) : Fin 3 → Nat :=
  let c0_i32_22 : BitVec 32 := 0#32
  let c0_i32_23 : BitVec 32 := 0#32
  ![v43.toNat, 0, 0]

def k0_chk6 (i : grid0.Coords) (v0 : BitVec 32) (v43 : BitVec 32) : Prop :=
  (∀ (k0_h3 : k0_cond3 i v0 = 1#1), ∀ a, (k0_off19 v43) a + S1x24x128.size a ≤ S8192x24x128.size a)
theorem k0_off19_inb : ∀ (i : grid0.Coords) (v0 : BitVec 32) (v43 : BitVec 32) (k0_hw6 : k0_chk6 i v0 v43), ∀ (k0_h3 : k0_cond3 i v0 = 1#1), ∀ a, (k0_off19 v43) a + S1x24x128.size a ≤ S8192x24x128.size a := fun i v0 v43 k0_hw6 k0_h3 => k0_hw6 k0_h3

@[reducible] def k0_t6_loop : Scf.Loop 32 :=
  let c0_i32_20 : BitVec 32 := 0#32
  let c16_i32 : BitVec 32 := 16#32
  let v40 : BitVec 32 := Scalar.addi c0_i32_20 c16_i32
  let c1_i32_21 : BitVec 32 := 1#32
  ⟨c0_i32_20, v40, c1_i32_21⟩
def k0_mult1 (k0_t6 : Fin k0_t6_loop.trips) : BitVec 32 :=
  let c0_i32_20 : BitVec 32 := 0#32
  let c1_i32_21 : BitVec 32 := 1#32
  let arg22 : BitVec 32 := Scf.iv c0_i32_20 c1_i32_21 k0_t6
  let c32_i32 : BitVec 32 := 32#32
  let v45 : BitVec 32 := Scalar.muli arg22 c32_i32
  v45
def k0_off20 (i : grid0.Coords) (k0_t6 : Fin k0_t6_loop.trips) : Fin 4 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v47 : Index := Scalar.indexCast v11
  let c0_i32_20 : BitVec 32 := 0#32
  let c1_i32_21 : BitVec 32 := 1#32
  let arg22 : BitVec 32 := Scf.iv c0_i32_20 c1_i32_21 k0_t6
  let c32_i32 : BitVec 32 := 32#32
  let v45 : BitVec 32 := Scalar.muli arg22 c32_i32
  let v46 : BitVec 32 := v45
  let v48 : Index := Scalar.indexCast v46
  let c0_26 : Index := 0#32
  let c0_27 : Index := 0#32
  ![v47.toNat, v48.toNat, 0, 0]
def k0_off21 (k0_t6 : Fin k0_t6_loop.trips) : Fin 2 → Nat :=
  let c0_i32_20 : BitVec 32 := 0#32
  let c1_i32_21 : BitVec 32 := 1#32
  let arg22 : BitVec 32 := Scf.iv c0_i32_20 c1_i32_21 k0_t6
  let c32_i32 : BitVec 32 := 32#32
  let v45 : BitVec 32 := Scalar.muli arg22 c32_i32
  let v46 : BitVec 32 := v45
  let v69 : Index := Scalar.indexCast v46
  let c0_31 : Index := 0#32
  ![v69.toNat, 0]
def k0_off22 (i : grid0.Coords) : Fin 4 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v61 : Index := Scalar.indexCast v11
  let c0_32 : Index := 0#32
  let c16 : Index := 16#32
  let c0_33 : Index := 0#32
  ![v61.toNat, 0, 16, 0]
def k0_off23 (i : grid0.Coords) : Fin 3 → Nat :=
  let arg1 : BitVec 32 := BitVec.ofNat 32 (i 1).val
  let c1_i32_39 : BitVec 32 := 1#32
  let c0_i32_40 : BitVec 32 := 0#32
  let v84 : BitVec 1 := Scalar.cmpi .eq c1_i32_39 c0_i32_40
  let c1_i32_41 : BitVec 32 := 1#32
  let v85 : BitVec 32 := Scalar.select v84 c1_i32_41 c1_i32_39
  let v86 : BitVec 32 := Scalar.remsi arg1 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let v95 : Index := Scalar.indexCast v93
  let c0_45 : Index := 0#32
  let c0_46 : Index := 0#32
  ![v95.toNat, 0, 0]
def k0_off24 (i : grid0.Coords) : Fin 4 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v42 : Index := Scalar.indexCast v11
  let c0_20 : Index := 0#32
  let c0_21 : Index := 0#32
  let c0_22 : Index := 0#32
  ![v42.toNat, 0, 0, 0]
@[reducible] def k0_t7_loop : Scf.Loop 32 :=
  let c0_i32_26 : BitVec 32 := 0#32
  let c512_i32 : BitVec 32 := 512#32
  let v50 : BitVec 32 := Scalar.addi c0_i32_26 c512_i32
  let c1_i32_27 : BitVec 32 := 1#32
  ⟨c0_i32_26, v50, c1_i32_27⟩
def k0_off25 (i : grid0.Coords) : Fin 1 → Nat :=
  let arg0 : BitVec 32 := BitVec.ofNat 32 (i 0).val
  let v55 : Index := Scalar.indexCast arg0
  ![v55.toNat]
def k0_off26 (i : grid0.Coords) (k0_t7 : Fin k0_t7_loop.trips) : Fin 1 → Nat :=
  let arg0 : BitVec 32 := BitVec.ofNat 32 (i 0).val
  let c512_i32_31 : BitVec 32 := 512#32
  let v58 : BitVec 32 := Scalar.muli arg0 c512_i32_31
  let c0_i32_26 : BitVec 32 := 0#32
  let c1_i32_27 : BitVec 32 := 1#32
  let arg22 : BitVec 32 := Scf.iv c0_i32_26 c1_i32_27 k0_t7
  let v59 : BitVec 32 := Scalar.addi v58 arg22
  let v60 : Index := Scalar.indexCast v59
  ![v60.toNat]
def k0_off27 (k0_t7 : Fin k0_t7_loop.trips) (v56 : BitVec 32) (v61 : BitVec 32) : Fin 3 → Nat :=
  let c0_i32_26 : BitVec 32 := 0#32
  let c1_i32_27 : BitVec 32 := 1#32
  let arg22 : BitVec 32 := Scf.iv c0_i32_26 c1_i32_27 k0_t7
  let v57 : BitVec 1 := Scalar.cmpi .slt arg22 v56
  let c8192_i32 : BitVec 32 := 8192#32
  let v62 : BitVec 32 := Scalar.addi c8192_i32 arg22
  let v63 : BitVec 32 := Scalar.select v57 v61 v62
  let c0_i32_33 : BitVec 32 := 0#32
  let c0_i32_34 : BitVec 32 := 0#32
  ![v63.toNat, 0, 0]
def k0_cond7 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c3_i32 : BitVec 32 := 3#32
  let v31 : BitVec 1 := Scalar.cmpi .eq arg1 c3_i32
  let v32 : BitVec 1 := Scalar.andi v1 v31
  let v33 : BitVec 32 := Scalar.extui v32
  let c0_i32_13 : BitVec 32 := 0#32
  let v34 : BitVec 1 := Scalar.cmpi .ne v33 c0_i32_13
  v34

def k0_chk7 (i : grid0.Coords) (v0 : BitVec 32) (k0_t7 : Fin k0_t7_loop.trips) (v56 : BitVec 32) (v61 : BitVec 32) : Prop :=
  (∀ (k0_h7 : k0_cond7 i v0 = 1#1), ∀ a, (k0_off27 k0_t7 v56 v61) a + S1x16x128.size a ≤ S8704x16x128.size a)
theorem k0_off27_inb : ∀ (i : grid0.Coords) (v0 : BitVec 32) (k0_t7 : Fin k0_t7_loop.trips) (v56 : BitVec 32) (v61 : BitVec 32) (k0_hw7 : k0_chk7 i v0 k0_t7 v56 v61), ∀ (k0_h7 : k0_cond7 i v0 = 1#1), ∀ a, (k0_off27 k0_t7 v56 v61) a + S1x16x128.size a ≤ S8704x16x128.size a := fun i v0 k0_t7 v56 v61 k0_hw7 k0_h7 => k0_hw7 k0_h7

def k0_off28 (k0_t7 : Fin k0_t7_loop.trips) : Fin 3 → Nat :=
  let c0_i32_26 : BitVec 32 := 0#32
  let c1_i32_27 : BitVec 32 := 1#32
  let arg22 : BitVec 32 := Scf.iv c0_i32_26 c1_i32_27 k0_t7
  let c0_i32_35 : BitVec 32 := 0#32
  let c0_i32_36 : BitVec 32 := 0#32
  ![arg22.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (inb_S1_S1_0 : ∀ a, (![0] : Fin 1 → Nat) a + S1.size a ≤ S1.size a) (numel1_S1 : S1.numel = 1) (k0_off1_inb : ∀ i : grid0.Coords, ∀ a, (k0_off1 i) a + S1.size a ≤ S20.size a) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 1 := Scalar.cmpi .sle arg0 v1
  let v3 : Index := Scalar.indexCast arg0
  let v4 : BitVec 32 := pf.at 0 (Rect.unit (s := S20) ![v3.toNat] S1.size (k0_off1_inb i)) numel1_S1
  let c4_i32 : BitVec 32 := 4#32
  let v5 : BitVec 32 := Scalar.muli c4_i32 v4
  let c1_i32_0 : BitVec 32 := 1#32
  let v6 : BitVec 32 := Scalar.divsi arg1 c1_i32_0
  let c0_i32 : BitVec 32 := 0#32
  let v7 : BitVec 1 := Scalar.cmpi .sgt arg1 c0_i32
  let v8 : BitVec 32 := Scalar.extui v7
  let c0_i32_1 : BitVec 32 := 0#32
  let v9 : BitVec 1 := Scalar.cmpi .slt arg1 c0_i32_1
  let v10 : BitVec 32 := Scalar.extui v9
  let v11 : BitVec 32 := Scalar.subi v8 v10
  let c0_i32_2 : BitVec 32 := 0#32
  let v12 : BitVec 1 := Scalar.cmpi .sgt c1_i32_0 c0_i32_2
  let v13 : BitVec 32 := Scalar.extui v12
  let c0_i32_3 : BitVec 32 := 0#32
  let v14 : BitVec 1 := Scalar.cmpi .slt c1_i32_0 c0_i32_3
  let v15 : BitVec 32 := Scalar.extui v14
  let v16 : BitVec 32 := Scalar.subi v13 v15
  let v17 : BitVec 1 := Scalar.cmpi .ne v11 v16
  let v18 : BitVec 32 := Scalar.remsi arg1 c1_i32_0
  let c0_i32_4 : BitVec 32 := 0#32
  let v19 : BitVec 1 := Scalar.cmpi .ne v18 c0_i32_4
  let v20 : BitVec 1 := Scalar.andi v17 v19
  let c1_i32_5 : BitVec 32 := 1#32
  let v21 : BitVec 32 := Scalar.subi v6 c1_i32_5
  let v22 : BitVec 32 := Scalar.select v20 v21 v6
  let c3_i32 : BitVec 32 := 3#32
  let v23 : BitVec 32 := Scalar.select v2 v22 c3_i32
  let v24 : BitVec 32 := Scalar.addi v5 v23
  let c1_i32_6 : BitVec 32 := 1#32
  let c0_i32_7 : BitVec 32 := 0#32
  let v25 : BitVec 1 := Scalar.cmpi .eq c1_i32_6 c0_i32_7
  let c1_i32_8 : BitVec 32 := 1#32
  let v26 : BitVec 32 := Scalar.select v25 c1_i32_8 c1_i32_6
  let v27 : BitVec 32 := Scalar.remsi arg1 v26
  let c0_i32_9 : BitVec 32 := 0#32
  let v28 : BitVec 1 := Scalar.cmpi .ne v27 c0_i32_9
  let c0_i32_10 : BitVec 32 := 0#32
  let v29 : BitVec 1 := Scalar.cmpi .slt v27 c0_i32_10
  let c0_i32_11 : BitVec 32 := 0#32
  let v30 : BitVec 1 := Scalar.cmpi .slt v26 c0_i32_11
  let v31 : BitVec 1 := Scalar.xori v29 v30
  let v32 : BitVec 1 := Scalar.andi v31 v28
  let v33 : BitVec 32 := Scalar.addi v27 v26
  let v34 : BitVec 32 := Scalar.select v32 v33 v27
  let c0_i32_12 : BitVec 32 := 0#32
  let v35 : BitVec 32 := Scalar.select v2 v34 c0_i32_12
  let c0_i32_13 : BitVec 32 := 0#32
  let c0_i32_14 : BitVec 32 := 0#32
  let c0_i32_15 : BitVec 32 := 0#32
  ![c0_i32_13.toNat, v24.toNat, c0_i32_14.toNat, v35.toNat]

def cc0_transform_6 (inb_S1_S1_0 : ∀ a, (![0] : Fin 1 → Nat) a + S1.size a ≤ S1.size a) (numel1_S1 : S1.numel = 1) (k0_off1_inb : ∀ i : grid0.Coords, ∀ a, (k0_off1 i) a + S1.size a ≤ S20.size a) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 1 := Scalar.cmpi .sle arg0 v1
  let v3 : Index := Scalar.indexCast arg0
  let v4 : BitVec 32 := pf.at 0 (Rect.unit (s := S20) ![v3.toNat] S1.size (k0_off1_inb i)) numel1_S1
  let c4_i32 : BitVec 32 := 4#32
  let v5 : BitVec 32 := Scalar.muli c4_i32 v4
  let c1_i32_0 : BitVec 32 := 1#32
  let v6 : BitVec 32 := Scalar.divsi arg1 c1_i32_0
  let c0_i32 : BitVec 32 := 0#32
  let v7 : BitVec 1 := Scalar.cmpi .sgt arg1 c0_i32
  let v8 : BitVec 32 := Scalar.extui v7
  let c0_i32_1 : BitVec 32 := 0#32
  let v9 : BitVec 1 := Scalar.cmpi .slt arg1 c0_i32_1
  let v10 : BitVec 32 := Scalar.extui v9
  let v11 : BitVec 32 := Scalar.subi v8 v10
  let c0_i32_2 : BitVec 32 := 0#32
  let v12 : BitVec 1 := Scalar.cmpi .sgt c1_i32_0 c0_i32_2
  let v13 : BitVec 32 := Scalar.extui v12
  let c0_i32_3 : BitVec 32 := 0#32
  let v14 : BitVec 1 := Scalar.cmpi .slt c1_i32_0 c0_i32_3
  let v15 : BitVec 32 := Scalar.extui v14
  let v16 : BitVec 32 := Scalar.subi v13 v15
  let v17 : BitVec 1 := Scalar.cmpi .ne v11 v16
  let v18 : BitVec 32 := Scalar.remsi arg1 c1_i32_0
  let c0_i32_4 : BitVec 32 := 0#32
  let v19 : BitVec 1 := Scalar.cmpi .ne v18 c0_i32_4
  let v20 : BitVec 1 := Scalar.andi v17 v19
  let c1_i32_5 : BitVec 32 := 1#32
  let v21 : BitVec 32 := Scalar.subi v6 c1_i32_5
  let v22 : BitVec 32 := Scalar.select v20 v21 v6
  let c3_i32 : BitVec 32 := 3#32
  let v23 : BitVec 32 := Scalar.select v2 v22 c3_i32
  let v24 : BitVec 32 := Scalar.addi v5 v23
  let c1_i32_6 : BitVec 32 := 1#32
  let c0_i32_7 : BitVec 32 := 0#32
  let v25 : BitVec 1 := Scalar.cmpi .eq c1_i32_6 c0_i32_7
  let c1_i32_8 : BitVec 32 := 1#32
  let v26 : BitVec 32 := Scalar.select v25 c1_i32_8 c1_i32_6
  let v27 : BitVec 32 := Scalar.remsi arg1 v26
  let c0_i32_9 : BitVec 32 := 0#32
  let v28 : BitVec 1 := Scalar.cmpi .ne v27 c0_i32_9
  let c0_i32_10 : BitVec 32 := 0#32
  let v29 : BitVec 1 := Scalar.cmpi .slt v27 c0_i32_10
  let c0_i32_11 : BitVec 32 := 0#32
  let v30 : BitVec 1 := Scalar.cmpi .slt v26 c0_i32_11
  let v31 : BitVec 1 := Scalar.xori v29 v30
  let v32 : BitVec 1 := Scalar.andi v31 v28
  let v33 : BitVec 32 := Scalar.addi v27 v26
  let v34 : BitVec 32 := Scalar.select v32 v33 v27
  let c0_i32_12 : BitVec 32 := 0#32
  let v35 : BitVec 32 := Scalar.select v2 v34 c0_i32_12
  let c0_i32_13 : BitVec 32 := 0#32
  let c0_i32_14 : BitVec 32 := 0#32
  let c0_i32_15 : BitVec 32 := 0#32
  ![c0_i32_13.toNat, v24.toNat, c0_i32_14.toNat, v35.toNat]

def cc0_transform_7 (inb_S1_S1_0 : ∀ a, (![0] : Fin 1 → Nat) a + S1.size a ≤ S1.size a) (numel1_S1 : S1.numel = 1) (k0_off1_inb : ∀ i : grid0.Coords, ∀ a, (k0_off1 i) a + S1.size a ≤ S20.size a) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 1 := Scalar.cmpi .sle arg0 v1
  let v3 : Index := Scalar.indexCast arg0
  let v4 : BitVec 32 := pf.at 0 (Rect.unit (s := S20) ![v3.toNat] S1.size (k0_off1_inb i)) numel1_S1
  let c4_i32 : BitVec 32 := 4#32
  let v5 : BitVec 32 := Scalar.muli c4_i32 v4
  let c1_i32_0 : BitVec 32 := 1#32
  let v6 : BitVec 32 := Scalar.divsi arg1 c1_i32_0
  let c0_i32 : BitVec 32 := 0#32
  let v7 : BitVec 1 := Scalar.cmpi .sgt arg1 c0_i32
  let v8 : BitVec 32 := Scalar.extui v7
  let c0_i32_1 : BitVec 32 := 0#32
  let v9 : BitVec 1 := Scalar.cmpi .slt arg1 c0_i32_1
  let v10 : BitVec 32 := Scalar.extui v9
  let v11 : BitVec 32 := Scalar.subi v8 v10
  let c0_i32_2 : BitVec 32 := 0#32
  let v12 : BitVec 1 := Scalar.cmpi .sgt c1_i32_0 c0_i32_2
  let v13 : BitVec 32 := Scalar.extui v12
  let c0_i32_3 : BitVec 32 := 0#32
  let v14 : BitVec 1 := Scalar.cmpi .slt c1_i32_0 c0_i32_3
  let v15 : BitVec 32 := Scalar.extui v14
  let v16 : BitVec 32 := Scalar.subi v13 v15
  let v17 : BitVec 1 := Scalar.cmpi .ne v11 v16
  let v18 : BitVec 32 := Scalar.remsi arg1 c1_i32_0
  let c0_i32_4 : BitVec 32 := 0#32
  let v19 : BitVec 1 := Scalar.cmpi .ne v18 c0_i32_4
  let v20 : BitVec 1 := Scalar.andi v17 v19
  let c1_i32_5 : BitVec 32 := 1#32
  let v21 : BitVec 32 := Scalar.subi v6 c1_i32_5
  let v22 : BitVec 32 := Scalar.select v20 v21 v6
  let c3_i32 : BitVec 32 := 3#32
  let v23 : BitVec 32 := Scalar.select v2 v22 c3_i32
  let v24 : BitVec 32 := Scalar.addi v5 v23
  let c1_i32_6 : BitVec 32 := 1#32
  let c0_i32_7 : BitVec 32 := 0#32
  let v25 : BitVec 1 := Scalar.cmpi .eq c1_i32_6 c0_i32_7
  let c1_i32_8 : BitVec 32 := 1#32
  let v26 : BitVec 32 := Scalar.select v25 c1_i32_8 c1_i32_6
  let v27 : BitVec 32 := Scalar.remsi arg1 v26
  let c0_i32_9 : BitVec 32 := 0#32
  let v28 : BitVec 1 := Scalar.cmpi .ne v27 c0_i32_9
  let c0_i32_10 : BitVec 32 := 0#32
  let v29 : BitVec 1 := Scalar.cmpi .slt v27 c0_i32_10
  let c0_i32_11 : BitVec 32 := 0#32
  let v30 : BitVec 1 := Scalar.cmpi .slt v26 c0_i32_11
  let v31 : BitVec 1 := Scalar.xori v29 v30
  let v32 : BitVec 1 := Scalar.andi v31 v28
  let v33 : BitVec 32 := Scalar.addi v27 v26
  let v34 : BitVec 32 := Scalar.select v32 v33 v27
  let c0_i32_12 : BitVec 32 := 0#32
  let v35 : BitVec 32 := Scalar.select v2 v34 c0_i32_12
  let c0_i32_13 : BitVec 32 := 0#32
  let c0_i32_14 : BitVec 32 := 0#32
  let c0_i32_15 : BitVec 32 := 0#32
  let c0_i32_16 : BitVec 32 := 0#32
  ![c0_i32_13.toNat, v24.toNat, c0_i32_14.toNat, c0_i32_15.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S20 : Shape := ⟨1, ![20]⟩
abbrev S1 : Shape := ⟨1, ![1]⟩
abbrev S10240 : Shape := ⟨1, ![10240]⟩
abbrev S8192x24x128 : Shape := ⟨3, ![8192, 24, 128]⟩
abbrev S1x2048 : Shape := ⟨2, ![1, 2048]⟩
abbrev S4x16x2048x512 : Shape := ⟨4, ![4, 16, 2048, 512]⟩
abbrev S4x16x512x2048 : Shape := ⟨4, ![4, 16, 512, 2048]⟩
abbrev S8192 : Shape := ⟨1, ![8192]⟩
abbrev S8192x16x128 : Shape := ⟨3, ![8192, 16, 128]⟩
abbrev S8192x2048 : Shape := ⟨2, ![8192, 2048]⟩
abbrev S8192x1x4 : Shape := ⟨3, ![8192, 1, 4]⟩
abbrev S8192x4 : Shape := ⟨2, ![8192, 4]⟩
abbrev S8192x1 : Shape := ⟨2, ![8192, 1]⟩
abbrev S_ : Shape := ⟨0, ![]⟩
abbrev S4 : Shape := ⟨1, ![4]⟩
abbrev S1x4 : Shape := ⟨2, ![1, 4]⟩
abbrev S8192x4x1 : Shape := ⟨3, ![8192, 4, 1]⟩
abbrev S1x1x16 : Shape := ⟨3, ![1, 1, 16]⟩
abbrev S8192x4x16 : Shape := ⟨3, ![8192, 4, 16]⟩
abbrev S8192x16 : Shape := ⟨2, ![8192, 16]⟩
abbrev S1x16x2048x512 : Shape := ⟨4, ![1, 16, 2048, 512]⟩
abbrev S16x2048x512 : Shape := ⟨3, ![16, 2048, 512]⟩
abbrev S8192x16x512 : Shape := ⟨3, ![8192, 16, 512]⟩
abbrev S8192x16x1 : Shape := ⟨3, ![8192, 16, 1]⟩
abbrev S1x16x512x2048 : Shape := ⟨4, ![1, 16, 512, 2048]⟩
abbrev S16x512x2048 : Shape := ⟨3, ![16, 512, 2048]⟩
abbrev S512x16x128 : Shape := ⟨3, ![512, 16, 128]⟩
abbrev S8704x16x128 : Shape := ⟨3, ![8704, 16, 128]⟩

abbrev nBuf : Space → Nat
  | .hbm => 85
  | .vmem => 0
  | .smem => 0
  | _ => 0

abbrev bufTy : (tb : Table) → Fin (tcTables nBuf tb) → BufTy
  | .hbm, ⟨0, _⟩ => ⟨S20, .i32⟩
  | .hbm, ⟨1, _⟩ => ⟨S1, .i32⟩
  | .hbm, ⟨2, _⟩ => ⟨S20, .i32⟩
  | .hbm, ⟨3, _⟩ => ⟨S10240, .i32⟩
  | .hbm, ⟨4, _⟩ => ⟨S8192x24x128, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S4x16x2048x512, .f32⟩
  | .hbm, ⟨10, _⟩ => ⟨S4x16x2048x512, .f32⟩
  | .hbm, ⟨11, _⟩ => ⟨S4x16x512x2048, .f32⟩
  | .hbm, ⟨12, _⟩ => ⟨S8192, .i32⟩
  | .hbm, ⟨13, _⟩ => ⟨S8192, .i32⟩
  | .hbm, ⟨14, _⟩ => ⟨S8192x16x128, .f32⟩
  | .hbm, ⟨15, _⟩ => ⟨S8192x2048, .f32⟩
  | .hbm, ⟨16, _⟩ => ⟨S8192x1x4, .f32⟩
  | .hbm, ⟨17, _⟩ => ⟨S8192x4, .f32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i32⟩
  | .hbm, ⟨22, _⟩ => ⟨S4, .i32⟩
  | .hbm, ⟨23, _⟩ => ⟨S1x4, .i32⟩
  | .hbm, ⟨24, _⟩ => ⟨S8192x4, .i32⟩
  | .hbm, ⟨25, _⟩ => ⟨S8192x4, .i32⟩
  | .hbm, ⟨26, _⟩ => ⟨S8192x4, .i32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x4x1, .i32⟩
  | .hbm, ⟨50, _⟩ => ⟨S1x1x16, .i32⟩
  | .hbm, ⟨51, _⟩ => ⟨S8192x4x16, .i32⟩
  | .hbm, ⟨52, _⟩ => ⟨S8192x4x16, .i32⟩
  | .hbm, ⟨53, _⟩ => ⟨S8192x4x16, .i1⟩
  | .hbm, ⟨54, _⟩ => ⟨S8192x4x16, .f32⟩
  | .hbm, ⟨55, _⟩ => ⟨S8192x16, .f32⟩
  | .hbm, ⟨56, _⟩ => ⟨S1x16x2048x512, .f32⟩
  | .hbm, ⟨57, _⟩ => ⟨S16x2048x512, .f32⟩
  | .hbm, ⟨58, _⟩ => ⟨S8192x16x512, .f32⟩
  | .hbm, ⟨59, _⟩ => ⟨S1x16x2048x512, .f32⟩
  | .hbm, ⟨60, _⟩ => ⟨S16x2048x512, .f32⟩
  | .hbm, ⟨61, _⟩ => ⟨S8192x16x512, .f32⟩
  | .hbm, ⟨62, _⟩ => ⟨S8192x16x512, .f32⟩
  | .hbm, ⟨63, _⟩ => ⟨S8192x16x512, .f32⟩
  | .hbm, ⟨64, _⟩ => ⟨S_, .f32⟩
  | .hbm, ⟨65, _⟩ => ⟨S8192x16x512, .f32⟩
  | .hbm, ⟨66, _⟩ => ⟨S8192x16x512, .f32⟩
  | .hbm, ⟨67, _⟩ => ⟨S_, .f32⟩
  | .hbm, ⟨68, _⟩ => ⟨S8192x16x512, .f32⟩
  | .hbm, ⟨69, _⟩ => ⟨S8192x16x512, .f32⟩
  | .hbm, ⟨70, _⟩ => ⟨S8192x16x512, .f32⟩
  | .hbm, ⟨71, _⟩ => ⟨S8192x16x512, .f32⟩
  | .hbm, ⟨72, _⟩ => ⟨S8192x16x1, .f32⟩
  | .hbm, ⟨73, _⟩ => ⟨S8192x16x512, .f32⟩
  | .hbm, ⟨74, _⟩ => ⟨S8192x16x512, .f32⟩
  | .hbm, ⟨75, _⟩ => ⟨S1x16x512x2048, .f32⟩
  | .hbm, ⟨76, _⟩ => ⟨S16x512x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x16x128, .f32⟩
  | .hbm, ⟨82, _⟩ => ⟨S_, .f32⟩
  | .hbm, ⟨83, _⟩ => ⟨S512x16x128, .f32⟩
  | .hbm, ⟨84, _⟩ => ⟨S8704x16x128, .f32⟩
  | _, _ => ⟨S20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_3 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .bf16⟩
  | .hbm, ⟨6, _⟩ => ⟨S1x2048, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S8704x16x128 : Shape := ⟨3, ![8704, 16, 128]⟩
abbrev S2048 : Shape := ⟨1, ![2048]⟩
abbrev S1x2048 : Shape := ⟨2, ![1, 2048]⟩
abbrev S8192x2048 : Shape := ⟨2, ![8192, 2048]⟩
abbrev S512x16x128 : Shape := ⟨3, ![512, 16, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x16x128, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x16x128, .f32⟩
  | .local _ .vmem, ⟨1, _⟩ => ⟨S512x16x128, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8704x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8704x16x128 : Shape := ⟨3, ![8704, 16, 128]⟩
abbrev S2048 : Shape := ⟨1, ![2048]⟩
abbrev S8192x16x128 : Shape := ⟨3, ![8192, 16, 128]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8704x16x128, .f32⟩
  | .hbm, ⟨1, _⟩ => ⟨S2048, .f32⟩
  | .hbm, ⟨2, _⟩ => ⟨S8192x16x128, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | _, _ => ⟨S8704x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S1x2048 : Shape := ⟨2, ![1, 2048]⟩
abbrev S2048x4096 : Shape := ⟨2, ![2048, 4096]⟩
abbrev S4096 : Shape := ⟨1, ![4096]⟩
abbrev S1x4096 : Shape := ⟨2, ![1, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S32x2048 : Shape := ⟨2, ![32, 2048]⟩
abbrev S32 : Shape := ⟨1, ![32]⟩
abbrev S32x1 : Shape := ⟨2, ![32, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x4096, .f32⟩
  | .hbm, ⟨5, _⟩ => ⟨S4096, .f32⟩
  | .hbm, ⟨6, _⟩ => ⟨S1x2048, .f32⟩
  | .hbm, ⟨7, _⟩ => ⟨S1x4096, .f32⟩
  | .hbm, ⟨8, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c32_i32 : BitVec 32 := 32#32
  let v27 : BitVec 32 := Scalar.addi c0_i32_20 c32_i32
  let c1_i32 : BitVec 32 := 1#32
  ⟨c0_i32_20, v27, c1_i32⟩
def k0_mult1 (k0_t1 : Fin k0_t1_loop.trips) : BitVec 32 :=
  let c0_i32_20 : BitVec 32 := 0#32
  let c1_i32 : BitVec 32 := 1#32
  let arg12 : BitVec 32 := Scf.iv c0_i32_20 c1_i32 k0_t1
  let c32_i32_22 : BitVec 32 := 32#32
  let v28 : BitVec 32 := Scalar.muli arg12 c32_i32_22
  v28
def k0_off1 (k0_t1 : Fin k0_t1_loop.trips) : Fin 2 → Nat :=
  let c0_i32_20 : BitVec 32 := 0#32
  let c1_i32 : BitVec 32 := 1#32
  let arg12 : BitVec 32 := Scf.iv c0_i32_20 c1_i32 k0_t1
  let c32_i32_22 : BitVec 32 := 32#32
  let v28 : BitVec 32 := Scalar.muli arg12 c32_i32_22
  let v29 : BitVec 32 := v28
  let v30 : Index := Scalar.indexCast v29
  let c0_23 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8192x2048 : Shape := ⟨2, ![8192, 2048]⟩
abbrev S2048 : Shape := ⟨1, ![2048]⟩
abbrev S1x2048 : Shape := ⟨2, ![1, 2048]⟩
abbrev S2048x4096 : Shape := ⟨2, ![2048, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x4096, .f32⟩
  | .hbm, ⟨5, _⟩ => ⟨S4096, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.HostValue.lean ====
/- What the host operations put in front of the attention: the queries with the scale and the base-two logarithm's
   factor, the keys with the shared rotary part, the values with columns of ones, each head-major. -/
module

public import proofs.«01_k».proof.Proof.Gen.KernelIdeal.Value
public import Idealize.ShloMosaic.Lib.StableHlo.RunRead
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo

/-- The packed queries. -/
def packQ (a0 : Vec Ideal S8192x16x128 .f32) (a1 : Vec Ideal S8192x16x64 .f32) : Vec Ideal S16x8192x256 .bf16 :=
  truncf (s := S16x8192x256) .bf16 (transpose S16x8192x256 [1, 0, 2] (Host.divf (mulf (concatenate S8192x16x256 2 [⟨S8192x16x128, a0⟩, ⟨S8192x16x64, a1⟩,
    ⟨S8192x16x64, broadcastInDim S8192x16x64 ![] bcast_S_S8192x16x64 (constant (F := Ideal) S_ .f32 0x00000000#32)⟩]
    concatenates_S8192x16x128_S8192x16x64_S8192x16x64_S8192x16x256_d2)
    (broadcastInDim S8192x16x256 ![] bcast_S_S8192x16x256 (constant S_ .f32 0x3D93CD3A#32)))
    (broadcastInDim S8192x16x256 ![] bcast_S_S8192x16x256 (Host.log (constant (F := Ideal) S_ .f32 0x40000000#32))))
    transposes_S8192x16x256_S16x8192x256_1_0_2) bitsLt_bf16_f32

/-- An entry of the packed queries. -/
theorem packQ_apply (a0 : Vec Ideal S8192x16x128 .f32) (a1 : Vec Ideal S8192x16x64 .f32) (h : Fin 16) (i : Fin 8192) (e : Fin 256) :
    packQ a0 a1 (ix3 h i e)
      = Ideal.div ((if h1 : e.val < 128 then a0 (ix3 i h ⟨e.val, h1⟩) else if h2 : e.val - 128 < 64 then a1 (ix3 i h ⟨e.val - 128, h2⟩) else 0)
        * Ideal.ofBits .f32 0x3D93CD3A#32) (Ideal.log (Ideal.ofBits .f32 0x40000000#32)) := by
  pointwise [packQ]

/-- The packed keys. -/
def packK (a2 : Vec Ideal S8192x16x128 .f32) (a3 : Vec Ideal S8192x64 .f32) : Vec Ideal S16x8192x256 .bf16 :=
  truncf (s := S16x8192x256) .bf16 (transpose S16x8192x256 [1, 0, 2] (concatenate S8192x16x256 2 [⟨S8192x16x128, a2⟩,
    ⟨S8192x16x64, broadcastInDim S8192x16x64 ![0, 1, 2] bcast_S8192x1x64_S8192x16x64_0_1_2
      (broadcastInDim S8192x1x64 ![0, 2] bcast_S8192x64_S8192x1x64_0_2 a3)⟩,
    ⟨S8192x16x64, broadcastInDim S8192x16x64 ![] bcast_S_S8192x16x64 (constant (F := Ideal) S_ .f32 0x00000000#32)⟩]
    concatenates_S8192x16x128_S8192x16x64_S8192x16x64_S8192x16x256_d2)
    transposes_S8192x16x256_S16x8192x256_1_0_2) bitsLt_bf16_f32

/-- An entry of the packed keys. -/
theorem packK_apply (a2 : Vec Ideal S8192x16x128 .f32) (a3 : Vec Ideal S8192x64 .f32) (h : Fin 16) (i : Fin 8192) (e : Fin 256) :
    packK a2 a3 (ix3 h i e)
      = if h1 : e.val < 128 then a2 (ix3 i h ⟨e.val, h1⟩) else if h2 : e.val - 128 < 64 then a3 (ix2 i ⟨e.val - 128, h2⟩) else 0 := by
  pointwise [packK]

/-- The packed values. -/
def packV (a4 : Vec Ideal S8192x16x128 .f32) : Vec Ideal S16x8192x256 .bf16 :=
  truncf (s := S16x8192x256) .bf16 (transpose S16x8192x256 [1, 0, 2] (concatenate S8192x16x256 2 [⟨S8192x16x128, a4⟩,
    ⟨S8192x16x128, broadcastInDim S8192x16x128 ![] bcast_S_S8192x16x128 (constant (F := Ideal) S_ .f32 0x3F800000#32)⟩]
    concatenates_S8192x16x128_S8192x16x128_S8192x16x256_d2)
    transposes_S8192x16x256_S16x8192x256_1_0_2) bitsLt_bf16_f32

/-- An entry of the packed values. -/
theorem packV_apply (a4 : Vec Ideal S8192x16x128 .f32) (h : Fin 16) (i : Fin 8192) (e : Fin 256) :
    packV a4 (ix3 h i e)
      = if h1 : e.val < 128 then a4 (ix3 i h ⟨e.val, h1⟩) else 1 := by
  pointwise [packV]

variable (m : (ℓ : Loc nD τ sig) → Buf (Elt Ideal) ℓ)

/-- What the attention's query window reads. -/
theorem V_queries (c : Dev nD) :
    V m c main_v13 = packQ (m ((c : Thread nD τ).loc main_arg0)) (m ((c : Thread nD τ).loc main_arg1)) := by
  unfold V hostOps0
  after_reads_simp
  rfl

/-- What the attention's key window reads. -/
theorem V_keys (c : Dev nD) :
    V m c main_v15 = packK (m ((c : Thread nD τ).loc main_arg2)) (m ((c : Thread nD τ).loc main_arg3)) := by
  unfold V hostOps0
  after_reads_simp
  rfl

/-- What the attention's value window reads. -/
theorem V_values (c : Dev nD) : V m c main_v17 = packV (m ((c : Thread nD τ).loc main_arg4)) := by
  unfold V hostOps0
  after_reads_simp
  rfl

end Cert.KernelIdeal.Attn

end
-- ==== Proof.RowMath.lean ====
/- One row of attention over the extended reals: the running maximum, the weights taken against it, the rescaling of a
   partial sum when the maximum moves, and the quotient at the end. -/
module

public import Idealize.ShloMosaic.PureOps.Ideal

@[expose] public section

noncomputable section

namespace Cert.Row

open Idealize.ShloMosaic

/-- A sum of extended reals times a real number that is not negative is the sum of the products. -/
theorem sum_mul_coe {ι : Type*} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih,
      EReal.right_distrib_of_nonneg_of_ne_top (by exact_mod_cast ha) (EReal.coe_ne_top a)]

/-- A finite sum of real numbers is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The largest of the first `n` scores, and `⊥` where there is none. -/
def runMax (s : ℕ → ℝ) (n : ℕ) : EReal := (Finset.range n).sup fun i => (s i : EReal)

/-- The sum over the first `n` keys of the weight against the running maximum times the value. -/
def runAcc (s : ℕ → ℝ) (v : ℕ → EReal) (n : ℕ) : EReal :=
  ∑ i ∈ Finset.range n, Ideal.exp2 ((s i : EReal) - runMax s n) * v i

theorem runMax_zero (s : ℕ → ℝ) : runMax s 0 = ⊥ := by simp [runMax]

theorem runAcc_zero (s : ℕ → ℝ) (v : ℕ → EReal) : runAcc s v 0 = 0 := by simp [runAcc]

/-- The largest of at least one score is a real number. -/
theorem runMax_real (s : ℕ → ℝ) (n : ℕ) (hn : 0 < n) : ∃ m : ℝ, runMax s n = (m : EReal) := by
  obtain ⟨i, -, hi⟩ := Finset.exists_mem_eq_sup (Finset.range n) ⟨0, Finset.mem_range.2 hn⟩ fun i => (s i : EReal)
  exact ⟨s i, hi⟩

/-- The running maximum over `n + w` scores is the larger of the one over `n` and the largest of the next `w`. -/
theorem runMax_add (s : ℕ → ℝ) (n w : ℕ) :
    runMax s (n + w) = max (runMax s n) (Finset.univ.fold max ⊥ fun j : Fin w => (s (n + j.val) : EReal)) := by
  have h : (Finset.univ.fold max ⊥ fun j : Fin w => (s (n + j.val) : EReal))
      = (Finset.univ : Finset (Fin w)).sup fun j => (s (n + j.val) : EReal) := rfl
  rw [h]
  apply le_antisymm
  · refine Finset.sup_le fun i hi => ?_
    have hi' := Finset.mem_range.1 hi
    by_cases hin : i < n
    · exact le_max_of_le_left (Finset.le_sup (f := fun i => (s i : EReal)) (Finset.mem_range.2 hin))
    · refine le_max_of_le_right ?_
      have := Finset.le_sup (f := fun j : Fin w => (s (n + j.val) : EReal)) (Finset.mem_univ ⟨i - n, by omega⟩)
      simpa [Nat.add_sub_cancel' (Nat.le_of_not_lt hin)] using this
  · refine max_le ?_ ?_
    · refine Finset.sup_le fun i hi => ?_
      exact Finset.le_sup (f := fun i => (s i : EReal)) (Finset.mem_range.2 (by have := Finset.mem_range.1 hi; omega))
    · refine Finset.sup_le fun j _ => ?_
      exact Finset.le_sup (f := fun i => (s i : EReal)) (Finset.mem_range.2 (by have := j.isLt; omega))

theorem exp2_sub (x m : ℝ) : Ideal.exp2 ((x : EReal) - (m : EReal)) = ((Real.rpow 2 (x - m) : ℝ) : EReal) := by
  rw [← EReal.coe_sub]; rfl

/-- One chunk of `w` keys: the old sum is rescaled to the new maximum and the chunk's products are added. -/
theorem runAcc_add (s : ℕ → ℝ) (v : ℕ → EReal) (n w : ℕ) :
    runAcc s v (n + w) = runAcc s v n * Ideal.exp2 (runMax s n - runMax s (n + w))
      + ∑ j : Fin w, Ideal.exp2 ((s (n + j.val) : EReal) - runMax s (n + w)) * v (n + j.val) := by
  rw [runAcc, Finset.sum_range_add, ← Fin.sum_univ_eq_sum_range
    (fun j => Ideal.exp2 ((s (n + j) : EReal) - runMax s (n + w)) * v (n + j))]
  congr 1
  rcases Nat.eq_zero_or_pos n with rfl | hn
  · simp [runAcc_zero]
  · obtain ⟨m, hm⟩ := runMax_real s n hn
    obtain ⟨m', hm'⟩ := runMax_real s (n + w) (by omega)
    rw [runAcc, hm, hm', exp2_sub, sum_mul_coe _ _ (Real.rpow 2 (m - m')) (Real.rpow_nonneg (by norm_num) _)]
    refine Finset.sum_congr rfl fun i _ => ?_
    rw [exp2_sub, exp2_sub, mul_right_comm, ← EReal.coe_mul]
    congr 2
    change (2 : ℝ) ^ (s i - m') = 2 ^ (s i - m) * 2 ^ (m - m')
    rw [← Real.rpow_add (by norm_num)]; congr 1; ring

/-- The sum over the weights themselves is a positive real number. -/
theorem runAcc_one (s : ℕ → ℝ) (n : ℕ) (m : ℝ) (hm : runMax s n = (m : EReal)) :
    runAcc s (fun _ => 1) n = ((∑ i ∈ Finset.range n, (2 : ℝ) ^ (s i - m) : ℝ) : EReal) := by
  rw [runAcc, ← coe_sum]
  refine Finset.sum_congr rfl fun i _ => ?_
  rw [hm, exp2_sub, mul_one]; rfl

/-- Softmax attention of one row. Left: the sum of the weighted values, base two, over the sum of the weights. Right:
    each weight, base e, over the sum of the weights, times its value; `t` are the natural scores, `t i = s i · log 2`. -/
theorem row_softmax (n : ℕ) (hn : 0 < n) (s t : ℕ → ℝ) (hst : ∀ i, t i = s i * Real.log 2) (v : ℕ → EReal) :
    Ideal.div (runAcc s v n) (runAcc s (fun _ => 1) n)
      = ∑ i : Fin n, v i.val * Ideal.div
          (Ideal.exp ((t i.val : EReal) - max ⊥ (Finset.univ.fold max ⊥ fun j : Fin n => (t j.val : EReal))))
          (0 + ∑ k : Fin n, Ideal.exp ((t k.val : EReal) - max ⊥ (Finset.univ.fold max ⊥ fun j : Fin n => (t j.val : EReal)))) := by
  have hlog : 0 < Real.log 2 := Real.log_pos (by norm_num)
  have hT : max ⊥ (Finset.univ.fold max ⊥ fun j : Fin n => (t j.val : EReal)) = runMax t n := by
    have := runMax_add t 0 n
    simp only [Nat.zero_add, runMax_zero] at this
    exact this.symm
  obtain ⟨m, hm⟩ := runMax_real s n hn
  have hmt : runMax t n = ((m * Real.log 2 : ℝ) : EReal) := by
    apply le_antisymm
    · refine Finset.sup_le fun i hi => ?_
      have h1 : (s i : EReal) ≤ runMax s n := Finset.le_sup (f := fun i => (s i : EReal)) hi
      rw [hm, EReal.coe_le_coe_iff] at h1
      rw [hst, EReal.coe_le_coe_iff]
      exact mul_le_mul_of_nonneg_right h1 hlog.le
    · obtain ⟨i, hi, hi'⟩ := Finset.exists_mem_eq_sup (Finset.range n) ⟨0, Finset.mem_range.2 hn⟩ fun i => (s i : EReal)
      have h2 : (s i : EReal) = m := by rw [← hm]; exact hi'.symm
      rw [EReal.coe_eq_coe_iff] at h2
      have h3 : (t i : EReal) ≤ runMax t n := Finset.le_sup (f := fun i => (t i : EReal)) hi
      rwa [hst, h2] at h3
  have he : ∀ i, Ideal.exp ((t i : EReal) - runMax t n) = (((2 : ℝ) ^ (s i - m) : ℝ) : EReal) := by
    intro i
    rw [hmt, ← EReal.coe_sub, hst, Real.rpow_def_of_pos (by norm_num)]
    change ((Real.exp _ : ℝ) : EReal) = _
    congr 2; ring
  have hL : 0 < ∑ i ∈ Finset.range n, (2 : ℝ) ^ (s i - m) :=
    Finset.sum_pos (fun i _ => Real.rpow_pos_of_pos (by norm_num) _) ⟨0, Finset.mem_range.2 hn⟩
  rw [hT, runAcc_one s n m hm]
  simp only [he]
  rw [coe_sum, Fin.sum_univ_eq_sum_range (fun i => (2 : ℝ) ^ (s i - m)), zero_add]
  simp only [Ideal.div_coe hL.ne']
  rw [Fin.sum_univ_eq_sum_range (fun i => v i * ((((2 : ℝ) ^ (s i - m) : ℝ) : EReal) * ((1 / ∑ i ∈ Finset.range n, (2 : ℝ) ^ (s i - m) : ℝ) : EReal))),
    runAcc, sum_mul_coe _ _ _ (by positivity)]
  refine Finset.sum_congr rfl fun i _ => ?_
  rw [hm, exp2_sub, mul_comm (v i), mul_right_comm]; rfl

end Cert.Row

end
-- ==== Proof.Scores.lean ====
/- The kernel's scores are the reference's scaled scores over the logarithm of two, all real. -/
module

public import proofs.«01_k».proof.Proof.HostValue
public import proofs.«01_k».proof.Proof.RowMath

@[expose] public section

set_option maxRecDepth 16384

noncomputable section

namespace Cert.KernelIdeal.Attn

open Cert.KernelIdeal Cert.KernelIdeal.Gen Idealize.ShloMosaic Idealize.ShloMosaic.TcCoe

/-- A sum over the padded columns: the first part, the rotary part, the padding. -/
theorem sum_parts (f : Fin 256 → EReal) : ∑ d : Fin 256, f d = (∑ d : Fin 128, f ⟨d.val, by omega⟩)
    + ((∑ d : Fin 64, f ⟨128 + d.val, by omega⟩) + ∑ d : Fin 64, f ⟨192 + d.val, by omega⟩) := by
  have hA := Fin.sum_univ_add (a := 128) (b := 128) f
  have hB := Fin.sum_univ_add (a := 64) (b := 64) fun i => f (Fin.natAdd 128 i)
  refine hA.trans (congrArg₂ (· + ·) rfl (hB.trans (congrArg₂ (· + ·) rfl ?_)))
  refine Finset.sum_congr rfl fun d _ => congrArg f (Fin.ext ?_)
  change 128 + (64 + d.val) = 192 + d.val
  omega

/-- The scale's literal is a real number. -/
theorem scale_real : ∃ r : ℝ, Ideal.ofBits .f32 0x3D93CD3A#32 = (r : EReal) := by
  simp only [Ideal.ofBits, Ideal.ieee]
  exact ⟨_, rfl⟩

/-- The literal two, through the logarithm. -/
theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    rw [← EReal.coe_mul]
    norm_num
  rw [this]
  exact if_neg (by norm_num)

/-- For real queries and keys, the products of a packed query and a packed key sum to the reference's scaled score, divided by
    the logarithm of two. -/
theorem packed_score (a0 : Vec Ideal S8192x16x128 .f32) (a1 : Vec Ideal S8192x16x64 .f32) (a2 : Vec Ideal S8192x16x128 .f32)
    (a3 : Vec Ideal S8192x64 .f32) (h : Fin 16) (Q i : Fin 8192)
    (h0 : ∀ i h d, ∃ r : ℝ, a0 (ix3 i h d) = (r : EReal)) (h1 : ∀ i h d, ∃ r : ℝ, a1 (ix3 i h d) = (r : EReal))
    (h2 : ∀ i h d, ∃ r : ℝ, a2 (ix3 i h d) = (r : EReal)) (h3 : ∀ i d, ∃ r : ℝ, a3 (ix2 i d) = (r : EReal)) :
    ∃ t : ℝ, ((∑ d : Fin 128, a0 (ix3 Q h d) * a2 (ix3 i h d)) + ∑ d : Fin 64, a3 (ix2 i d) * a1 (ix3 Q h d))
        * Ideal.ofBits .f32 0x3D93CD3A#32 = (t : EReal)
      ∧ ∑ d : Fin 256, packQ a0 a1 (ix3 h Q d) * packK a2 a3 (ix3 h i d) = ((t / Real.log 2 : ℝ) : EReal) := by
  choose r0 e0 using h0
  choose r1 e1 using h1
  choose r2 e2 using h2
  choose r3 e3 using h3
  obtain ⟨c, hc⟩ := scale_real
  have hl : Real.log 2 ≠ 0 := (Real.log_pos (by norm_num)).ne'
  refine ⟨((∑ d : Fin 128, r0 Q h d * r2 i h d) + ∑ d : Fin 64, r3 i d * r1 Q h d) * c, ?_, ?_⟩
  · simp only [e0, e1, e2, e3, hc, ← EReal.coe_mul, Cert.Row.coe_sum, ← EReal.coe_add]
  · have hA : ∀ d : Fin 128, packQ a0 a1 (ix3 h Q ⟨d.val, by omega⟩) * packK a2 a3 (ix3 h i ⟨d.val, by omega⟩)
        = ((r0 Q h d * c * (1 / Real.log 2) * r2 i h d : ℝ) : EReal) := by
      intro d
      rw [packQ_apply, packK_apply, log_two, hc, dif_pos d.isLt, dif_pos d.isLt, e0, e2, ← EReal.coe_mul, Ideal.div_coe hl,
        ← EReal.coe_mul, ← EReal.coe_mul]
    have hB : ∀ d : Fin 64, packQ a0 a1 (ix3 h Q ⟨128 + d.val, by omega⟩) * packK a2 a3 (ix3 h i ⟨128 + d.val, by omega⟩)
        = ((r1 Q h d * c * (1 / Real.log 2) * r3 i d : ℝ) : EReal) := by
      intro d
      have n1 : ¬ (128 + d.val) < 128 := by omega
      have n2 : (128 + d.val) - 128 < 64 := by omega
      have n3 : (⟨(128 + d.val) - 128, n2⟩ : Fin 64) = d := Fin.ext (by change (128 + d.val) - 128 = d.val; omega)
      rw [packQ_apply, packK_apply, log_two, hc, dif_neg n1, dif_neg n1, dif_pos n2, dif_pos n2, n3, e1, e3, ← EReal.coe_mul,
        Ideal.div_coe hl, ← EReal.coe_mul, ← EReal.coe_mul]
    have hC : ∀ d : Fin 64, packQ a0 a1 (ix3 h Q ⟨192 + d.val, by omega⟩) * packK a2 a3 (ix3 h i ⟨192 + d.val, by omega⟩) = 0 := by
      intro d
      have n1 : ¬ (192 + d.val) < 128 := by omega
      have n2 : ¬ (192 + d.val) - 128 < 64 := by omega
      rw [packK_apply, dif_neg n1, dif_neg n2, mul_zero]
    rw [sum_parts]
    simp only [hA, hB, hC, Finset.sum_const_zero, add_zero, Cert.Row.coe_sum, ← EReal.coe_add]
    congr 1
    rw [add_mul, add_div, Finset.sum_mul, Finset.sum_mul, Finset.sum_div, Finset.sum_div]
    refine congrArg₂ (· + ·) (Finset.sum_congr rfl fun d _ => ?_) (Finset.sum_congr rfl fun d _ => ?_) <;> ring

end Cert.KernelIdeal.Attn

end
-- ==== Proof.StepApply.lean ====
/- One chunk of keys at one slice of 256 rows of the attention body, read at an element; and the quotient at the end. -/
module

public import proofs.«01_k».proof.Proof.Gen.KernelIdeal.Skeleton
public import Idealize.ShloMosaic.Lib.Pointwise

@[expose] public section

set_option maxRecDepth 16384

noncomputable section

namespace Cert.KernelIdeal.Attn

open Idealize.ShloMosaic Cert.KernelIdeal Cert.KernelIdeal.Gen

/-- The 32-bit pattern of minus infinity is the least extended real. -/
theorem ofBits_bot : Ideal.ofBits .f32 0xFF800000#32 = ⊥ := by simp [Ideal.ofBits, Ideal.ieee]

/-- The 32-bit pattern of infinity is the greatest extended real. -/
theorem ofBits_top : Ideal.ofBits .f32 0x7F800000#32 = ⊤ := by simp [Ideal.ofBits, Ideal.ieee]

/-- The new maximum of a row: the larger of the old one and the chunk's largest score. -/
theorem newMax_apply (kb : Vec Ideal S1x1024x256 .bf16) (q : Vec Ideal S1x256x256 .bf16) (m : Vec Ideal S256x1 .f32)
    (r : Fin 256) :
    k0_pay13 kb q m (ix2 r 0)
      = max (m (ix2 r 0)) (Finset.univ.fold max ⊥ fun j : Fin 1024 => ∑ d : Fin 256, q (ix3 0 r d) * kb (ix3 0 j d)) := by
  rw [← ofBits_bot]
  pointwise [k0_pay13, k0_pay11, k0_pay10, k0_pay8]

/-- The new partial sum of a row: the old one rescaled to the new maximum, and the chunk's weighted values. -/
theorem newAcc_apply (kb vb : Vec Ideal S1x1024x256 .bf16) (q : Vec Ideal S1x256x256 .bf16) (m : Vec Ideal S256x1 .f32)
    (a : Vec Ideal S256x256 .f32) (r : Fin 256) (e : Fin 256) :
    k0_pay12 kb vb q m a (ix2 r e)
      = a (ix2 r e) * Ideal.exp2 (m (ix2 r 0) - k0_pay13 kb q m (ix2 r 0))
        + ∑ j : Fin 1024, Ideal.exp2 ((∑ d : Fin 256, q (ix3 0 r d) * kb (ix3 0 j d)) - k0_pay13 kb q m (ix2 r 0))
            * vb (ix3 0 j e) := by
  pointwise [k0_pay13, k0_pay12, k0_pay11, k0_pay10, k0_pay9, k0_pay8]
  rfl

/-- What is stored at the end: a column of the sums over the column of ones. -/
theorem quotient_apply (a : Vec Ideal S2048x256 .f32) (r : Fin 2048) (e : Fin 128) :
    k0_pay7 a (ix2 r e) = Ideal.div (a (ix2 r ⟨e.val, by omega⟩)) (a (ix2 r 128)) := by
  pointwise [k0_pay7]

/-- The loop makes eight trips. -/
theorem trips_eq : k0_t1_loop.trips = 8 := by decide +kernel

/-- A key of a trip's chunk is one of the 8192 keys. -/
theorem key_lt (k : Fin k0_t1_loop.trips) (j : Fin 1024) : 1024 * k.val + j.val < 8192 := by
  have h1 : k.val < 8 := trips_eq ▸ k.isLt
  have h2 := j.isLt
  omega

/-- The trip's chunk of the keys and of the values starts at row `1024 k`. -/
theorem off1_eq : ∀ k : Fin k0_t1_loop.trips, k0_off1 k = ![0, 1024 * k.val, 0] := by decide +kernel

/-- The score of a row of the queries' block against a key. -/
def score (x0 : Vec Ideal S1x2048x256 .bf16) (x1 : Vec Ideal S1x8192x256 .bf16) (R : Fin 2048) (i : Fin 8192) : EReal :=
  ∑ d : Fin 256, x0 (ix3 0 R d) * x1 (ix3 0 i d)

/-- The running maxima after one trip, from those before it. -/
def tripMax (x0 : Vec Ideal S1x2048x256 .bf16) (x1 : Vec Ideal S1x8192x256 .bf16) (k : Fin k0_t1_loop.trips)
    (a6 : Vec Ideal S2048x1 .f32) : Vec Ideal S2048x1 .f32 := fun y =>
  max (a6 (ix2 (y 0) 0)) (Finset.univ.fold max ⊥ fun j : Fin 1024 => score x0 x1 (y 0) ⟨1024 * k.val + j.val, key_lt k j⟩)

/-- The partial sums after one trip, from those before it. -/
def tripAcc (x0 : Vec Ideal S1x2048x256 .bf16) (x1 x2 : Vec Ideal S1x8192x256 .bf16) (k : Fin k0_t1_loop.trips)
    (a6 : Vec Ideal S2048x1 .f32) (a7 : Vec Ideal S2048x256 .f32) : Vec Ideal S2048x256 .f32 := fun y =>
  a7 y * Ideal.exp2 (a6 (ix2 (y 0) 0) - tripMax x0 x1 k a6 (ix2 (y 0) 0))
    + ∑ j : Fin 1024, Ideal.exp2 (score x0 x1 (y 0) ⟨1024 * k.val + j.val, key_lt k j⟩ - tripMax x0 x1 k a6 (ix2 (y 0) 0))
        * x2 (ix3 0 ⟨1024 * k.val + j.val, key_lt k j⟩ (y 1))

end Cert.KernelIdeal.Attn

end
-- ==== Proof.Trip.lean ====
/- One trip of the attention's loop: the eight slices of 256 rows together make one step of every row. -/
module

public import proofs.«01_k».proof.Proof.StepApply
public import proofs.«01_k».proof.Proof.Gen.KernelIdeal.Loops
public import Idealize.ShloMosaic.Lib.WritesUnit

@[expose] public section

set_option maxRecDepth 16384

noncomputable section

namespace Cert.KernelIdeal.Attn

open Idealize.ShloMosaic Cert.KernelIdeal Cert.KernelIdeal.Gen

section
variable (arg2 : Memref sig .tc .vmem S1x2048x256 .bf16) (arg3 arg4 : Memref sig .tc .vmem S1x8192x256 .bf16)
  (arg6 : Memref sig .tc .vmem S2048x1 .f32) (arg7 : Memref sig .tc .vmem S2048x256 .f32)
  (X2 : BufTy.Contents (Elt Ideal) arg2.view.ty) (X3 : BufTy.Contents (Elt Ideal) arg3.view.ty)
  (X4 : BufTy.Contents (Elt Ideal) arg4.view.ty)
  (f6 : BufTy.Contents (Elt Ideal) arg6.view.ty) (f7 : BufTy.Contents (Elt Ideal) arg7.view.ty)
  (k : Fin k0_t1_loop.trips)

/-- The chunk of the keys (or of the values) that a trip reads, at an element. -/
theorem chunk_apply (j : Fin 1024) (d : Fin 256) (inb) :
    arg3.view.readAt (Elt Ideal) (Rect.unit (s := S1x8192x256) (k0_off1 k) ![1, 1024, 256] inb).toLoadRect X3 (ix3 0 j d)
      = arg3.view.read (Elt Ideal) X3 (ix3 0 ⟨1024 * k.val + j.val, key_lt k j⟩ d) := by
  rw [View.readAt_apply]
  congr 1
  funext a
  apply Fin.ext
  refine (congrArg (· + 1 * (ix3 (0 : Fin 1) j d a).val) (congrFun (off1_eq k) a)).trans ?_
  match a with
  | ⟨0, _⟩ => rfl
  | ⟨1, _⟩ => change 1024 * k.val + 1 * j.val = 1024 * k.val + j.val; omega
  | ⟨2, _⟩ => change 0 + 1 * d.val = d.val; omega

/-- A slice of 256 rows of the queries' block, at an element. -/
theorem qslice_apply (o : ℕ) (ho : o + 256 ≤ 2048) (r : Fin 256) (d : Fin 256) (inb) :
    arg2.view.readAt (Elt Ideal) (Rect.unit (s := S1x2048x256) ![0, o, 0] ![1, 256, 256] inb).toLoadRect X2 (ix3 0 r d)
      = arg2.view.read (Elt Ideal) X2 (ix3 0 ⟨o + r.val, by omega⟩ d) := by
  rw [View.readAt_apply]
  congr 1
  funext a
  apply Fin.ext
  match a with
  | ⟨0, _⟩ => rfl
  | ⟨1, _⟩ => change o + 1 * r.val = o + r.val; omega
  | ⟨2, _⟩ => change 0 + 1 * d.val = d.val; omega

/-- A slice's new maxima are the trip's at its rows. -/
theorem maxPiece (o : ℕ) (ho : o + 256 ≤ 2048) (inb3 inb2 inb6 inb6') (x : S256x1.Idx) :
    k0_pay13 (arg3.view.readAt (Elt Ideal) (Rect.unit (s := S1x8192x256) (k0_off1 k) ![1, 1024, 256] inb3).toLoadRect X3)
        (arg2.view.readAt (Elt Ideal) (Rect.unit (s := S1x2048x256) ![0, o, 0] ![1, 256, 256] inb2).toLoadRect X2)
        (arg6.view.readAt (Elt Ideal) (Rect.unit (s := S2048x1) ![o, 0] ![256, 1] inb6).toLoadRect f6) x
      = tripMax (arg2.view.read (Elt Ideal) X2) (arg3.view.read (Elt Ideal) X3) k (arg6.view.read (Elt Ideal) f6)
          ((Rect.unit (s := S2048x1) ![o, 0] ![256, 1] inb6').emb x) := by
  obtain ⟨r, u, rfl⟩ : ∃ (r : Fin 256) (u : Fin 1), x = ix2 r u := ⟨x 0, x 1, eq_ix2 x⟩
  obtain rfl : u = 0 := Subsingleton.elim _ _
  rw [newMax_apply]
  simp only [chunk_apply, qslice_apply _ _ o ho]
  have e : (Rect.unit (s := S2048x1) ![o, 0] ![256, 1] inb6').emb (ix2 r 0) = ix2 ⟨o + r.val, by omega⟩ 0 := by
    funext a
    apply Fin.ext
    match a with
    | ⟨0, _⟩ => change o + 1 * r.val = o + r.val; omega
    | ⟨1, _⟩ => rfl
  rw [e]
  simp only [tripMax, score]
  rw [View.readAt_apply]
  congr 2

/-- A slice's new partial sums are the trip's at its rows. -/
theorem accPiece (o : ℕ) (ho : o + 256 ≤ 2048) (inb3 inb4 inb2 inb6 inb7 inb7') (x : S256x256.Idx) :
    k0_pay12 (arg3.view.readAt (Elt Ideal) (Rect.unit (s := S1x8192x256) (k0_off1 k) ![1, 1024, 256] inb3).toLoadRect X3)
        (arg4.view.readAt (Elt Ideal) (Rect.unit (s := S1x8192x256) (k0_off1 k) ![1, 1024, 256] inb4).toLoadRect X4)
        (arg2.view.readAt (Elt Ideal) (Rect.unit (s := S1x2048x256) ![0, o, 0] ![1, 256, 256] inb2).toLoadRect X2)
        (arg6.view.readAt (Elt Ideal) (Rect.unit (s := S2048x1) ![o, 0] ![256, 1] inb6).toLoadRect f6)
        (arg7.view.readAt (Elt Ideal) (Rect.unit (s := S2048x256) ![o, 0] ![256, 256] inb7).toLoadRect f7) x
      = tripAcc (arg2.view.read (Elt Ideal) X2) (arg3.view.read (Elt Ideal) X3) (arg4.view.read (Elt Ideal) X4) k
          (arg6.view.read (Elt Ideal) f6) (arg7.view.read (Elt Ideal) f7)
          ((Rect.unit (s := S2048x256) ![o, 0] ![256, 256] inb7').emb x) := by
  obtain ⟨r, u, rfl⟩ : ∃ (r : Fin 256) (u : Fin 256), x = ix2 r u := ⟨x 0, x 1, eq_ix2 x⟩
  have e : ∀ inb, (Rect.unit (s := S2048x256) ![o, 0] ![256, 256] inb).emb (ix2 r u) = ix2 ⟨o + r.val, by omega⟩ u := by
    intro inb
    funext a
    apply Fin.ext
    match a with
    | ⟨0, _⟩ => change o + 1 * r.val = o + r.val; omega
    | ⟨1, _⟩ => change 0 + 1 * u.val = u.val; omega
  have e6 : ∀ inb, (Rect.unit (s := S2048x1) ![o, 0] ![256, 1] inb).emb (ix2 r 0) = ix2 ⟨o + r.val, by omega⟩ 0 := by
    intro inb
    funext a
    apply Fin.ext
    match a with
    | ⟨0, _⟩ => change o + 1 * r.val = o + r.val; omega
    | ⟨1, _⟩ => rfl
  rw [newAcc_apply, maxPiece _ _ _ _ _ _ _ o ho inb3 inb2 inb6 inb6]
  simp only [chunk_apply, qslice_apply _ _ o ho]
  rw [e, e6]
  have h7 : arg7.view.readAt (Elt Ideal) (Rect.unit (s := S2048x256) ![o, 0] ![256, 256] inb7).toLoadRect f7 (ix2 r u)
      = arg7.view.read (Elt Ideal) f7 (ix2 ⟨o + r.val, by omega⟩ u) := by
    rw [View.readAt_apply]; exact congrArg _ (e inb7)
  have h6 : arg6.view.readAt (Elt Ideal) (Rect.unit (s := S2048x1) ![o, 0] ![256, 1] inb6).toLoadRect f6 (ix2 r 0)
      = arg6.view.read (Elt Ideal) f6 (ix2 ⟨o + r.val, by omega⟩ 0) := by
    rw [View.readAt_apply]; exact congrArg _ (e6 inb6)
  rw [h7, h6]
  rfl

variable (𝒱 : Variants) (c : Dev nD) (bd : Option 𝒱.V) (i : grid0.Coords) (harg2 : arg2.IsWhole) (harg3 : arg3.IsWhole)
  (harg4 : arg4.IsWhole) (arg5 : Memref sig .tc .vmem S2048x128 .bf16) (harg5 : arg5.IsWhole) (harg6 : arg6.IsWhole)
  (harg7 : arg7.IsWhole)

/-- The maxima after one trip. -/
theorem trip_max (y : S2048x1.Idx) :
    arg6.view.read (Elt Ideal) (arg6.view.writes (Elt Ideal) f6
        (tripL_k0_t1 𝒱 c bd i arg2 harg2 arg3 harg3 arg4 harg4 arg5 harg5 arg6 harg6 arg7 harg7 X2 X3 X4 k f6 f7).1) y
      = tripMax (arg2.view.read (Elt Ideal) X2) (arg3.view.read (Elt Ideal) X3) k (arg6.view.read (Elt Ideal) f6) y := by
  unfold tripL_k0_t1 trip_k0_t1
  dsimp only
  apply View.read_writes_apply_of_pieces
  · intro p hp
    simp only [List.mem_cons, List.not_mem_nil, or_false] at hp
    rcases hp with rfl | rfl | rfl | rfl | rfl | rfl | rfl | rfl
    · intro x; exact maxPiece arg2 arg3 arg6 X2 X3 f6 k 1792 (by norm_num) _ _ _ (Facts₀.inb_S2048x1_S256x1_1792_0) x
    · intro x; exact maxPiece arg2 arg3 arg6 X2 X3 f6 k 1536 (by norm_num) _ _ _ (Facts₀.inb_S2048x1_S256x1_1536_0) x
    · intro x; exact maxPiece arg2 arg3 arg6 X2 X3 f6 k 1280 (by norm_num) _ _ _ (Facts₀.inb_S2048x1_S256x1_1280_0) x
    · intro x; exact maxPiece arg2 arg3 arg6 X2 X3 f6 k 1024 (by norm_num) _ _ _ (Facts₀.inb_S2048x1_S256x1_1024_0) x
    · intro x; exact maxPiece arg2 arg3 arg6 X2 X3 f6 k 768 (by norm_num) _ _ _ (Facts₀.inb_S2048x1_S256x1_768_0) x
    · intro x; exact maxPiece arg2 arg3 arg6 X2 X3 f6 k 512 (by norm_num) _ _ _ (Facts₀.inb_S2048x1_S256x1_512_0) x
    · intro x; exact maxPiece arg2 arg3 arg6 X2 X3 f6 k 256 (by norm_num) _ _ _ (Facts₀.inb_S2048x1_S256x1_256_0) x
    · intro x; exact maxPiece arg2 arg3 arg6 X2 X3 f6 k 0 (by norm_num) _ _ _ (Facts₀.inb_S2048x1_S256x1_0_0) x
  · exact View.cover_of_tiled _ ![256, 1] rfl y

/-- The partial sums after one trip. -/
theorem trip_acc (y : S2048x256.Idx) :
    arg7.view.read (Elt Ideal) (arg7.view.writes (Elt Ideal) f7
        (tripL_k0_t1 𝒱 c bd i arg2 harg2 arg3 harg3 arg4 harg4 arg5 harg5 arg6 harg6 arg7 harg7 X2 X3 X4 k f6 f7).2) y
      = tripAcc (arg2.view.read (Elt Ideal) X2) (arg3.view.read (Elt Ideal) X3) (arg4.view.read (Elt Ideal) X4) k
          (arg6.view.read (Elt Ideal) f6) (arg7.view.read (Elt Ideal) f7) y := by
  unfold tripL_k0_t1 trip_k0_t1
  dsimp only
  apply View.read_writes_apply_of_pieces
  · intro p hp
    simp only [List.mem_cons, List.not_mem_nil, or_false] at hp
    rcases hp with rfl | rfl | rfl | rfl | rfl | rfl | rfl | rfl
    · intro x; exact accPiece arg2 arg3 arg4 arg6 arg7 X2 X3 X4 f6 f7 k 1792 (by norm_num) _ _ _ _ _ (Facts₀.inb_S2048x256_S256x256_1792_0) x
    · intro x; exact accPiece arg2 arg3 arg4 arg6 arg7 X2 X3 X4 f6 f7 k 1536 (by norm_num) _ _ _ _ _ (Facts₀.inb_S2048x256_S256x256_1536_0) x
    · intro x; exact accPiece arg2 arg3 arg4 arg6 arg7 X2 X3 X4 f6 f7 k 1280 (by norm_num) _ _ _ _ _ (Facts₀.inb_S2048x256_S256x256_1280_0) x
    · intro x; exact accPiece arg2 arg3 arg4 arg6 arg7 X2 X3 X4 f6 f7 k 1024 (by norm_num) _ _ _ _ _ (Facts₀.inb_S2048x256_S256x256_1024_0) x
    · intro x; exact accPiece arg2 arg3 arg4 arg6 arg7 X2 X3 X4 f6 f7 k 768 (by norm_num) _ _ _ _ _ (Facts₀.inb_S2048x256_S256x256_768_0) x
    · intro x; exact accPiece arg2 arg3 arg4 arg6 arg7 X2 X3 X4 f6 f7 k 512 (by norm_num) _ _ _ _ _ (Facts₀.inb_S2048x256_S256x256_512_0) x
    · intro x; exact accPiece arg2 arg3 arg4 arg6 arg7 X2 X3 X4 f6 f7 k 256 (by norm_num) _ _ _ _ _ (Facts₀.inb_S2048x256_S256x256_256_0) x
    · intro x; exact accPiece arg2 arg3 arg4 arg6 arg7 X2 X3 X4 f6 f7 k 0 (by norm_num) _ _ _ _ _ (Facts₀.inb_S2048x256_S256x256_0_0) x
  · exact View.cover_of_tiled _ ![256, 256] rfl y

end

end Cert.KernelIdeal.Attn

end
-- ==== Proof.LoopState.lean ====
/- What the attention's two scratch buffers hold after some of the loop's trips. -/
module

public import proofs.«01_k».proof.Proof.RowMath
public import proofs.«01_k».proof.Proof.Trip

@[expose] public section

set_option maxRecDepth 16384

noncomputable section

namespace Cert.KernelIdeal.Attn

open Idealize.ShloMosaic Cert.KernelIdeal Cert.KernelIdeal.Gen Cert.Row

section
variable (x0 : Vec Ideal S1x2048x256 .bf16) (x1 x2 : Vec Ideal S1x8192x256 .bf16) (s : Fin 2048 → ℕ → ℝ)
  (hs : ∀ R (i : Fin 8192), score x0 x1 R i = ((s R i.val : ℝ) : EReal)) (v : Fin 256 → ℕ → EReal)
  (hv : ∀ e (i : Fin 8192), x2 (ix3 0 i e) = v e i.val)

include hs in
/-- A trip takes the running maxima over the first `1024 k` keys to those over the first `1024 (k + 1)`. -/
theorem tripMax_step (k : Fin k0_t1_loop.trips) (a6 : Vec Ideal S2048x1 .f32)
    (h6 : ∀ R, a6 (ix2 R 0) = runMax (s R) (1024 * k.val)) (R : Fin 2048) :
    tripMax x0 x1 k a6 (ix2 R 0) = runMax (s R) (1024 * (k.val + 1)) := by
  rw [Nat.mul_add, Nat.mul_one, runMax_add]
  change max (a6 (ix2 R 0)) (Finset.univ.fold max ⊥ fun j : Fin 1024 => score x0 x1 R ⟨1024 * k.val + j.val, key_lt k j⟩) = _
  rw [h6]
  simp only [hs]

include hs hv in
/-- A trip takes the partial sums over the first `1024 k` keys to those over the first `1024 (k + 1)`. -/
theorem tripAcc_step (k : Fin k0_t1_loop.trips) (a6 : Vec Ideal S2048x1 .f32) (a7 : Vec Ideal S2048x256 .f32)
    (h6 : ∀ R, a6 (ix2 R 0) = runMax (s R) (1024 * k.val))
    (h7 : ∀ R e, a7 (ix2 R e) = runAcc (s R) (v e) (1024 * k.val)) (R : Fin 2048) (e : Fin 256) :
    tripAcc x0 x1 x2 k a6 a7 (ix2 R e) = runAcc (s R) (v e) (1024 * (k.val + 1)) := by
  have hM := tripMax_step x0 x1 s hs k a6 h6 R
  rw [Nat.mul_add, Nat.mul_one] at hM
  rw [Nat.mul_add, Nat.mul_one, runAcc_add]
  change a7 (ix2 R e) * Ideal.exp2 (a6 (ix2 R 0) - tripMax x0 x1 k a6 (ix2 R 0))
    + ∑ j : Fin 1024, Ideal.exp2 (score x0 x1 R ⟨1024 * k.val + j.val, key_lt k j⟩ - tripMax x0 x1 k a6 (ix2 R 0))
        * x2 (ix3 0 ⟨1024 * k.val + j.val, key_lt k j⟩ e) = _
  rw [h7, h6, hM]
  simp only [hs, hv]

variable (arg2 : Memref sig .tc .vmem S1x2048x256 .bf16) (arg3 arg4 : Memref sig .tc .vmem S1x8192x256 .bf16)
  (arg6 : Memref sig .tc .vmem S2048x1 .f32) (arg7 : Memref sig .tc .vmem S2048x256 .f32)
  (X2 : BufTy.Contents (Elt Ideal) arg2.view.ty) (X3 : BufTy.Contents (Elt Ideal) arg3.view.ty)
  (X4 : BufTy.Contents (Elt Ideal) arg4.view.ty)
  (G6 : BufTy.Contents (Elt Ideal) arg6.view.ty) (G7 : BufTy.Contents (Elt Ideal) arg7.view.ty)
  (𝒱 : Variants) (c : Dev nD) (bd : Option 𝒱.V) (i : grid0.Coords) (harg2 : arg2.IsWhole) (harg3 : arg3.IsWhole)
  (harg4 : arg4.IsWhole) (arg5 : Memref sig .tc .vmem S2048x128 .bf16) (harg5 : arg5.IsWhole) (harg6 : arg6.IsWhole)
  (harg7 : arg7.IsWhole)

include hs hv in
/-- After `n` trips the first scratch holds the running maxima over the first `1024 n` keys, the second the partial sums. -/
theorem loop_state (hX2 : arg2.view.read (Elt Ideal) X2 = x0) (hX3 : arg3.view.read (Elt Ideal) X3 = x1)
    (hX4 : arg4.view.read (Elt Ideal) X4 = x2)
    (hG6 : ∀ y, arg6.view.read (Elt Ideal) G6 y = ⊥) (hG7 : ∀ y, arg7.view.read (Elt Ideal) G7 y = 0)
    (n : ℕ) (hn : n ≤ k0_t1_loop.trips) :
    (∀ R, arg6.view.read (Elt Ideal) (arg6.view.writes (Elt Ideal) G6
        (pb_k0_t1 𝒱 c bd i arg2 harg2 arg3 harg3 arg4 harg4 arg5 harg5 arg6 harg6 arg7 harg7 X2 X3 X4 G6 G7 n).1) (ix2 R 0)
      = runMax (s R) (1024 * n))
    ∧ ∀ R e, arg7.view.read (Elt Ideal) (arg7.view.writes (Elt Ideal) G7
        (pb_k0_t1 𝒱 c bd i arg2 harg2 arg3 harg3 arg4 harg4 arg5 harg5 arg6 harg6 arg7 harg7 X2 X3 X4 G6 G7 n).2) (ix2 R e)
      = runAcc (s R) (v e) (1024 * n) := by
  induction n with
  | zero =>
    refine ⟨fun R => ?_, fun R e => ?_⟩
    · rw [Nat.mul_zero, runMax_zero]; exact hG6 _
    · rw [Nat.mul_zero, runAcc_zero]; exact hG7 _
  | succ n ih =>
    obtain ⟨ih6, ih7⟩ := ih (by omega)
    have hk := pb_k0_t1_succ (F := Ideal) 𝒱 c bd i arg2 harg2 arg3 harg3 arg4 harg4 arg5 harg5 arg6 harg6 arg7 harg7
      X2 X3 X4 G6 G7 ⟨n, by omega⟩
    dsimp only at hk
    rw [hk]
    refine ⟨fun R => ?_, fun R e => ?_⟩
    · rw [View.writes_append, trip_max, hX2, hX3]
      exact tripMax_step x0 x1 s hs ⟨n, by omega⟩ _ ih6 R
    · rw [View.writes_append, trip_acc, hX2, hX3, hX4]
      exact tripAcc_step x0 x1 x2 s hs v hv ⟨n, by omega⟩ _ _ ih6 ih7 R e

end

end Cert.KernelIdeal.Attn

end
-- ==== Proof.BlockValue.lean ====
/- What one grid point of the attention stores: for each row, the weighted sums over all keys divided by the sum of the
   weights. -/
module

public import proofs.«01_k».proof.Proof.LoopState
public import proofs.«01_k».proof.Proof.Gen.KernelIdeal.Frame
public import Idealize.ShloMosaic.Lib.Pipeline.FrameBody

@[expose] public section

set_option maxRecDepth 16384

noncomputable section

namespace Cert.KernelIdeal.Attn

open Idealize.ShloMosaic Idealize.ShloMosaic.TcCoe Cert.KernelIdeal Cert.KernelIdeal.Gen Cert.Row

/-- A store at offset zero of the whole shape puts every element at its own place. -/
theorem zero_coords {n k : ℕ} {inb} (r : Fin n) (u : Fin k) : ∀ a : Fin 2, (ix2 r u a).val
    = (Rect.unit (s := (⟨2, ![n, k]⟩ : Shape)) ![0, 0] ![n, k] inb).off a
      + (Rect.unit (s := (⟨2, ![n, k]⟩ : Shape)) ![0, 0] ![n, k] inb).stride a * (ix2 r u a).val := by
  intro a
  match a with
  | ⟨0, _⟩ => change r.val = 0 + 1 * r.val; omega
  | ⟨1, _⟩ => change u.val = 0 + 1 * u.val; omega

section
variable (x0 : Vec Ideal S1x2048x256 .bf16) (x1 x2 : Vec Ideal S1x8192x256 .bf16) (s : Fin 2048 → ℕ → ℝ)
  (hs : ∀ R (i : Fin 8192), score x0 x1 R i = ((s R i.val : ℝ) : EReal)) (v : Fin 256 → ℕ → EReal)
  (hv : ∀ e (i : Fin 8192), x2 (ix3 0 i e) = v e i.val)
variable (c : Dev nD) (i : grid0.Coords) (arg2 : Memref sig .tc .vmem S1x2048x256 .bf16) (harg2 : arg2.IsWhole)
  (arg3 : Memref sig .tc .vmem S1x8192x256 .bf16) (harg3 : arg3.IsWhole) (arg4 : Memref sig .tc .vmem S1x8192x256 .bf16)
  (harg4 : arg4.IsWhole) (arg5 : Memref sig .tc .vmem S2048x128 .bf16) (harg5 : arg5.IsWhole)
  (arg6 : Memref sig .tc .vmem S2048x1 .f32) (harg6 : arg6.IsWhole) (arg7 : Memref sig .tc .vmem S2048x256 .f32)
  (harg7 : arg7.IsWhole)

include hs hv in
/-- What a grid point stores, at a row and a column. -/
theorem out_block (R : Fin 2048) (e : Fin 128) :
    out0_A_3 c i arg2 harg2 arg3 harg3 arg4 harg4 arg5 harg5 arg6 harg6 arg7 harg7 x0 x1 x2 (ix2 R e)
      = Ideal.div (runAcc (s R) (v ⟨e.val, by omega⟩) 8192) (runAcc (s R) (v 128) 8192) := by
  unfold out0_A_3
  unfold kernelRun0_A
  dsimp only
  sl_unfold_words
  dsimp only
  refine (View.read_writes_cons_hit_of_coords VO0_3 _ _ _ [] (ix2 R e) (ix2 R e) (zero_coords R e)).trans ?_
  rw [quotient_apply]
  have hG6 : ∀ y, arg6.view.read (Elt Ideal) (arg6.view.writes (Elt Ideal) arg6.view.junk
      [⟨Rect.unit (s := S2048x1) ![0, 0] ![2048, 1] Facts₀.inb_S2048x1_S2048x1_0_0, k0_pay1 (F := Ideal)⟩]) y = ⊥ := by
    intro y
    obtain ⟨r, u, rfl⟩ : ∃ (r : Fin 2048) (u : Fin 1), y = ix2 r u := ⟨y 0, y 1, eq_ix2 y⟩
    refine (View.read_writes_cons_hit_of_coords arg6.view _ _ _ [] (ix2 r u) (ix2 r u) (zero_coords r u)).trans ?_
    rw [← ofBits_bot]
    pointwise [k0_pay1]
  have hG7 : ∀ y, arg7.view.read (Elt Ideal) (arg7.view.writes (Elt Ideal) arg7.view.junk
      [⟨Rect.unit (s := S2048x256) ![0, 0] ![2048, 256] Facts₀.inb_S2048x256_S2048x256_0_0, k0_pay2 (F := Ideal)⟩]) y = 0 := by
    intro y
    obtain ⟨r, u, rfl⟩ : ∃ (r : Fin 2048) (u : Fin 256), y = ix2 r u := ⟨y 0, y 1, eq_ix2 y⟩
    refine (View.read_writes_cons_hit_of_coords arg7.view _ _ _ [] (ix2 r u) (ix2 r u) (zero_coords r u)).trans ?_
    pointwise [k0_pay2]
  have hL := (loop_state x0 x1 x2 s hs v hv arg2 arg3 arg4 arg6 arg7 (harg2.unread x0) (harg3.unread x1) (harg4.unread x2)
    _ _ Variants.none c none i harg2 harg3 harg4 arg5 harg5 harg6 harg7 (harg2.read_unread x0) (harg3.read_unread x1)
    (harg4.read_unread x2) hG6 hG7 k0_t1_loop.trips le_rfl).2 R
  rw [trips_eq] at hL
  have hload : ∀ u : Fin 256, ∀ L inb, arg7.view.readCov (Val := Elt Ideal) L
      (Rect.unit (s := S2048x256) ![0, 0] ![2048, 256] inb).toLoadRect (ix2 R u)
      = arg7.view.read (Elt Ideal) (arg7.view.writes (Elt Ideal) arg7.view.junk L) (ix2 R u) := by
    intro u L inb
    unfold View.readCov
    rw [View.readAt_apply]
    congr 1
    funext a
    exact Fin.ext (zero_coords (n := 2048) (k := 256) (inb := inb) R u a).symm
  rw [hload, hload, View.writes_append]
  exact congrArg₂ Ideal.div (hL _) (hL _)

end

end Cert.KernelIdeal.Attn

end
-- ==== Proof.RefParts.lean ====
/- What the reference computes at one row and one column. -/
module

public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe

/-- The scaled scores of every head. -/
def logits (a0 : Vec Ideal S8192x16x128 .f32) (a1 : Vec Ideal S8192x16x64 .f32) (a2 : Vec Ideal S8192x16x128 .f32)
    (a3 : Vec Ideal S8192x64 .f32) : FVec Ideal S16x8192x8192 .f32 :=
  mulf (addf (Host.dotGeneral (F := Ideal) (φ₁ := .f32) (φ₂ := .f32) dot_S8192x16x128_S8192x16x128_S16x8192x8192_2_2_0_0_1_1 none a0 a2)
    (transpose S16x8192x8192 [2, 1, 0] (Host.dotGeneral (F := Ideal) (φ₁ := .f32) (φ₂ := .f32) dot_S8192x64_S8192x16x64_S8192x8192x16_1_2_0_01_n_n none a3 a1)
      transposes_S8192x8192x16_S16x8192x8192_2_1_0))
    (broadcastInDim S16x8192x8192 ![] bcast_S_S16x8192x8192 (constant S_ .f32 0x3D93CD3A#32))

/-- The maximum of every row of scores. -/
def rowMax (L : FVec Ideal S16x8192x8192 .f32) : FVec Ideal S16x8192 .f32 :=
  Host.reduce FloatOps.maximumf L (constant S_ .f32 0xFF800000#32) reducesTo_S16x8192x8192_S16x8192_d2 h_S_

/-- The exponentials of the scores, each row's maximum taken off. -/
def weights (L : FVec Ideal S16x8192x8192 .f32) : FVec Ideal S16x8192x8192 .f32 :=
  Host.exp (subf L (broadcastInDim S16x8192x8192 ![0, 1, 2] bcast_S16x8192x1_S16x8192x8192_0_1_2 (broadcastInDim S16x8192x1 ![0, 1]
    bcast_S16x8192_S16x8192x1_0_1 (maximumf (broadcastInDim S16x8192 ![] bcast_S_S16x8192 (constant S_ .f32 0xFF800000#32))
    (rowMax L)))))

/-- The weighted means of the values, heads side by side. -/
def attend (W : FVec Ideal S16x8192x8192 .f32) (a4 : Vec Ideal S8192x16x128 .f32) : FVec Ideal S8192x2048 .bf16 :=
  truncf .bf16 (shapeCast _ (transpose S8192x16x128 [2, 0, 1] (Host.dotGeneral (F := Ideal) (φ₁ := .f32) (φ₂ := .f32)
    dot_S8192x16x128_S16x8192x8192_S16x128x8192_0_2_2_1_1_0 none a4 (Host.divf W (broadcastInDim S16x8192x8192 ![0, 1, 2]
    bcast_S16x8192x1_S16x8192x8192_0_1_2 (broadcastInDim S16x8192x1 ![0, 1] bcast_S16x8192_S16x8192x1_0_1 (Host.reduceAdd W
    (constant S_ .f32 0x00000000#32) reducesTo_S16x8192x8192_S16x8192_d2 h_S_))))) transposes_S16x128x8192_S8192x16x128_2_0_1)
    shapeCasts_S8192x16x128_S8192x2048) bitsLt_bf16_f32

/-- The reference's result, of its arguments. -/
def refOut (a0 : Vec Ideal S8192x16x128 .f32) (a1 : Vec Ideal S8192x16x64 .f32) (a2 : Vec Ideal S8192x16x128 .f32)
    (a3 : Vec Ideal S8192x64 .f32) (a4 : Vec Ideal S8192x16x128 .f32) : Vec Ideal S8192x2048 .bf16 :=
  attend (weights (logits a0 a1 a2 a3)) a4

end Cert.ReferenceIdeal.Attn

end
-- ==== Proof.RefValue.lean ====
/- What the reference computes at one row and one column. -/
module

public import proofs.«01_k».proof.Proof.RefParts
public import Idealize.ShloMosaic.Lib.Pointwise
public import proofs.«01_k».proof.Proof.StepApply

@[expose] public section

set_option maxRecDepth 16384

noncomputable section

namespace Cert.ReferenceIdeal.Attn

open Cert.ReferenceIdeal Cert.ReferenceIdeal.Gen Idealize.ShloMosaic Idealize.ShloMosaic.TcCoe

/-- A maximum along the keys, at a head and a query. -/
theorem reduceMax_apply (L : FVec Ideal S16x8192x8192 .f32) (v : FVec Ideal S_ .f32) (h : Fin 16) (Q : Fin 8192) :
    Host.reduce FloatOps.maximumf L v reducesTo_S16x8192x8192_S16x8192_d2 h_S_ (ix2 h Q)
      = Finset.univ.fold max (v (Shape.Idx.first h_S_)) fun k : Fin 8192 => L (ix3 h Q k) := by
  simp only [pointwise]

/-- A row's maximum. -/
theorem rowMax_apply (L : FVec Ideal S16x8192x8192 .f32) (h : Fin 16) (Q : Fin 8192) :
    rowMax L (ix2 h Q) = Finset.univ.fold max (Ideal.ofBits .f32 0xFF800000#32) fun k : Fin 8192 => L (ix3 h Q k) := by
  unfold rowMax
  exact reduceMax_apply L _ h Q

/-- The exponential of a score less a number of its row. -/
theorem shifted_apply (L : FVec Ideal S16x8192x8192 .f32) (M : FVec Ideal S16x8192 .f32) (h : Fin 16) (Q i : Fin 8192) :
    (Host.exp (subf L (broadcastInDim S16x8192x8192 ![0, 1, 2] bcast_S16x8192x1_S16x8192x8192_0_1_2 (broadcastInDim S16x8192x1 ![0, 1]
    bcast_S16x8192_S16x8192x1_0_1 M)))) (ix3 h Q i) = Ideal.exp (L (ix3 h Q i) - M (ix2 h Q)) := by
  pointwise []

/-- The row maximum against minus infinity. -/
theorem floored_apply (M : FVec Ideal S16x8192 .f32) (h : Fin 16) (Q : Fin 8192) :
    (maximumf (broadcastInDim S16x8192 ![] bcast_S_S16x8192 (constant S_ .f32 0xFF800000#32)) M) (ix2 h Q)
      = max (Ideal.ofBits .f32 0xFF800000#32) (M (ix2 h Q)) := by
  pointwise []

/-- A weight of the reference: the exponential of a score with its row's maximum taken off. -/
theorem weights_apply (L : FVec Ideal S16x8192x8192 .f32) (h : Fin 16) (Q i : Fin 8192) :
    weights L (ix3 h Q i) = Ideal.exp (L (ix3 h Q i) - max (Ideal.ofBits .f32 0xFF800000#32)
      (Finset.univ.fold max (Ideal.ofBits .f32 0xFF800000#32) fun k : Fin 8192 => L (ix3 h Q k))) := by
  unfold weights
  rw [shifted_apply, floored_apply, rowMax_apply]

/-- A scaled score. -/
theorem logits_apply (a0 : Vec Ideal S8192x16x128 .f32) (a1 : Vec Ideal S8192x16x64 .f32) (a2 : Vec Ideal S8192x16x128 .f32)
    (a3 : Vec Ideal S8192x64 .f32) (h : Fin 16) (Q i : Fin 8192) : logits a0 a1 a2 a3 (ix3 h Q i)
      = ((∑ d : Fin 128, a0 (ix3 Q h d) * a2 (ix3 i h d)) + ∑ d : Fin 64, a3 (ix2 i d) * a1 (ix3 Q h d))
        * Ideal.ofBits .f32 0x3D93CD3A#32 := by
  pointwise [logits]

/-- The result of weights and values at a row and a column: the column's head's weighted mean. -/
theorem attend_apply (W : FVec Ideal S16x8192x8192 .f32) (a4 : Vec Ideal S8192x16x128 .f32) (Q : Fin 8192) (h : Fin 16)
    (e : Fin 128) (n : Fin 2048) (hn : n.val = 128 * h.val + e.val) :
    attend W a4 (ix2 Q n) = ∑ i : Fin 8192, a4 (ix3 i h e) * Ideal.div (W (ix3 h Q i)) (0 + ∑ k : Fin 8192, W (ix3 h Q k)) := by
  rw [zero_add]
  pointwise [attend]
  have h1 : (⟨n.val / 128, by omega⟩ : Fin 16) = h := Fin.ext (by change n.val / 128 = h.val; omega)
  have h2 : (⟨n.val % 128, by omega⟩ : Fin 128) = e := Fin.ext (by change n.val % 128 = e.val; omega)
  have key : ∀ (h' : Fin 16) (e' : Fin 128), h' = h → e' = e →
      (∑ i : Fin 8192, a4 (ix3 i h' e') * Ideal.div (W (ix3 h' Q i)) (∑ k : Fin 8192, W (ix3 h' Q k)))
        = ∑ i : Fin 8192, a4 (ix3 i h e) * Ideal.div (W (ix3 h Q i)) (∑ k : Fin 8192, W (ix3 h Q k)) := by
    rintro _ _ rfl rfl; rfl
  exact key _ _ h1 h2

/-- The reference's result, where the scaled scores of the row are the reals `t`. -/
theorem refOut_apply (a0 : Vec Ideal S8192x16x128 .f32) (a1 : Vec Ideal S8192x16x64 .f32) (a2 : Vec Ideal S8192x16x128 .f32)
    (a3 : Vec Ideal S8192x64 .f32) (a4 : Vec Ideal S8192x16x128 .f32) (Q : Fin 8192) (h : Fin 16)
    (e : Fin 128) (n : Fin 2048) (hn : n.val = 128 * h.val + e.val) (t : ℕ → ℝ)
    (ht : ∀ i : Fin 8192, ((∑ d : Fin 128, a0 (ix3 Q h d) * a2 (ix3 i h d)) + ∑ d : Fin 64, a3 (ix2 i d) * a1 (ix3 Q h d))
        * Ideal.ofBits .f32 0x3D93CD3A#32 = ((t i.val : ℝ) : EReal)) :
    refOut a0 a1 a2 a3 a4 (ix2 Q n) = ∑ i : Fin 8192, a4 (ix3 i h e) * Ideal.div
      (Ideal.exp (((t i.val : ℝ) : EReal) - max ⊥ (Finset.univ.fold max ⊥ fun j : Fin 8192 => ((t j.val : ℝ) : EReal))))
      (0 + ∑ k : Fin 8192, Ideal.exp (((t k.val : ℝ) : EReal)
        - max ⊥ (Finset.univ.fold max ⊥ fun j : Fin 8192 => ((t j.val : ℝ) : EReal)))) := by
  unfold refOut
  rw [attend_apply _ _ Q h e n hn]
  simp only [weights_apply, logits_apply, ht, Cert.KernelIdeal.Attn.ofBits_bot]

end Cert.ReferenceIdeal.Attn

end
-- ==== Proof.Final.lean ====
/- What the result array holds after the run: at every row and column the attention's quotient of running sums. -/
module

public import proofs.«01_k».proof.Proof.Scores
public import proofs.«01_k».proof.Proof.BlockValue
public import proofs.«01_k».proof.Proof.RefValue
public import Idealize.ShloMosaic.Lib.Pipeline.ValueKit.Geometry

@[expose] public section

set_option maxRecDepth 16384

noncomputable section

namespace Cert.KernelIdeal.Attn

open Cert.KernelIdeal Cert.KernelIdeal.Gen Idealize.ShloMosaic Idealize.ShloMosaic.TcCoe Idealize.SL.Sem Cert.Row

/-- The query window's block: the head and the block of rows. -/
theorem index0 : ∀ t : Fin cfg0.N, win0_0.index t = ![(grid0.coords t 0).val, (grid0.coords t 1).val, 0] :=
  (by decide +kernel : ∀ t : Fin grid0.N, _)

/-- The key window's block: the head. -/
theorem index1 : ∀ t : Fin cfg0.N, win0_1.index t = ![(grid0.coords t 0).val, 0, 0] :=
  (by decide +kernel : ∀ t : Fin grid0.N, _)

/-- The value window's block: the head. -/
theorem index2 : ∀ t : Fin cfg0.N, win0_2.index t = ![(grid0.coords t 0).val, 0, 0] :=
  (by decide +kernel : ∀ t : Fin grid0.N, _)

/-- The result window's block: the block of rows and the head's columns. -/
theorem index3 : ∀ t : Fin cfg0.N, win0_3.index t = ![(grid0.coords t 1).val, (grid0.coords t 0).val] :=
  (by decide +kernel : ∀ t : Fin grid0.N, _)

variable (m : (ℓ : Loc nD τ sig) → Buf (Elt Ideal) ℓ)

/-- A grid point's head. -/
def headOf (t : Fin cfg0.N) : Fin 16 := grid0.coords t 0

/-- The row of the array at a row of a grid point's block. -/
def rowOf (t : Fin cfg0.N) (R : Fin 2048) : Fin 8192 :=
  ⟨(grid0.coords t 1).val * 2048 + R.val, by have : (grid0.coords t 1).val < 4 := (grid0.coords t 1).isLt; omega⟩

/-- The query block of a grid point. -/
theorem query_block (c : Dev nD) (t : Fin cfg0.N) (R : Fin 2048) (d : Fin 256) :
    (iblk m c 0 t : Vec Ideal S1x2048x256 .bf16) (ix3 0 R d)
      = packQ (m ((c : Thread nD τ).loc main_arg0)) (m ((c : Thread nD τ).loc main_arg1)) (ix3 (headOf t) (rowOf t R) d) := by
  rw [← V_queries]
  blk_simp [iblk]
  refine congrArg (V m c main_v13) ?_
  funext a
  refine Fin.ext ?_
  match a with
  | ⟨0, _⟩ => blk_simp [index0]; rfl
  | ⟨1, _⟩ => blk_simp [index0]; change (grid0.coords t 1).val * 2048 + R.val = (grid0.coords t 1).val * 2048 + R.val; omega
  | ⟨2, _⟩ => blk_simp [index0]

/-- The key block of a grid point. -/
theorem key_block (c : Dev nD) (t : Fin cfg0.N) (i : Fin 8192) (d : Fin 256) :
    (iblk m c 1 t : Vec Ideal S1x8192x256 .bf16) (ix3 0 i d)
      = packK (m ((c : Thread nD τ).loc main_arg2)) (m ((c : Thread nD τ).loc main_arg3)) (ix3 (headOf t) i d) := by
  rw [← V_keys]
  blk_simp [iblk]
  refine congrArg (V m c main_v15) ?_
  funext a
  refine Fin.ext ?_
  match a with
  | ⟨0, _⟩ => blk_simp [index1]; rfl
  | ⟨1, _⟩ => blk_simp [index1]
  | ⟨2, _⟩ => blk_simp [index1]

/-- The value block of a grid point. -/
theorem value_block (c : Dev nD) (t : Fin cfg0.N) (i : Fin 8192) (d : Fin 256) :
    (iblk m c 2 t : Vec Ideal S1x8192x256 .bf16) (ix3 0 i d)
      = packV (m ((c : Thread nD τ).loc main_arg4)) (ix3 (headOf t) i d) := by
  rw [← V_values]
  blk_simp [iblk]
  refine congrArg (V m c main_v17) ?_
  funext a
  refine Fin.ext ?_
  match a with
  | ⟨0, _⟩ => blk_simp [index2]; rfl
  | ⟨1, _⟩ => blk_simp [index2]
  | ⟨2, _⟩ => blk_simp [index2]

section
variable (a0 : Vec Ideal S8192x16x128 .f32) (a1 : Vec Ideal S8192x16x64 .f32) (a2 : Vec Ideal S8192x16x128 .f32)
  (a3 : Vec Ideal S8192x64 .f32) (a4 : Vec Ideal S8192x16x128 .f32)
  (h0 : ∀ i h d, ∃ r : ℝ, a0 (ix3 i h d) = (r : EReal)) (h1 : ∀ i h d, ∃ r : ℝ, a1 (ix3 i h d) = (r : EReal))
  (h2 : ∀ i h d, ∃ r : ℝ, a2 (ix3 i h d) = (r : EReal)) (h3 : ∀ i d, ∃ r : ℝ, a3 (ix2 i d) = (r : EReal))

include h0 h1 h2 h3 in
/-- For real queries and keys, what the kernel's final array should hold at a point's row and column is what the grid point stores
    there. -/
theorem stored_eq (c : Dev nD) (t : Fin cfg0.N) (e0 : m ((c : Thread nD τ).loc main_arg0) = a0)
    (e1 : m ((c : Thread nD τ).loc main_arg1) = a1) (e2 : m ((c : Thread nD τ).loc main_arg2) = a2)
    (e3 : m ((c : Thread nD τ).loc main_arg3) = a3) (e4 : m ((c : Thread nD τ).loc main_arg4) = a4)
    (R : Fin 2048) (e : Fin 128) (n : Fin 2048) (hn : n.val = 128 * (headOf t).val + e.val) :
    (outsAt0 m c t : Vec Ideal S2048x128 .bf16) (ix2 R e) = Cert.ReferenceIdeal.Attn.refOut a0 a1 a2 a3 a4 (ix2 (rowOf t R) n) := by
  have hx := fun Q i => packed_score a0 a1 a2 a3 (headOf t) Q i h0 h1 h2 h3
  choose T hT hS using hx
  let T' : Fin 8192 → ℕ → ℝ := fun Q i => if hi : i < 8192 then T Q ⟨i, hi⟩ else 0
  have hT' : ∀ Q (i : Fin 8192), T' Q i.val = T Q i := fun Q i => dif_pos i.isLt
  let v : Fin 256 → ℕ → EReal := fun d i => if hi : i < 8192 then packV a4 (ix3 (headOf t) ⟨i, hi⟩ d) else 1
  have hv : ∀ d (i : Fin 8192), packV a4 (ix3 (headOf t) i d) = v d i.val := fun d i => by
    simp only [v, i.isLt, dif_pos]
  have hone : v 128 = fun _ => 1 := by
    funext i
    by_cases hi : i < 8192
    · exact (dif_pos hi).trans (by rw [packV_apply, dif_neg (by decide)])
    · exact dif_neg hi
  rw [Cert.ReferenceIdeal.Attn.refOut_apply a0 a1 a2 a3 a4 (rowOf t R) (headOf t) e n hn (T' (rowOf t R))
    (fun i => (hT (rowOf t R) i).trans (by rw [hT']))]
  unfold outsAt0
  rw [out_block (iblk m c 0 t) (iblk m c 1 t) (iblk m c 2 t) (fun R i => T' (rowOf t R) i / Real.log 2)
    (fun R i => by
      unfold score
      simp only [query_block, key_block, e0, e1, e2, e3]
      rw [hS, hT'])
    v (fun d i => by rw [value_block, e4, hv])]
  rw [hone, row_softmax 8192 (by norm_num) _ (T' (rowOf t R))
    (fun i => (div_mul_cancel₀ _ (Real.log_pos (by norm_num)).ne').symm)]
  refine Finset.sum_congr rfl fun i _ => ?_
  rw [← hv, packV_apply, dif_pos e.isLt]

end

/-- For real queries and keys, the kernel's final array is the reference's result. -/
theorem final (c : Dev nD) (a0 : Vec Ideal S8192x16x128 .f32) (a1 : Vec Ideal S8192x16x64 .f32) (a2 : Vec Ideal S8192x16x128 .f32)
    (a3 : Vec Ideal S8192x64 .f32) (a4 : Vec Ideal S8192x16x128 .f32)
    (h0 : ∀ i h d, ∃ r : ℝ, a0 (ix3 i h d) = (r : EReal)) (h1 : ∀ i h d, ∃ r : ℝ, a1 (ix3 i h d) = (r : EReal))
    (h2 : ∀ i h d, ∃ r : ℝ, a2 (ix3 i h d) = (r : EReal)) (h3 : ∀ i d, ∃ r : ℝ, a3 (ix2 i d) = (r : EReal))
    (e0 : m ((c : Thread nD τ).loc main_arg0) = a0)
    (e1 : m ((c : Thread nD τ).loc main_arg1) = a1) (e2 : m ((c : Thread nD τ).loc main_arg2) = a2)
    (e3 : m ((c : Thread nD τ).loc main_arg3) = a3) (e4 : m ((c : Thread nD τ).loc main_arg4) = a4) :
    (dats m 0 c).arrAt 3 cfg0.N = Cert.ReferenceIdeal.Attn.refOut a0 a1 a2 a3 a4 := by
  refine (dats m 0 c).arrAt_eq_of_covers 3 _ (by decide +kernel) fun t hf y => ?_
  blk_simp
  rw [after0_3]
  obtain ⟨R, e, rfl⟩ : ∃ (R : Fin 2048) (e : Fin 128), y = ix2 R e := ⟨y 0, y 1, eq_ix2 y⟩
  have hh : (headOf t).val < 16 := (headOf t).isLt
  refine (stored_eq m a0 a1 a2 a3 a4 h0 h1 h2 h3 c t e0 e1 e2 e3 e4 R e ⟨128 * (headOf t).val + e.val, by omega⟩ rfl).trans ?_
  refine congrArg (Cert.ReferenceIdeal.Attn.refOut a0 a1 a2 a3 a4) ?_
  funext a
  refine Fin.ext ?_
  match a with
  | ⟨0, _⟩ => blk_simp [index3]; change (grid0.coords t 1).val * 2048 + R.val = (grid0.coords t 1).val * 2048 + R.val; rfl
  | ⟨1, _⟩ => blk_simp [index3]; change 128 * (grid0.coords t 0).val + e.val = (grid0.coords t 0).val * 128 + e.val; omega

end Cert.KernelIdeal.Attn

end
-- ==== Proof.RefRun.lean ====
/- What the reference computes at one row and one column. -/
module

public import proofs.«01_k».proof.Proof.RefParts
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe

open Idealize.SL.Sem in
/-- The run of the reference, its result written with the pieces above. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by unfold refOut attend weights rowMax logits; rfl), (h c).2⟩)
    (Cert.ReferenceIdeal.Value.run (F := Ideal) m ρ)

end Cert.ReferenceIdeal.Attn

end
-- ==== Proof.Pre.lean ====
/- The precondition read at an element: every query and key is a real number. -/
module

public import proofs.«01_k».proof.Pre_finite_queries_keys
public import proofs.«01_k».proof.Proof.StepApply
public import Idealize.ShloMosaic.Lib.Pointwise

@[expose] public section

set_option maxRecDepth 16384

noncomputable section

namespace Cert.Pre_finite_queries_keys

open Idealize.ShloMosaic

/-- The predicate's side conditions. -/
theorem facts : Cert.Pre_finite_queries_keys.Facts := ⟨by decide, by decide, by decide⟩

/-- An extended real whose absolute value is below infinity is a real number. -/
theorem real_of_abs_lt (x : EReal)
    (h : BitVec.ofBool (decide ((FloatOps.absf (F := Ideal) (φ := .f32) x : EReal) < Ideal.ofBits .f32 2139095040#32)) = 1#1) :
    ∃ r : ℝ, x = (r : EReal) := by
  rw [show Ideal.ofBits .f32 2139095040#32 = ⊤ from Cert.KernelIdeal.Attn.ofBits_top] at h
  by_cases hx : (FloatOps.absf (F := Ideal) (φ := .f32) x : EReal) < ⊤
  · induction x with
    | bot => exact absurd hx (by change ¬ ((max (⊥ : EReal) (-⊥)) < ⊤); simp)
    | coe r => exact ⟨r, rfl⟩
    | top => exact absurd hx (by change ¬ ((max (⊤ : EReal) (-⊤)) < ⊤); simp)
  · rw [decide_eq_false hx] at h
    exact absurd h (by decide)

variable [Facts]

section
variable (a0 : Vec Ideal S8192x16x128 .f32) (a1 : Vec Ideal S8192x16x64 .f32) (a2 : Vec Ideal S8192x16x128 .f32)
    (a3 : Vec Ideal S8192x64 .f32) (a4 : Vec Ideal S8192x16x128 .f32)

/-- The first part of every query is real. -/
theorem real_q (hp : (fn (F := Ideal) a0 a1 a2 a3 a4).1 = fun _ => 1#1) (i : Fin 8192) (h : Fin 16) (d : Fin 128) :
    ∃ r : ℝ, a0 (ix3 i h d) = (r : EReal) := by
  have := congrFun hp (ix3 i h d)
  revert this
  pointwise [fn]
  exact real_of_abs_lt _

/-- The rotary part of every query is real. -/
theorem real_qpe (hp : (fn (F := Ideal) a0 a1 a2 a3 a4).2.1 = fun _ => 1#1) (i : Fin 8192) (h : Fin 16) (d : Fin 64) :
    ∃ r : ℝ, a1 (ix3 i h d) = (r : EReal) := by
  have := congrFun hp (ix3 i h d)
  revert this
  pointwise [fn]
  exact real_of_abs_lt _

/-- The first part of every key is real. -/
theorem real_k (hp : (fn (F := Ideal) a0 a1 a2 a3 a4).2.2.1 = fun _ => 1#1) (i : Fin 8192) (h : Fin 16) (d : Fin 128) :
    ∃ r : ℝ, a2 (ix3 i h d) = (r : EReal) := by
  have := congrFun hp (ix3 i h d)
  revert this
  pointwise [fn]
  exact real_of_abs_lt _

/-- The rotary part of every key is real. -/
theorem real_kpe (hp : (fn (F := Ideal) a0 a1 a2 a3 a4).2.2.2 = fun _ => 1#1) (i : Fin 8192) (d : Fin 64) :
    ∃ r : ℝ, a3 (ix2 i d) = (r : EReal) := by
  have := congrFun hp (ix2 i d)
  revert this
  pointwise [fn]
  exact real_of_abs_lt _

end

end Cert.Pre_finite_queries_keys

end
-- ==== Proof.MoeNames.lean ====
/- The experts call's buffers by name, the rows its transfers move, and the words of its tables. -/
module

public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import Idealize.ShloMosaic.Lib.Batch
public import Idealize.ShloMosaic.Lib.Pointwise
public import Idealize.ShloMosaic.Lib.Ring
public import Idealize.ShloMosaic.Lib.Tactic
public import Idealize.ShloMosaic.Lib.Transfers
public import Idealize.ShloMosaic.Lib.Pipeline.Kit
public import Idealize.ShloMosaic.Lib.Pipeline.FrameValue

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- The array of token rows. -/
abbrev slabRef : Ref sig .tc := main_arg4
/-- The array the experts' rows are written to. -/
abbrev outRef : Ref sig .tc := main_v0
/-- The tables: the chunks' groups, the number of chunks in use, the valid rows of each chunk, the rows' tokens. -/
abbrev gidM : Memref sig .tc .smem S20 .i32 := Memref.whole main_arg0
abbrev nuM : Memref sig .tc .smem S1 .i32 := Memref.whole main_arg1
abbrev nvM : Memref sig .tc .smem S20 .i32 := Memref.whole main_arg2
abbrev srcM : Memref sig .tc .smem S10240 .i32 := Memref.whole main_arg3
abbrev slabM : Memref sig .tc .hbm S8192x24x128 .f32 := Memref.whole slabRef
abbrev outM : Memref sig .tc .hbm S8704x16x128 .f32 := Memref.whole outRef
abbrev xbM : Memref sig .tc .vmem S2x512x24x128 .f32 := Memref.whole cc0_scratch0
abbrev obM : Memref sig .tc .vmem S512x16x128 .f32 := Memref.whole cc0_scratch1
abbrev hM : Memref sig .tc .vmem S512x2048 .bf16 := Memref.whole cc0_scratch2
abbrev accM : Memref sig .tc .vmem S512x2048 .f32 := Memref.whole cc0_scratch3
abbrev actM : Memref sig .tc .vmem S1x512x512 .bf16 := Memref.whole cc0_scratch4

/-- The gather's cell of slot `b`, and the scatter's cell. -/
def gcell (b : ℕ) : DmaSem sig := cc0_scratch5.ix (ix1 (Fin.ofNat 2 b))
abbrev scell : DmaSem sig := ((cc0_scratch6.slice (Rect.unit (s := S1) ![0] S1.size inb_S1_S1_0)).squeeze S_ squeezes_S1_S_).sem

/-- Row `j` of slot `b`; slot `b`; row `v` of the token rows; row `j` of the chunk's rows; row `v` of the result. -/
def xrow (b j : ℕ) : Finset S2x512x24x128.Idx := Finset.univ.filter fun x => (x 0).val = b ∧ (x 1).val = j
def slot (b : ℕ) : Finset S2x512x24x128.Idx := Finset.univ.filter fun x => (x 0).val = b
def srow (v : ℕ) : Finset S8192x24x128.Idx := Finset.univ.filter fun x => (x 0).val = v
def orow (j : ℕ) : Finset S512x16x128.Idx := Finset.univ.filter fun x => (x 0).val = j
def drow (v : ℕ) : Finset S8704x16x128.Idx := Finset.univ.filter fun x => (x 0).val = v

/-- The token row `512 q + j` of the chunks names. -/
def rowOf (src : S10240.Idx → BitVec 32) (q j : ℕ) : ℕ := (src (ix1 (Fin.ofNat 10240 (512 * q + j)))).toNat

/-- What slot `q % 2` holds once chunk `q` is gathered: each row its token's. -/
def XG (src : S10240.Idx → BitVec 32) (slab : S8192x24x128.Idx → Elt F .f32) (q : ℕ) : S2x512x24x128.Idx → Elt F .f32 :=
  fun x => slab (ix3 (Fin.ofNat 8192 (rowOf src q (x 1).val)) (x 2) (x 3))

theorem gdst_set (o : Fin 4 → ℕ) (b j : ℕ) (ho : o = ![b, j, 0, 0]) (h : ∀ a, o a + S1x1x24x128.size a ≤ S2x512x24x128.size a) :
    ((xbM.slice (Rect.unit (s := S2x512x24x128) o S1x1x24x128.size h) (fun _ => rfl)).squeeze S1x24x128 squeezes_S1x1x24x128_S1x24x128).view.set = xrow b j := by
  subst ho
  refine ((View.set_reshape _ _).trans (View.set_slice_whole _ _)).trans ?_
  ext x
  rw [Rect.mem_set_unit]
  have h2 : (x 2).val < 24 := (x 2).isLt
  have h3 : (x 3).val < 128 := (x 3).isLt
  simp only [xrow, Finset.mem_filter, Finset.mem_univ, _root_.true_and]
  constructor
  · intro H
    have a0 : b ≤ (x 0).val ∧ (x 0).val < b + 1 := H 0
    have a1 : j ≤ (x 1).val ∧ (x 1).val < j + 1 := H 1
    omega
  · rintro ⟨e0, e1⟩ a
    fin_cases a
    · show b ≤ (x 0).val ∧ (x 0).val < b + 1; omega
    · show j ≤ (x 1).val ∧ (x 1).val < j + 1; omega
    · show 0 ≤ (x 2).val ∧ (x 2).val < 0 + 24; omega
    · show 0 ≤ (x 3).val ∧ (x 3).val < 0 + 128; omega

theorem gsrc_set (o : Fin 3 → ℕ) (v : ℕ) (ho : o = ![v, 0, 0]) (h : ∀ a, o a + S1x24x128.size a ≤ S8192x24x128.size a) :
    (slabM.slice (Rect.unit (s := S8192x24x128) o S1x24x128.size h) (fun _ => rfl)).view.set = srow v := by
  subst ho
  refine (View.set_slice_whole _ _).trans ?_
  ext x
  rw [Rect.mem_set_unit]
  have h1 : (x 1).val < 24 := (x 1).isLt
  have h2 : (x 2).val < 128 := (x 2).isLt
  simp only [srow, Finset.mem_filter, Finset.mem_univ, _root_.true_and]
  constructor
  · intro H
    have a0 : v ≤ (x 0).val ∧ (x 0).val < v + 1 := H 0
    omega
  · intro e0 a
    fin_cases a
    · show v ≤ (x 0).val ∧ (x 0).val < v + 1; omega
    · show 0 ≤ (x 1).val ∧ (x 1).val < 0 + 24; omega
    · show 0 ≤ (x 2).val ∧ (x 2).val < 0 + 128; omega

theorem sdst_set (o : Fin 3 → ℕ) (v : ℕ) (ho : o = ![v, 0, 0]) (h : ∀ a, o a + S1x16x128.size a ≤ S8704x16x128.size a) :
    (outM.slice (Rect.unit (s := S8704x16x128) o S1x16x128.size h) (fun _ => rfl)).view.set = drow v := by
  subst ho
  refine (View.set_slice_whole _ _).trans ?_
  ext x
  rw [Rect.mem_set_unit]
  have h1 : (x 1).val < 16 := (x 1).isLt
  have h2 : (x 2).val < 128 := (x 2).isLt
  simp only [drow, Finset.mem_filter, Finset.mem_univ, _root_.true_and]
  constructor
  · intro H
    have a0 : v ≤ (x 0).val ∧ (x 0).val < v + 1 := H 0
    omega
  · intro e0 a
    fin_cases a
    · show v ≤ (x 0).val ∧ (x 0).val < v + 1; omega
    · show 0 ≤ (x 1).val ∧ (x 1).val < 0 + 16; omega
    · show 0 ≤ (x 2).val ∧ (x 2).val < 0 + 128; omega

theorem ssrc_set (o : Fin 3 → ℕ) (v : ℕ) (ho : o = ![v, 0, 0]) (h : ∀ a, o a + S1x16x128.size a ≤ S512x16x128.size a) :
    (obM.slice (Rect.unit (s := S512x16x128) o S1x16x128.size h) (fun _ => rfl)).view.set = orow v := by
  subst ho
  refine (View.set_slice_whole _ _).trans ?_
  ext x
  rw [Rect.mem_set_unit]
  have h1 : (x 1).val < 16 := (x 1).isLt
  have h2 : (x 2).val < 128 := (x 2).isLt
  simp only [orow, Finset.mem_filter, Finset.mem_univ, _root_.true_and]
  constructor
  · intro H
    have a0 : v ≤ (x 0).val ∧ (x 0).val < v + 1 := H 0
    omega
  · intro e0 a
    fin_cases a
    · show v ≤ (x 0).val ∧ (x 0).val < v + 1; omega
    · show 0 ≤ (x 1).val ∧ (x 1).val < 0 + 16; omega
    · show 0 ≤ (x 2).val ∧ (x 2).val < 0 + 128; omega

/-- A transfer of token row `v` into row `j` of slot `b` leaves there that row's elements. -/
theorem gather_write (o3 : Fin 4 → ℕ) (b j : ℕ) (ho3 : o3 = ![b, j, 0, 0]) (h3 : ∀ a, o3 a + S1x1x24x128.size a ≤ S2x512x24x128.size a)
    (o4 : Fin 3 → ℕ) (v : ℕ) (ho4 : o4 = ![v, 0, 0]) (h4 : ∀ a, o4 a + S1x24x128.size a ≤ S8192x24x128.size a)
    (g : S2x512x24x128.Idx → Elt F .f32) (slab : S8192x24x128.Idx → Elt F .f32) (x : S2x512x24x128.Idx) (hx : x ∈ xrow b j) :
    ((xbM.slice (Rect.unit (s := S2x512x24x128) o3 S1x1x24x128.size h3) (fun _ => rfl)).squeeze S1x24x128 squeezes_S1x1x24x128_S1x24x128).view.write (Elt F) g
      (ReadAs.same.apply ((slabM.slice (Rect.unit (s := S8192x24x128) o4 S1x24x128.size h4) (fun _ => rfl)).view.read (Elt F) slab)) Finset.univ x
      = slab (ix3 (Fin.ofNat 8192 v) (x 2) (x 3)) := by
  subst ho3 ho4
  have h0 := h4 0
  have hv : v < 8192 := h0
  simp only [xrow, Finset.mem_filter, Finset.mem_univ, _root_.true_and] at hx
  obtain ⟨e0, e1⟩ := hx
  have hemb : x = ((xbM.slice (Rect.unit (s := S2x512x24x128) ![b, j, 0, 0] S1x1x24x128.size h3) (fun _ => rfl)).squeeze S1x24x128 squeezes_S1x1x24x128_S1x24x128).view.emb
      (ix3 (0 : Fin 1) (x 2) (x 3)) := by
    have hr : Shape.reshapeEquiv (s := (⟨4, ![1, 1, 24, 128]⟩ : Shape)) (s' := (⟨3, ![1, 24, 128]⟩ : Shape)) rfl (ix3 (0 : Fin 1) (x 2) (x 3))
        = ix4 (0 : Fin 1) (0 : Fin 1) (x 2) (x 3) := by
      refine (Shape.reshapeEquiv_cons_one (n := 3) (d := ![1, 24, 128]) rfl _).trans ?_
      funext a
      match a with
      | ⟨0, _⟩ => rfl
      | ⟨1, _⟩ => rfl
      | ⟨2, _⟩ => rfl
      | ⟨3, _⟩ => rfl
    show x = (Rect.unit (s := S2x512x24x128) ![b, j, 0, 0] S1x1x24x128.size h3).emb (Shape.reshapeEquiv (s := (⟨4, ![1, 1, 24, 128]⟩ : Shape)) (s' := (⟨3, ![1, 24, 128]⟩ : Shape)) rfl (ix3 (0 : Fin 1) (x 2) (x 3)))
    rw [hr]
    funext a
    apply Fin.ext
    fin_cases a
    · show (x 0).val = b + 0 * 1; omega
    · show (x 1).val = j + 0 * 1; omega
    · show (x 2).val = 0 + 1 * (x 2).val; omega
    · show (x 3).val = 0 + 1 * (x 3).val; omega
  conv_lhs => rw [hemb]
  refine (View.write_emb_of_mem _ _ (Finset.mem_univ _)).trans ?_
  show slab _ = slab _
  congr 1
  funext a
  apply Fin.ext
  fin_cases a
  · show v + 0 * 1 = v % 8192; omega
  · show 0 + 1 * (x 2).val = (x 2).val; omega
  · show 0 + 1 * (x 3).val = (x 3).val; omega

/-- A transfer of row `j` of the chunk's rows into row `v` of the result leaves there that row's elements. -/
theorem scatter_write (o3 : Fin 3 → ℕ) (v : ℕ) (ho3 : o3 = ![v, 0, 0]) (h3 : ∀ a, o3 a + S1x16x128.size a ≤ S8704x16x128.size a)
    (o4 : Fin 3 → ℕ) (j : ℕ) (ho4 : o4 = ![j, 0, 0]) (h4 : ∀ a, o4 a + S1x16x128.size a ≤ S512x16x128.size a)
    (g : S8704x16x128.Idx → Elt F .f32) (ob : S512x16x128.Idx → Elt F .f32) (x : S8704x16x128.Idx) (hx : x ∈ drow v) :
    (outM.slice (Rect.unit (s := S8704x16x128) o3 S1x16x128.size h3) (fun _ => rfl)).view.write (Elt F) g
      (ReadAs.same.apply ((obM.slice (Rect.unit (s := S512x16x128) o4 S1x16x128.size h4) (fun _ => rfl)).view.read (Elt F) ob)) Finset.univ x
      = ob (ix3 (Fin.ofNat 512 j) (x 1) (x 2)) := by
  subst ho3 ho4
  have h0 := h4 0
  have hv : j < 512 := h0
  simp only [drow, Finset.mem_filter, Finset.mem_univ, _root_.true_and] at hx
  have hemb : x = (outM.slice (Rect.unit (s := S8704x16x128) ![v, 0, 0] S1x16x128.size h3) (fun _ => rfl)).view.emb
      (ix3 (0 : Fin 1) (x 1) (x 2)) := by
    show x = (Rect.unit (s := S8704x16x128) ![v, 0, 0] S1x16x128.size h3).emb (ix3 (0 : Fin 1) (x 1) (x 2))
    funext a
    apply Fin.ext
    fin_cases a
    · show (x 0).val = v + 1 * 0; omega
    · show (x 1).val = 0 + 1 * (x 1).val; omega
    · show (x 2).val = 0 + 1 * (x 2).val; omega
  conv_lhs => rw [hemb]
  refine (View.write_emb_of_mem _ _ (Finset.mem_univ _)).trans ?_
  show ob _ = ob _
  congr 1
  funext a
  apply Fin.ext
  fin_cases a
  · show j + 1 * 0 = j % 512; omega
  · show 0 + 1 * (x 1).val = (x 1).val; omega
  · show 0 + 1 * (x 2).val = (x 2).val; omega

end Cert.Kernel2Ideal.Moe

end
-- ==== Proof.MoeGather.lean ====
/- The gather of one chunk's rows: its transfers as one batch, one trip of its loops, and its collection. -/
module

public import proofs.«01_k».proof.Proof.MoeNames

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD) (src : S10240.Idx → Elt F .i32) (slab : S8192x24x128.Idx → Elt F .f32)

/-- Row `j` of slot `b` at contents `f`. -/
abbrev xrowPt (b j : ℕ) (f : S2x512x24x128.Idx → Elt F .f32) : sProp 𝕄 := xbM.view.loc (c : Thread nD τ) ↦[xrow b j]{fullShare} f
/-- Part `S` of the token rows under token `t`. -/
abbrev slabTok (S : Finset S8192x24x128.Idx) (t : ℕ) : sProp 𝕄 := slabM.view.loc (c : Thread nD τ) ↦[S]{Transfers.shareTokN fullShare t} slab

/-- What transfer `j` of chunk `q`'s gather delivers: the row landed, and the token's row back. -/
def gD (q : ℕ) (j : Fin 512) : sProp 𝕄 :=
  iprop(xrowPt c (q % 2) j (XG src slab q) ∗ slabTok c slab (srow (rowOf src q j)) j)

instance gD_storable (q : ℕ) (j : Fin 512) : BI.Storable (upEmb : UEmb _ 𝕄) (gD c src slab q j) := by
  unfold gD; infer_instance

/-- Chunk `q`'s gather with `k` transfers issued. -/
def GB (q k : ℕ) : sProp 𝕄 :=
  iprop(Transfers.Batch (countersEmb (U := Pipeline.UD sig nD τ)) (c : Thread nD τ) (.dma (gcell (q % 2))) () 384 (gD c src slab q) k 0
    ∗ bigSep (Ring.rangeSet 512 k 512) (fun j => iprop(slabTok c slab Finset.univ j ∗ ∃ f, xrowPt c (q % 2) j f))
    ∗ bigSep (Ring.rangeSet 512 0 k) (fun j => slabTok c slab (Finset.univ \ srow (rowOf src q j)) j)
    ∗ slabM.view.loc (c : Thread nD τ) ↦{Transfers.shareDrop fullShare 512} slab)

/-- The rows' table held. -/
abbrev srcPt : sProp 𝕄 := srcM.view.loc (c : Thread nD τ) ↦{fullShare.right} src

/-- The word of the rows' table at one offset. -/
theorem src_word (o : Fin 1 → ℕ) (n : ℕ) (ho : o = ![n]) (h : ∀ a, o a + S1.size a ≤ S10240.size a) (x : _) :
    (srcM.access (Rect.unit (s := S10240) o S1.size h)).read (Elt F) src x = src (ix1 (Fin.ofNat 10240 n)) := by
  subst ho
  have hn : n < 10240 := by have := h 0; simp at this; omega
  rw [View.read_apply]
  refine congrArg src (funext fun a => Fin.ext ?_)
  match a with
  | ⟨0, _⟩ =>
    have hx : (x 0).val < 1 := (x 0).isLt
    show n + 1 * (x 0).val = n % 10240
    rw [Nat.mod_eq_of_lt hn]; omega

/-- A word of the rows' table, at the head of a program. -/
theorem wp_srcWord (o : Fin 1 → ℕ) (n : ℕ) (ho : o = ![n]) (h : ∀ a, o a + S1.size a ≤ S10240.size a) {α : Type}
    (K : Elt F .i32 → Prog (TpuEff nD τ sig (Elt F) Λ₀ .tc) α) (Q : α → sProp 𝕄) :
    srcPt c src
      ⊢ iprop((srcPt c src -∗ wp frame (wpE (defs₀ (F := F)) Variants.none (c : Thread nD τ) none) Set.univ (K (src (ix1 (Fin.ofNat 10240 n)))) Q)
        -∗ wp frame (wpE (defs₀ (F := F)) Variants.none (c : Thread nD τ) none) Set.univ
            (smemLoad srcM (Rect.unit (s := S10240) o S1.size h) numel1_S1 rfl >>= K) Q) := by
  have hw := src_word (F := F) src o n ho h (Shape.Idx.first (numel1_S1.symm ▸ Nat.one_pos))
  rw [← hw]
  exact wp_smemLoadElt (m := srcM) (r := Rect.unit (s := S10240) o S1.size h) (hw := View.loads_smem_one rfl numel1_S1)
    (x := Shape.Idx.first (numel1_S1.symm ▸ Nat.one_pos)) (k := K) Variants.none (c : Thread nD τ) none Set.univ (Finset.subset_univ _)

theorem ret_then {E : Type → Type} {α β : Type} (a : α) (k : α → Prog E β) : (Prog.ret a).bind k = k a := rfl

/-- One trip of the gather's loops: row `k` of chunk `q` issued. -/
theorem gather_trip (q k : ℕ) (hk : k < 512) (hq : q < 20) (o2 : Fin 1 → ℕ) (ho2 : o2 = ![512 * q + k]) (h2 : ∀ a, o2 a + S1.size a ≤ S10240.size a)
    (o3 : Fin 4 → ℕ) (ho3 : o3 = ![q % 2, k, 0, 0]) (h3 : ∀ a, o3 a + S1x1x24x128.size a ≤ S2x512x24x128.size a)
    (o4 : BitVec 32 → Fin 3 → ℕ) (ho4 : ∀ v, o4 v = ![v.toNat, 0, 0]) (P : BitVec 32 → Prop) (dP : ∀ v, Decidable (P v))
    (hP : P (src (ix1 (Fin.ofNat 10240 (512 * q + k)))))
    (h4 : ∀ v, P v → ∀ a, o4 v a + S1x24x128.size a ≤ S8192x24x128.size a)
    (sm : DmaSem sig) (hsm : sm = gcell (q % 2)) (Q : Unit → sProp 𝕄) :
    iprop(GB c src slab q k ∗ srcPt c src ∗ (iprop(GB c src slab q (k + 1) ∗ srcPt c src) -∗ Q ()))
      ⊢ wp frame (wpE (defs₀ (F := F)) Variants.none (c : Thread nD τ) none) Set.univ (do
          let v : Elt F .i32 ← smemLoad srcM (Rect.unit (s := S10240) o2 S1.size h2) numel1_S1 rfl
          have hw : P v := (← Prog.lift (TpuEff.assume (P v) (dP v))).down
          Prog.lift (.enqueueDma (slabM.slice (Rect.unit (s := S8192x24x128) (o4 v) S1x24x128.size (h4 v hw)) (fun _ => rfl))
            (.here ((xbM.slice (Rect.unit (s := S2x512x24x128) o3 S1x1x24x128.size h3) (fun _ => rfl)).squeeze S1x24x128 squeezes_S1x1x24x128_S1x24x128))
            (.dma sm) (View.wordExact_bits rfl) ((View.wordExact_bits rfl).reshape _ _) ⟨Or.inl rfl, trivial⟩)
          pure ⟨⟩ : Prog (TpuEff nD τ sig (Elt F) Λ₀ .tc) Unit) Q := by
  subst hsm
  unfold GB
  rw [Ring.bigSep_rangeSet_head (lo := k) (by omega) (by omega)]
  iintro ⟨⟨HB, ⟨⟨Ht, ⟨%f, Hx⟩⟩, Hp⟩, Hr, Hd⟩, Hs, Hk⟩
  have hrow : srow (rowOf src q k) ⊆ (Finset.univ : Finset S8192x24x128.Idx) := Finset.subset_univ _
  ihave Ht2 := (pointsTo_split_subset hrow).1 $$ Ht
  icases Ht2 with ⟨Ht, Htr⟩
  iapply (wp_srcWord c src o2 _ ho2 h2) $$ Hs
  iintro Hs
  iapply (wp_assume Variants.none (c : Thread nD τ) none Set.univ hP)
  have hsrc := gsrc_set (o4 (src (ix1 (Fin.ofNat 10240 (512 * q + k))))) _ (ho4 _) (h4 _ hP)
  have hdst := gdst_set o3 _ _ ho3 h3
  iapply (Transfers.wp_dmaBatch (countersEmb (U := Pipeline.UD sig nD τ)) Variants.none (c : Thread nD τ) none
    (src := slabM.slice (Rect.unit (s := S8192x24x128) (o4 (src (ix1 (Fin.ofNat 10240 (512 * q + k))))) S1x24x128.size (h4 _ hP)) (fun _ => rfl))
    (dst := (xbM.slice (Rect.unit (s := S2x512x24x128) o3 S1x1x24x128.size h3) (fun _ => rfl)).squeeze S1x24x128 squeezes_S1x1x24x128_S1x24x128)
    (fs := slab) (fd := f) (q := Transfers.shareTokN fullShare k) (Sd := xrow (q % 2) k) () 384 (show RefSig.tileCredit S1x24x128 .f32 = 384 by decide +kernel) (subset_of_eq hdst)
    (D := gD c src slab q) (j := k) (u := 0) (sm := .dma (gcell (q % 2))) hk (Nat.zero_le _) ?hD) $$ [Ht Hx HB]
  case hD =>
    unfold gD
    refine sep_mono (Entails.of_eq (pointsTo_congr fun x hx => ?_)) (Entails.of_eq (by rw [hsrc]; rfl))
    have hx1 : (x 1).val = k := by
      simp only [xrow, Finset.mem_filter, Finset.mem_univ, _root_.true_and] at hx
      exact hx.2
    refine (gather_write o3 _ _ ho3 h3 _ _ (ho4 _) (h4 _ hP) f slab x hx).trans ?_
    unfold XG rowOf
    rw [hx1]
  · isplitl [Ht]
    · rw [hsrc]; iexact Ht
    isplitl [Hx]; · iexact Hx
    iexact HB
  iintro HB
  simp only [ret_then]
  sl_step
  iapply Hk
  isplitr [Hs]
  · isplitl [HB]; · iexact HB
    isplitl [Hp]; · iexact Hp
    isplitr [Hd]
    · rw [Ring.bigSep_rangeSet_last (lo := 0) (hi := k + 1) (by omega) (by omega)]
      isplitl [Htr]; · iexact Htr
      iexact Hr
    iexact Hd
  iexact Hs

/-- A slot is its rows. -/
theorem slot_rows (b : ℕ) (f : S2x512x24x128.Idx → Elt F .f32) :
    (xbM.view.loc (c : Thread nD τ) ↦[slot b]{fullShare} f : sProp 𝕄) = bigSep Finset.univ (fun j : Fin 512 => xrowPt c b j f) := by
  have e : slot b = Finset.univ.biUnion (fun j : Fin 512 => xrow b j) := by
    ext x
    simp only [slot, xrow, Finset.mem_filter, Finset.mem_univ, _root_.true_and, Finset.mem_biUnion]
    exact ⟨fun h => ⟨⟨(x 1).val, (x 1).isLt⟩, h, rfl⟩, fun ⟨_, h, _⟩ => h⟩
  rw [e]
  refine pointsTo_biUnion _ _ fun i _ j _ hij => Finset.disjoint_left.2 fun x hx hy => hij (Fin.ext ?_)
  simp only [xrow, Finset.mem_filter, Finset.mem_univ, _root_.true_and] at hx hy
  omega

/-- The token rows whole are the remainder and one share for each transfer. -/
theorem slab_toks :
    (slabM.view.loc (c : Thread nD τ) ↦{fullShare} slab : sProp 𝕄)
      ⊣⊢ iprop((slabM.view.loc (c : Thread nD τ) ↦{Transfers.shareDrop fullShare 512} slab)
          ∗ bigSep Finset.univ (fun j : Fin 512 => slabTok c slab Finset.univ j)) := by
  have e : bigSep Finset.univ (fun j : Fin 512 => (slabTok c slab Finset.univ j : sProp 𝕄)) = bigSep (Finset.range 512) (fun i => slabTok c slab Finset.univ i) := by
    rw [← Ring.rangeSet_univ (NB := 512), Ring.bigSep_rangeSet_eq_range le_rfl (fun i => slabTok c slab Finset.univ i) (fun k h => by simp)]
  rw [e]
  exact Transfers.pointsTo_toks_range fullShare 512

/-- The gather of chunk `q` begins: nothing issued, every row of its slot and every token at hand. -/
theorem gather_alloc (q : ℕ) :
    iprop(semVal ((c : Thread nD τ), SemLoc.dma (gcell (q % 2))) 0
        ∗ (∃ f, xbM.view.loc (c : Thread nD τ) ↦[slot (q % 2)]{fullShare} f)
        ∗ (slabM.view.loc (c : Thread nD τ) ↦{fullShare} slab))
      ⊢ |={Set.univ}=> GB c src slab q 0 := by
  unfold GB
  rw [Ring.rangeSet_univ, Ring.bigSep_rangeSet_empty le_rfl, bigSep_sep']
  iintro ⟨Hg, ⟨%f, Hx⟩, Hs⟩
  imod (Transfers.batch_alloc' (Lvl := ℕ) (countersEmb (U := Pipeline.UD sig nD τ)) (c : Thread nD τ) () 384 (gD c src slab q)
    (sm := .dma (gcell (q % 2))) (E := Set.univ)) $$ Hg with HB
  imodintro
  ihave Hx := (Entails.of_eq (slot_rows c (q % 2) f)) $$ Hx
  ihave Hs := (slab_toks c slab).1 $$ Hs
  icases Hs with ⟨Hd, Ht⟩
  isplitl [HB]; · iexact HB
  isplitr [Hd]
  · isplitl [Ht]; · iexact Ht
    ihave Hx := (show bigSep Finset.univ (fun j : Fin 512 => (xrowPt c (q % 2) j f : sProp 𝕄)) ⊢ bigSep Finset.univ (fun j : Fin 512 => iprop(∃ f, xrowPt c (q % 2) j f))
      from BI.bigSep_mono fun j _ => exists_intro (Φ := fun f => xrowPt c (q % 2) j f) f) $$ Hx
    iexact Hx
  isplitr [Hd]; · iempintro
  iexact Hd

/-- The gather of chunk `q` ends: its slot holds the chunk's rows. -/
theorem gather_collect (q : ℕ) :
    iprop(bigSep Finset.univ (gD c src slab q) ∗ bigSep (Ring.rangeSet 512 0 512) (fun j => slabTok c slab (Finset.univ \ srow (rowOf src q j)) j)
        ∗ slabM.view.loc (c : Thread nD τ) ↦{Transfers.shareDrop fullShare 512} slab)
      ⊢ iprop((xbM.view.loc (c : Thread nD τ) ↦[slot (q % 2)]{fullShare} XG src slab q) ∗ slabM.view.loc (c : Thread nD τ) ↦{fullShare} slab) := by
  unfold gD
  rw [slot_rows, Ring.rangeSet_univ, bigSep_sep']
  iintro ⟨⟨Hx, Ht⟩, Hr, Hd⟩
  isplitl [Hx]; · iexact Hx
  iapply (slab_toks c slab).2
  isplitl [Hd]; · iexact Hd
  ihave H := (show iprop(bigSep Finset.univ (fun j : Fin 512 => slabTok c slab (srow (rowOf src q j)) j)
      ∗ bigSep Finset.univ (fun j : Fin 512 => slabTok c slab (Finset.univ \ srow (rowOf src q j)) j))
      ⊢ bigSep Finset.univ (fun j : Fin 512 => (slabTok c slab Finset.univ j : sProp 𝕄)) from by
    rw [← bigSep_sep']
    exact BI.bigSep_mono fun j _ => (pointsTo_split_subset (Finset.subset_univ _)).2) $$ [Ht Hr]
  · isplitl [Ht] <;> iassumption
  iexact H

/-- The wait for chunk `q`'s gather: its slot holds the chunk's rows, the cell is at zero, the token rows are whole again. -/
theorem gather_wait (q : ℕ) {W : Waits sig Unit} (sm : DmaSem sig) (hsm : sm = gcell (q % 2)) {α : Type}
    {spw sp : Space} {sw s : Shape} {ew e : EltTy} {srcw : Memref sig .tc spw sw ew} {dstw : Memref sig .tc sp s e}
    (hJ : dstw.view.dmaCredit = 384 * 512) {h1 : srcw.view.WordExact} {h2 : dstw.view.WordExact}
    (K : PUnit → Prog (TpuEff nD τ sig (Elt F) Λ₀ .tc) α) (Q : α → sProp 𝕄) :
    iprop(GB c src slab q 512 ∗ owes (c : Thread nD τ) 0 W)
      ⊢ iprop((iprop((xbM.view.loc (c : Thread nD τ) ↦[slot (q % 2)]{fullShare} XG src slab q)
            ∗ (slabM.view.loc (c : Thread nD τ) ↦{fullShare} slab) ∗ semVal ((c : Thread nD τ), SemLoc.dma (gcell (q % 2))) 0
            ∗ owes (c : Thread nD τ) 0 (insert (SemLoc.dma (gcell (q % 2)), ()) W))
          -∗ wp frame (wpE (defs₀ (F := F)) Variants.none (c : Thread nD τ) none) Set.univ (K ⟨⟩) Q)
        -∗ wp frame (wpE (defs₀ (F := F)) Variants.none (c : Thread nD τ) none) Set.univ (.op (.waitDma2 sm srcw dstw h1 h2) K) Q) := by
  subst hsm
  unfold GB
  iintro ⟨⟨HB, Hp, Hr, Hd⟩, HO⟩ Hk
  iapply (Transfers.wp_waitBatchAll (countersEmb (U := Pipeline.UD sig nD τ)) Variants.none (c : Thread nD τ) none () (n := 512) (N := 384) (D := gD c src slab q) (u := 0)
    hJ (by decide) (by decide)) $$ [HB HO]
  · isplitl [HB] <;> iassumption
  iintro ⟨HD, Hg, HO⟩
  iapply Hk
  ihave H := (gather_collect c src slab q) $$ [HD Hr Hd]
  · isplitl [HD]; · iexact HD
    isplitl [Hr] <;> iassumption
  icases H with ⟨Hx, Hs⟩
  isplitl [Hx]; · iexact Hx
  isplitl [Hs]; · iexact Hs
  isplitl [Hg] <;> iassumption

end Cert.Kernel2Ideal.Moe

end
-- ==== Proof.MoeScatter.lean ====
/- The scatter of one chunk's rows: its transfers as one batch, one trip of its loop, and its wait. -/
module

public import proofs.«01_k».proof.Proof.MoeGather

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD) (nv : S20.Idx → Elt F .i32) (src : S10240.Idx → Elt F .i32)
  (dst : Fin 512 → ℕ) (ob : S512x16x128.Idx → Elt F .f32) (g : S8704x16x128.Idx → Elt F .f32)

/-- The result once a chunk's rows `ob` are written over `g`, row `j` at `dst j`. -/
def outNext : S8704x16x128.Idx → Elt F .f32 := fun x =>
  open Classical in if h : ∃ j, dst j = (x 0).val then ob (ix3 (Classical.choose h) (x 1) (x 2)) else g x

theorem outNext_row (hd : Function.Injective dst) (j : Fin 512) (x : S8704x16x128.Idx) (hx : x ∈ drow (dst j)) :
    outNext dst ob g x = ob (ix3 j (x 1) (x 2)) := by
  simp only [drow, Finset.mem_filter, Finset.mem_univ, _root_.true_and] at hx
  have h : ∃ j, dst j = (x 0).val := ⟨j, hx.symm⟩
  have e : Classical.choose h = j := hd ((Classical.choose_spec h).trans hx)
  unfold outNext
  rw [dif_pos h, e]

theorem outNext_off (x : S8704x16x128.Idx) (hx : ∀ j, dst j ≠ (x 0).val) : outNext dst ob g x = g x := by
  unfold outNext
  exact dif_neg fun ⟨j, h⟩ => hx j h

/-- The rows no transfer of the chunk writes. -/
def restRows : Finset S8704x16x128.Idx := Finset.univ \ Finset.univ.biUnion (fun j => drow (dst j))

abbrev obPt (j : ℕ) : sProp 𝕄 := obM.view.loc (c : Thread nD τ) ↦[orow j]{fullShare} ob
abbrev outPt (S : Finset S8704x16x128.Idx) (f : S8704x16x128.Idx → Elt F .f32) : sProp 𝕄 := outM.view.loc (c : Thread nD τ) ↦[S]{fullShare} f

/-- What transfer `j` of a chunk's scatter delivers: the row landed, and the chunk's row back. -/
def sD (j : Fin 512) : sProp 𝕄 := iprop(outPt c (drow (dst j)) (outNext dst ob g) ∗ obPt c ob j)

instance sD_storable (j : Fin 512) : BI.Storable (upEmb : UEmb _ 𝕄) (sD c dst ob g j) := by
  unfold sD; infer_instance

/-- A chunk's scatter with `k` transfers issued. -/
def SB (k : ℕ) : sProp 𝕄 :=
  iprop(Transfers.Batch (countersEmb (U := Pipeline.UD sig nD τ)) (c : Thread nD τ) (.dma scell) () 256 (sD c dst ob g) k 0
    ∗ bigSep (Ring.rangeSet 512 k 512) (fun j => iprop(obPt c ob j ∗ outPt c (drow (dst j)) g))
    ∗ outPt c (restRows dst) (outNext dst ob g))

/-- The valid rows' table held. -/
abbrev nvPt : sProp 𝕄 := nvM.view.loc (c : Thread nD τ) ↦{fullShare.right} nv

theorem nv_word (o : Fin 1 → ℕ) (n : ℕ) (ho : o = ![n]) (h : ∀ a, o a + S1.size a ≤ S20.size a) (x : _) :
    (nvM.access (Rect.unit (s := S20) o S1.size h)).read (Elt F) nv x = nv (ix1 (Fin.ofNat 20 n)) := by
  subst ho
  have hn : n < 20 := by have := h 0; simp at this; omega
  rw [View.read_apply]
  refine congrArg nv (funext fun a => Fin.ext ?_)
  match a with
  | ⟨0, _⟩ =>
    have hx : (x 0).val < 1 := (x 0).isLt
    show n + 1 * (x 0).val = n % 20
    rw [Nat.mod_eq_of_lt hn]; omega

/-- A word of the valid rows' table, at the head of a program. -/
theorem wp_nvWord (o : Fin 1 → ℕ) (n : ℕ) (ho : o = ![n]) (h : ∀ a, o a + S1.size a ≤ S20.size a) {α : Type}
    (K : Elt F .i32 → Prog (TpuEff nD τ sig (Elt F) Λ₀ .tc) α) (Q : α → sProp 𝕄) :
    nvPt c nv
      ⊢ iprop((nvPt c nv -∗ wp frame (wpE (defs₀ (F := F)) Variants.none (c : Thread nD τ) none) Set.univ (K (nv (ix1 (Fin.ofNat 20 n)))) Q)
        -∗ wp frame (wpE (defs₀ (F := F)) Variants.none (c : Thread nD τ) none) Set.univ
            (smemLoad nvM (Rect.unit (s := S20) o S1.size h) numel1_S1 rfl >>= K) Q) := by
  have hw := nv_word (F := F) nv o n ho h (Shape.Idx.first (numel1_S1.symm ▸ Nat.one_pos))
  rw [← hw]
  exact wp_smemLoadElt (m := nvM) (r := Rect.unit (s := S20) o S1.size h) (hw := View.loads_smem_one rfl numel1_S1)
    (x := Shape.Idx.first (numel1_S1.symm ▸ Nat.one_pos)) (k := K) Variants.none (c : Thread nD τ) none Set.univ (Finset.subset_univ _)

/-- One trip of the scatter's loop: row `k` issued. -/
theorem scatter_trip (hd : Function.Injective dst) (q k : ℕ) (hk : k < 512) (o1 : Fin 1 → ℕ) (ho1 : o1 = ![q]) (h1 : ∀ a, o1 a + S1.size a ≤ S20.size a)
    (o2 : Fin 1 → ℕ) (ho2 : o2 = ![512 * q + k]) (h2 : ∀ a, o2 a + S1.size a ≤ S10240.size a)
    (o4 : Fin 3 → ℕ) (ho4 : o4 = ![k, 0, 0]) (h4 : ∀ a, o4 a + S1x16x128.size a ≤ S512x16x128.size a)
    (o3 : BitVec 32 → BitVec 32 → Fin 3 → ℕ) (ho3 : o3 (nv (ix1 (Fin.ofNat 20 q))) (src (ix1 (Fin.ofNat 10240 (512 * q + k)))) = ![dst ⟨k, hk⟩, 0, 0])
    (P : BitVec 32 → BitVec 32 → Prop) (dP : ∀ v w, Decidable (P v w))
    (hP : P (nv (ix1 (Fin.ofNat 20 q))) (src (ix1 (Fin.ofNat 10240 (512 * q + k)))))
    (h3 : ∀ v w, P v w → ∀ a, o3 v w a + S1x16x128.size a ≤ S8704x16x128.size a) (Q : Unit → sProp 𝕄) :
    iprop(SB c dst ob g k ∗ nvPt c nv ∗ srcPt c src ∗ (iprop(SB c dst ob g (k + 1) ∗ nvPt c nv ∗ srcPt c src) -∗ Q ()))
      ⊢ wp frame (wpE (defs₀ (F := F)) Variants.none (c : Thread nD τ) none) Set.univ (do
          let v : Elt F .i32 ← smemLoad nvM (Rect.unit (s := S20) o1 S1.size h1) numel1_S1 rfl
          let w : Elt F .i32 ← smemLoad srcM (Rect.unit (s := S10240) o2 S1.size h2) numel1_S1 rfl
          have hw : P v w := (← Prog.lift (TpuEff.assume (P v w) (dP v w))).down
          Prog.lift (.enqueueDma (obM.slice (Rect.unit (s := S512x16x128) o4 S1x16x128.size h4) (fun _ => rfl))
            (.here (outM.slice (Rect.unit (s := S8704x16x128) (o3 v w) S1x16x128.size (h3 v w hw)) (fun _ => rfl)))
            (.dma scell) (View.wordExact_bits rfl) (View.wordExact_bits rfl) ⟨Or.inl rfl, trivial⟩)
          pure ⟨⟩ : Prog (TpuEff nD τ sig (Elt F) Λ₀ .tc) Unit) Q := by
  unfold SB
  rw [Ring.bigSep_rangeSet_head (lo := k) (by omega) (by omega)]
  iintro ⟨⟨HB, ⟨⟨Ho, Hx⟩, Hp⟩, Hr⟩, Hn, Hs, Hk⟩
  iapply (wp_nvWord c nv o1 _ ho1 h1) $$ Hn
  iintro Hn
  iapply (wp_srcWord c src o2 _ ho2 h2) $$ Hs
  iintro Hs
  iapply (wp_assume Variants.none (c : Thread nD τ) none Set.univ hP)
  have hsrc := ssrc_set o4 _ ho4 h4
  have hdst := sdst_set _ _ ho3 (h3 _ _ hP)
  iapply (Transfers.wp_dmaBatch (countersEmb (U := Pipeline.UD sig nD τ)) Variants.none (c : Thread nD τ) none
    (src := obM.slice (Rect.unit (s := S512x16x128) o4 S1x16x128.size h4) (fun _ => rfl))
    (dst := outM.slice (Rect.unit (s := S8704x16x128) (o3 (nv (ix1 (Fin.ofNat 20 q))) (src (ix1 (Fin.ofNat 10240 (512 * q + k))))) S1x16x128.size (h3 _ _ hP)) (fun _ => rfl))
    (fs := ob) (fd := g) (q := fullShare) (Sd := drow (dst ⟨k, hk⟩)) () 256 (show RefSig.tileCredit S1x16x128 .f32 = 256 by decide +kernel) (subset_of_eq hdst)
    (D := sD c dst ob g) (j := k) (u := 0) (sm := .dma scell) hk (Nat.zero_le _) ?hD) $$ [Ho Hx HB]
  case hD =>
    unfold sD
    refine BI.sep_mono (Entails.of_eq (pointsTo_congr fun x hx => ?_)) ?_
    · refine (scatter_write _ _ ho3 (h3 _ _ hP) o4 _ ho4 h4 g ob x hx).trans ?_
      rw [outNext_row dst ob g hd ⟨k, hk⟩ x hx]
      congr 2
      exact Fin.ext (Nat.mod_eq_of_lt hk)
    · rw [hsrc]
      exact BI.Entails.refl _
  · isplitl [Ho]
    · rw [hsrc]; iexact Ho
    isplitl [Hx]; · iexact Hx
    iexact HB
  iintro HB
  simp only [ret_then]
  sl_step
  iapply Hk
  isplitr [Hn Hs]
  · isplitl [HB]; · iexact HB
    isplitl [Hp]; · iexact Hp
    iexact Hr
  isplitl [Hn] <;> iassumption

/-- The chunk's rows are its buffer. -/
theorem ob_rows : (obM.view.loc (c : Thread nD τ) ↦{fullShare} ob : sProp 𝕄) = bigSep Finset.univ (fun j : Fin 512 => obPt c ob j) := by
  have e : (Finset.univ : Finset S512x16x128.Idx) = Finset.univ.biUnion (fun j : Fin 512 => orow j) := by
    ext x
    simp only [orow, Finset.mem_filter, Finset.mem_univ, _root_.true_and, Finset.mem_biUnion, _root_.true_iff]
    exact ⟨⟨(x 0).val, (x 0).isLt⟩, rfl⟩
  show (obM.view.loc (c : Thread nD τ) ↦[(Finset.univ : Finset S512x16x128.Idx)]{fullShare} ob : sProp 𝕄) = _
  rw [e]
  refine pointsTo_biUnion _ _ fun i _ j _ hij => Finset.disjoint_left.2 fun x hx hy => hij (Fin.ext ?_)
  simp only [orow, Finset.mem_filter, Finset.mem_univ, _root_.true_and] at hx hy
  omega

/-- The result is the rows the chunk writes and the rest. -/
theorem out_rows (hd : Function.Injective dst) (f : S8704x16x128.Idx → Elt F .f32) :
    (outM.view.loc (c : Thread nD τ) ↦{fullShare} f : sProp 𝕄)
      ⊣⊢ iprop(bigSep Finset.univ (fun j : Fin 512 => outPt c (drow (dst j)) f) ∗ outPt c (restRows dst) f) := by
  have e : bigSep Finset.univ (fun j : Fin 512 => (outPt c (drow (dst j)) f : sProp 𝕄)) = outPt c (Finset.univ.biUnion fun j => drow (dst j)) f := by
    refine (pointsTo_biUnion _ _ fun i _ j _ hij => Finset.disjoint_left.2 fun x hx hy => hij (hd ?_)).symm
    simp only [drow, Finset.mem_filter, Finset.mem_univ, _root_.true_and] at hx hy
    omega
  rw [e]
  exact pointsTo_split_subset (Finset.subset_univ _)

/-- A chunk's scatter begins: nothing issued, every row at hand. -/
theorem scatter_alloc (hd : Function.Injective dst) :
    iprop(semVal ((c : Thread nD τ), SemLoc.dma scell) 0 ∗ (obM.view.loc (c : Thread nD τ) ↦{fullShare} ob)
        ∗ (outM.view.loc (c : Thread nD τ) ↦{fullShare} g))
      ⊢ |={Set.univ}=> SB c dst ob g 0 := by
  unfold SB
  rw [Ring.rangeSet_univ, bigSep_sep', ob_rows]
  iintro ⟨Hg, Ho, Hx⟩
  imod (Transfers.batch_alloc' (Lvl := ℕ) (countersEmb (U := Pipeline.UD sig nD τ)) (c : Thread nD τ) () 256 (sD c dst ob g)
    (sm := .dma scell) (E := Set.univ)) $$ Hg with HB
  imodintro
  ihave Hx := (out_rows c dst hd g).1 $$ Hx
  icases Hx with ⟨Hx, Hr⟩
  isplitl [HB]; · iexact HB
  isplitr [Hr]
  · isplitl [Ho] <;> iassumption
  · ihave Hr := (Entails.of_eq (pointsTo_congr (f := g) (g := outNext dst ob g) fun x hx => by
      refine (outNext_off dst ob g x fun j hj => ?_).symm
      simp only [restRows, drow, Finset.mem_sdiff, Finset.mem_biUnion, Finset.mem_filter, Finset.mem_univ, _root_.true_and, not_exists] at hx
      exact hx j hj.symm)) $$ Hr
    iexact Hr

/-- The wait for a chunk's scatter: its rows are in the result, the buffer and the cell are back. -/
theorem scatter_wait (hd : Function.Injective dst) {W : Waits sig Unit} {α : Type}
    {spw sp : Space} {sw s : Shape} {ew e : EltTy} {srcw : Memref sig .tc spw sw ew} {dstw : Memref sig .tc sp s e}
    (hJ : dstw.view.dmaCredit = 256 * 512) {h1 : srcw.view.WordExact} {h2 : dstw.view.WordExact}
    (K : PUnit → Prog (TpuEff nD τ sig (Elt F) Λ₀ .tc) α) (Q : α → sProp 𝕄) :
    iprop(SB c dst ob g 512 ∗ owes (c : Thread nD τ) 0 W)
      ⊢ iprop((iprop((obM.view.loc (c : Thread nD τ) ↦{fullShare} ob) ∗ (outM.view.loc (c : Thread nD τ) ↦{fullShare} outNext dst ob g)
            ∗ semVal ((c : Thread nD τ), SemLoc.dma scell) 0 ∗ owes (c : Thread nD τ) 0 (insert (SemLoc.dma scell, ()) W))
          -∗ wp frame (wpE (defs₀ (F := F)) Variants.none (c : Thread nD τ) none) Set.univ (K ⟨⟩) Q)
        -∗ wp frame (wpE (defs₀ (F := F)) Variants.none (c : Thread nD τ) none) Set.univ (.op (.waitDma2 scell srcw dstw h1 h2) K) Q) := by
  unfold SB
  iintro ⟨⟨HB, Hp, Hr⟩, HO⟩ Hk
  iapply (Transfers.wp_waitBatchAll (countersEmb (U := Pipeline.UD sig nD τ)) Variants.none (c : Thread nD τ) none () (n := 512) (N := 256) (D := sD c dst ob g) (u := 0)
    hJ (by decide) (by decide)) $$ [HB HO]
  · isplitl [HB] <;> iassumption
  iintro ⟨HD, Hg, HO⟩
  iapply Hk
  ihave H := (show iprop(bigSep Finset.univ (sD c dst ob g) ∗ outPt c (restRows dst) (outNext dst ob g))
      ⊢ iprop((obM.view.loc (c : Thread nD τ) ↦{fullShare} ob) ∗ (outM.view.loc (c : Thread nD τ) ↦{fullShare} outNext dst ob g)) from by
    unfold sD
    rw [bigSep_sep', ob_rows]
    iintro ⟨⟨Hx, Ho⟩, Hr⟩
    isplitl [Ho]; · iexact Ho
    iapply (out_rows c dst hd (outNext dst ob g)).2
    isplitl [Hx] <;> iassumption) $$ [HD Hr]
  · isplitl [HD] <;> iassumption
  icases H with ⟨Ho, Hx⟩
  isplitl [Ho]; · iexact Ho
  isplitl [Hx]; · iexact Hx
  isplitl [Hg] <;> iassumption

end Cert.Kernel2Ideal.Moe

end
-- ==== Proof.MoeOffs.lean ====
/- The printed offsets and conditions of the experts call, as numbers. -/
module

public import proofs.«01_k».proof.Proof.MoeNames

@[expose] public section

noncomputable section

namespace Cert.Kernel2Ideal.Moe

open Cert.Kernel2Ideal Cert.Kernel2Ideal.Gen
open Idealize.ShloMosaic

theorem vec1 {a b : ℕ} (h : a = b) : (![a] : Fin 1 → ℕ) = ![b] := by rw [h]
theorem vec2 {a b : ℕ} (h : a = b) : (![a, 0] : Fin 2 → ℕ) = ![b, 0] := by rw [h]
theorem vec3 {a b : ℕ} (h : a = b) : (![a, 0, 0] : Fin 3 → ℕ) = ![b, 0, 0] := by rw [h]
theorem vec4 {a b x y z : ℕ} (h : a = b) : (![a, x, y, z] : Fin 4 → ℕ) = ![b, x, y, z] := by rw [h]
theorem vec4' {a b x y z w : ℕ} (h : a = b) (h' : x = y) : (![a, x, z, w] : Fin 4 → ℕ) = ![b, y, z, w] := by rw [h, h']

theorem iv_toNat (k : ℕ) (hk : k < 2 ^ 32) : (Scf.iv 0#32 1#32 k).toNat = k := by
  unfold Scf.iv
  simp only [BitVec.toNat_add, BitVec.toNat_mul, BitVec.toNat_ofNat]
  omega

/-- The slot's number, as the kernel computes it. -/
theorem slot_toNat (q : Fin 20) :
    (Scalar.select (Scalar.andi (Scalar.xori (Scalar.cmpi .slt (Scalar.remsi (BitVec.ofNat 32 q.val) (Scalar.select (Scalar.cmpi .eq 2#32 0#32) 1#32 2#32)) 0#32)
      (Scalar.cmpi .slt (Scalar.select (Scalar.cmpi .eq 2#32 0#32) 1#32 2#32) 0#32)) (Scalar.cmpi .ne (Scalar.remsi (BitVec.ofNat 32 q.val) (Scalar.select (Scalar.cmpi .eq 2#32 0#32) 1#32 2#32)) 0#32))
      (Scalar.addi (Scalar.remsi (BitVec.ofNat 32 q.val) (Scalar.select (Scalar.cmpi .eq 2#32 0#32) 1#32 2#32)) (Scalar.select (Scalar.cmpi .eq 2#32 0#32) 1#32 2#32))
      (Scalar.remsi (BitVec.ofNat 32 q.val) (Scalar.select (Scalar.cmpi .eq 2#32 0#32) 1#32 2#32)) : BitVec 32) = BitVec.ofNat 32 (q.val % 2) := by
  revert q
  decide +kernel

variable (i : grid0.Coords)

theorem i0_lt : (i 0).val < 20 := (i 0).isLt
theorem i1_lt : (i 1).val < 4 := (i 1).isLt

theorem off2_eq (k : Fin k0_t1_loop.trips) : k0_off2 k = ![512 * 0 + k.val] := by revert k; decide +kernel
theorem off3_eq (k : Fin k0_t1_loop.trips) : k0_off3 k = ![0 % 2, k.val, 0, 0] := by revert k; decide +kernel
theorem off5_eq (k : Fin k0_t2_loop.trips) : k0_off5 k = ![512 * 0 + (128 + k.val)] := by revert k; decide +kernel
theorem off6_eq (k : Fin k0_t2_loop.trips) : k0_off6 k = ![0 % 2, 128 + k.val, 0, 0] := by revert k; decide +kernel
theorem off8_eq (k : Fin k0_t3_loop.trips) : k0_off8 k = ![512 * 0 + (256 + k.val)] := by revert k; decide +kernel
theorem off9_eq (k : Fin k0_t3_loop.trips) : k0_off9 k = ![0 % 2, 256 + k.val, 0, 0] := by revert k; decide +kernel
theorem off11_eq (k : Fin k0_t4_loop.trips) : k0_off11 k = ![512 * 0 + (384 + k.val)] := by revert k; decide +kernel
theorem off12_eq (k : Fin k0_t4_loop.trips) : k0_off12 k = ![0 % 2, 384 + k.val, 0, 0] := by revert k; decide +kernel
theorem off14_eq : k0_off14 i = ![(i 0).val % 2] := by
  refine vec1 ((congrArg BitVec.toNat (slot_toNat (i 0))).trans ?_)
  rw [BitVec.toNat_ofNat]; omega
theorem off15_eq : k0_off15 i = ![(i 0).val % 2, 0, 0, 0] := by
  refine vec4 ((congrArg BitVec.toNat (slot_toNat (i 0))).trans ?_)
  rw [BitVec.toNat_ofNat]; omega
theorem off20_eq (k : Fin k0_t6_loop.trips) : k0_off20 i k = ![(i 0).val % 2, 32 * k.val, 0, 0] := by
  refine vec4' ((congrArg BitVec.toNat (slot_toNat (i 0))).trans ?_) ?_
  · rw [BitVec.toNat_ofNat]; omega
  · revert k; decide +kernel
theorem off21_eq (k : Fin k0_t6_loop.trips) : k0_off21 k = ![32 * k.val, 0] := by revert k; decide +kernel
theorem off22_eq : k0_off22 i = ![(i 0).val % 2, 0, 16, 0] := by
  refine vec4 ((congrArg BitVec.toNat (slot_toNat (i 0))).trans ?_)
  rw [BitVec.toNat_ofNat]; omega
theorem off24_eq : k0_off24 i = ![(i 0).val % 2, 0, 0, 0] := by
  refine vec4 ((congrArg BitVec.toNat (slot_toNat (i 0))).trans ?_)
  rw [BitVec.toNat_ofNat]; omega
theorem off17_eq : k0_off17 i = ![((i 0).val + 1) % 2] := by
  refine vec1 ((congrArg (fun b : BitVec 32 => (1#32 - b).toNat) (slot_toNat (i 0))).trans ?_)
  have := i0_lt i
  simp only [BitVec.toNat_sub, BitVec.toNat_ofNat]
  omega
theorem off18_eq (k : Fin k0_t5_loop.trips) : k0_off18 i k = ![((i 0).val + 1) % 2, 128 * (i 1).val + k.val, 0, 0] := by
  have hk : k.val < 128 := k.isLt
  have := i0_lt i
  have := i1_lt i
  refine vec4' ((congrArg (fun b : BitVec 32 => (1#32 - b).toNat) (slot_toNat (i 0))).trans ?_) ?_
  · simp only [BitVec.toNat_sub, BitVec.toNat_ofNat]
    omega
  · show (BitVec.ofNat 32 (i 1).val * 128#32 + Scf.iv 0#32 1#32 k.val).toNat = _
    simp only [BitVec.toNat_add, BitVec.toNat_mul, BitVec.toNat_ofNat, iv_toNat k.val (by omega)]
    omega
theorem off16_eq (k : Fin k0_t5_loop.trips) : k0_off16 i k = ![512 * ((i 0).val + 1) + (128 * (i 1).val + k.val)] := by
  have hk : k.val < 128 := k.isLt
  have := i0_lt i
  have := i1_lt i
  refine vec1 ?_
  show ((BitVec.ofNat 32 (i 0).val + 1#32) * 512#32 + (BitVec.ofNat 32 (i 1).val * 128#32 + Scf.iv 0#32 1#32 k.val)).toNat = _
  simp only [BitVec.toNat_add, BitVec.toNat_mul, BitVec.toNat_ofNat, iv_toNat k.val (by omega)]
  omega
theorem off25_eq : k0_off25 i = ![(i 0).val] := by
  have := i0_lt i
  refine vec1 ?_
  show (BitVec.ofNat 32 (i 0).val).toNat = _
  rw [BitVec.toNat_ofNat]; omega
theorem off26_eq (k : Fin k0_t7_loop.trips) : k0_off26 i k = ![512 * (i 0).val + k.val] := by
  have hk : k.val < 512 := k.isLt
  have := i0_lt i
  refine vec1 ?_
  show (BitVec.ofNat 32 (i 0).val * 512#32 + Scf.iv 0#32 1#32 k.val).toNat = _
  simp only [BitVec.toNat_add, BitVec.toNat_mul, BitVec.toNat_ofNat, iv_toNat k.val (by omega)]
  omega
theorem off28_eq (k : Fin k0_t7_loop.trips) : k0_off28 k = ![k.val, 0, 0] :=
  vec3 (iv_toNat k.val (by have : k.val < 512 := k.isLt; omega))

/-- Where row `j` of a chunk goes: its token's row if it is among the valid ones, a row past the tokens otherwise. -/
def dstRow (nv : BitVec 32) (v : BitVec 32) (j : ℕ) : ℕ := if (BitVec.ofNat 32 j).slt nv then v.toNat else 8192 + j

theorem off27_eq (k : Fin k0_t7_loop.trips) (nv v : BitVec 32) : k0_off27 k nv v = ![dstRow nv v k.val, 0, 0] := by
  have hk : k.val < 512 := k.isLt
  refine vec3 ?_
  have hiv : Scf.iv 0#32 1#32 k.val = BitVec.ofNat 32 k.val := BitVec.eq_of_toNat_eq (by rw [iv_toNat _ (by omega), BitVec.toNat_ofNat]; omega)
  show (Scalar.select (Scalar.cmpi .slt (Scf.iv 0#32 1#32 k.val) nv) v (8192#32 + Scf.iv 0#32 1#32 k.val)).toNat = _
  rw [hiv]
  unfold dstRow
  cases h : (BitVec.ofNat 32 k.val).slt nv
  · have e : Scalar.cmpi .slt (BitVec.ofNat 32 k.val) nv = 0#1 := by
      simp [Scalar.cmpi, IntOp.cmpi, h]
    rw [e]
    show (8192#32 + BitVec.ofNat 32 k.val).toNat = _
    simp only [BitVec.toNat_add, BitVec.toNat_ofNat]
    simp
    omega
  · have e : Scalar.cmpi .slt (BitVec.ofNat 32 k.val) nv = 1#1 := by
      simp [Scalar.cmpi, IntOp.cmpi, h]
    rw [e]
    rfl

/-- The coordinates of a chunk and a part. -/
def pt (q : Fin 20) (s : Fin 4) : grid0.Coords := fun a => match a with | ⟨0, _⟩ => q | ⟨1, _⟩ => s
theorem pt_eq : i = pt (i 0) (i 1) := by
  funext a
  match a with
  | ⟨0, _⟩ => rfl
  | ⟨1, _⟩ => rfl

theorem off23_eq : k0_off23 i = ![0, 0, 0] := by
  have h : ∀ (q : Fin 20) (s : Fin 4), k0_off23 (pt q s) = ![0, 0, 0] := by decide +kernel
  rw [pt_eq i]; exact h (i 0) (i 1)

theorem cond1_iff : k0_cond1 i = 1#1 ↔ (i 0).val = 0 ∧ (i 1).val = 0 := by
  have h : ∀ (q : Fin 20) (s : Fin 4), k0_cond1 (pt q s) = 1#1 ↔ q.val = 0 ∧ s.val = 0 := by decide +kernel
  rw [pt_eq i]; exact h (i 0) (i 1)
theorem cond3_iff (u : Fin 21) : k0_cond3 i (BitVec.ofNat 32 u.val) = 1#1 ↔ (i 0).val + 1 < u.val := by
  have h : ∀ (q : Fin 20) (s : Fin 4) (u : Fin 21), k0_cond3 (pt q s) (BitVec.ofNat 32 u.val) = 1#1 ↔ q.val + 1 < u.val := by decide +kernel
  rw [pt_eq i]; exact h (i 0) (i 1) u
theorem cond7_iff (u : Fin 21) : k0_cond7 i (BitVec.ofNat 32 u.val) = 1#1 ↔ (i 0).val < u.val ∧ (i 1).val = 3 := by
  have h : ∀ (q : Fin 20) (s : Fin 4) (u : Fin 21), k0_cond7 (pt q s) (BitVec.ofNat 32 u.val) = 1#1 ↔ q.val < u.val ∧ s.val = 3 := by decide +kernel
  rw [pt_eq i]; exact h (i 0) (i 1) u

/-- The conditions the body computes in line. -/
theorem v20_iff (u : Fin 21) :
    Scalar.cmpi .ne (Scalar.extui (Scalar.andi (Scalar.cmpi .slt (BitVec.ofNat 32 (i 0).val) (BitVec.ofNat 32 u.val)) (Scalar.cmpi .eq (BitVec.ofNat 32 (i 1).val) 0#32)) : BitVec 32) 0#32 = 1#1
      ↔ (i 0).val < u.val ∧ (i 1).val = 0 := by
  have h : ∀ (q : Fin 20) (s : Fin 4) (u : Fin 21),
    Scalar.cmpi .ne (Scalar.extui (Scalar.andi (Scalar.cmpi .slt (BitVec.ofNat 32 q.val) (BitVec.ofNat 32 u.val)) (Scalar.cmpi .eq (BitVec.ofNat 32 s.val) 0#32)) : BitVec 32) 0#32 = 1#1
      ↔ q.val < u.val ∧ s.val = 0 := by decide +kernel
  exact h (i 0) (i 1) u
theorem v30_iff (u : Fin 21) :
    Scalar.cmpi .ne (Scalar.extui (Scalar.cmpi .slt (BitVec.ofNat 32 (i 0).val) (BitVec.ofNat 32 u.val)) : BitVec 32) 0#32 = 1#1 ↔ (i 0).val < u.val := by
  have h : ∀ (q : Fin 20) (u : Fin 21),
    Scalar.cmpi .ne (Scalar.extui (Scalar.cmpi .slt (BitVec.ofNat 32 q.val) (BitVec.ofNat 32 u.val)) : BitVec 32) 0#32 = 1#1 ↔ q.val < u.val := by decide +kernel
  exact h (i 0) u
theorem v37_iff :
    Scalar.cmpi .ne (Scalar.extui (Scalar.cmpi .sgt (BitVec.ofNat 32 (i 0).val) 0#32) : BitVec 32) 0#32 = 1#1 ↔ 0 < (i 0).val := by
  have h : ∀ (q : Fin 20),
    Scalar.cmpi .ne (Scalar.extui (Scalar.cmpi .sgt (BitVec.ofNat 32 q.val) 0#32) : BitVec 32) 0#32 = 1#1 ↔ 0 < q.val := by decide +kernel
  exact h (i 0)
theorem v54_iff (u : Fin 21) :
    Scalar.cmpi .ne (Scalar.extui (Scalar.cmpi .eq (BitVec.ofNat 32 (i 0).val) (Scalar.subi (BitVec.ofNat 32 u.val) 1#32)) : BitVec 32) 0#32 = 1#1 ↔ (i 0).val + 1 = u.val := by
  have h : ∀ (q : Fin 20) (u : Fin 21),
    Scalar.cmpi .ne (Scalar.extui (Scalar.cmpi .eq (BitVec.ofNat 32 q.val) (Scalar.subi (BitVec.ofNat 32 u.val) 1#32)) : BitVec 32) 0#32 = 1#1 ↔ q.val + 1 = u.val := by decide +kernel
  exact h (i 0) u

end Cert.Kernel2Ideal.Moe

end
-- ==== Proof.MoeBasics.lean ====
/- Loads and stores of whole buffers, and counted loops, at the head of a program. -/
module

public import proofs.«01_k».proof.Proof.MoeScatter
public import proofs.«01_k».proof.Proof.MoeOffs
public import proofs.«01_k».proof.Proof.Gen.Kernel2Ideal.Skeleton

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

/-- A load of a whole buffer. -/
theorem wp_loadOwns {cs : CoreSpace} {s : Shape} {e : EltTy} (m : Memref sig .tc cs s e) (hm : m.IsWhole) {off : Fin s.rank → ℕ}
    (h : off = fun _ => 0) (inb : ∀ a, off a + s.size a ≤ s.size a) {hl : m.view.LoadsAt (Rect.unit off s.size inb).toLoadRect}
    {q : PosShare TreeShare} {α : Type} (x : s.Idx → Elt F e) (k : (s.Idx → Elt F e) → Prog (TpuEff nD τ sig (Elt F) Λ₀ .tc) α) (Q : α → sProp 𝕄) :
    owns (c : Thread nD τ) m q x
      ⊢ iprop((owns (c : Thread nD τ) m q x -∗ wp frame (wpE (defs₀ (F := F)) Variants.none (c : Thread nD τ) none) Set.univ (k x) Q) -∗ wp frame (wpE (defs₀ (F := F)) Variants.none (c : Thread nD τ) none) Set.univ (.op (.load m (Rect.unit off s.size inb).toLoadRect hl) k) Q) := by
  obtain ⟨⟨sp, i, hκ⟩, hsp, rfl, rfl, hm⟩ := hm
  cases hsp
  cases hm
  rw [owns_whole]
  have hr := Memref.read_access_unit_zero (Elt F) _ h inb x
  have H := wp_load_rect (defs := defs₀ (F := F)) Variants.none (c : Thread nD τ) none (Γ := .empty) Set.univ (Q := Q) (m := Memref.whole ⟨cs, i, hκ⟩) (r := Rect.unit off _ inb) (hl := hl)
    (k := k) (q := q) (f := x) (S := Finset.univ) (Finset.subset_univ _)
  rw [hr] at H
  exact H

/-- A store of a whole buffer. -/
theorem wp_storeOwns {cs : CoreSpace} {s : Shape} {e : EltTy} (m : Memref sig .tc cs s e) (hm : m.IsWhole) {off : Fin s.rank → ℕ}
    (h : off = fun _ => 0) (inb : ∀ a, off a + s.size a ≤ s.size a) {hx : (m.access (Rect.unit off s.size inb)).Stores Finset.univ}
    {hu : Finset.univ = Finset.univ ∨ ∀ a, (Rect.unit off s.size inb).stride a = 1}
    {α : Type} (x w : s.Idx → Elt F e) (k : PUnit → Prog (TpuEff nD τ sig (Elt F) Λ₀ .tc) α) (Q : α → sProp 𝕄) :
    owns (c : Thread nD τ) m fullShare x
      ⊢ iprop((owns (c : Thread nD τ) m fullShare w -∗ wp frame (wpE (defs₀ (F := F)) Variants.none (c : Thread nD τ) none) Set.univ (k ⟨⟩) Q) -∗ wp frame (wpE (defs₀ (F := F)) Variants.none (c : Thread nD τ) none) Set.univ (.op (.store m (Rect.unit off s.size inb) w Finset.univ hx hu) k) Q) := by
  obtain ⟨⟨sp, i, hκ⟩, hsp, rfl, rfl, hm⟩ := hm
  cases hsp
  cases hm
  rw [owns_whole, owns_whole]
  have hr := Memref.write_access_unit_zero_univ (Elt F) _ h inb x w
  have H := wp_store (defs := defs₀ (F := F)) Variants.none (c : Thread nD τ) none (Γ := .empty) Set.univ (Q := Q) (m := Memref.whole ⟨cs, i, hκ⟩) (r := Rect.unit off _ inb) (hx := hx) (hm := hu)
    (k := k) (w := w) (f := x) (S := Finset.univ) (Finset.subset_univ _)
  rw [hr] at H
  exact H

/-- A counted loop with no carried value, at the head of a program. -/
theorem wp_loop (l : Scf.Loop 32) (ok : l.OK) (body : Fin l.trips → Unit → Prog (TpuEff nD τ sig (Elt F) Λ₀ .tc) Unit) (I : ℕ → sProp 𝕄)
    (hbody : ∀ k : Fin l.trips, I k.val ⊢ wp frame (wpE (defs₀ (F := F)) Variants.none (c : Thread nD τ) none) Set.univ (body k ⟨⟩) (fun _ => I (k.val + 1))) {α : Type}
    (kk : Unit → Prog (TpuEff nD τ sig (Elt F) Λ₀ .tc) α) (Q : α → sProp 𝕄) :
    I 0 ⊢ iprop((I l.trips -∗ wp frame (wpE (defs₀ (F := F)) Variants.none (c : Thread nD τ) none) Set.univ (kk ⟨⟩) Q) -∗ wp frame (wpE (defs₀ (F := F)) Variants.none (c : Thread nD τ) none) Set.univ (Scf.Loop.for l ok ⟨⟩ body >>= kk) Q) := by
  have H := Scf.wp_for_bind frame (wpE (defs₀ (F := F)) Variants.none (c : Thread nD τ) none) Set.univ l.lb l.ub l.st ok ⟨⟩ body (fun k _ => I k) (fun k _ => hbody k) (kk := kk) (Q := Q)
  iintro HI Hk
  iapply H $$ HI
  iintro %acc HI
  iapply Hk $$ HI

end Cert.Kernel2Ideal.Moe

end
-- ==== Proof.MoeStart.lean ====
/- The first point's own work: the first chunk's gather, and the zeros past the tokens. -/
module

public import proofs.«01_k».proof.Proof.MoeBasics

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD) (src : S10240.Idx → Elt F .i32) (slab : S8192x24x128.Idx → Elt F .f32)
  (i : grid0.Coords)
variable (m7 : Memref sig .tc .vmem S1x2048 .f32) (h7 : m7.IsWhole) (m8 : Memref sig .tc .vmem S1x2048 .f32) (h8 : m8.IsWhole)
  (m9 : Memref sig .tc .vmem S1x2048 .f32) (h9 : m9.IsWhole) (m10 : Memref sig .tc .vmem S1x2048 .f32) (h10 : m10.IsWhole)
  (m11 : Memref sig .tc .vmem S1x1x2048x512 .f32) (h11 : m11.IsWhole) (m12 : Memref sig .tc .vmem S1x1x2048x512 .f32) (h12 : m12.IsWhole)
  (m13 : Memref sig .tc .vmem S1x1x512x2048 .f32) (h13 : m13.IsWhole)

/-- A token's row lies among the token rows. -/
theorem row_inb (v : BitVec 32) (h : v.toNat < 8192) : ∀ a, (![v.toNat, 0, 0] : Fin 3 → ℕ) a + S1x24x128.size a ≤ S8192x24x128.size a := by
  intro a
  fin_cases a
  · show v.toNat + 1 ≤ 8192; omega
  · show 0 + 24 ≤ 24; omega
  · show 0 + 128 ≤ 128; omega

/-- Part 1 of the first gather. -/
theorem gather_t1 (hr : ∀ j < 512, rowOf src 0 j < 8192) {α : Type} (kk : Unit → Prog (TpuEff nD τ sig (Elt F) Λ₀ .tc) α) (Q : α → sProp 𝕄) (hh : k0_cond1 i = 1#1) :
    iprop(GB c src slab 0 0 ∗ srcPt c src)
      ⊢ iprop((iprop(GB c src slab 0 128 ∗ srcPt c src) -∗ wp frame (wpE (defs₀ (F := F)) Variants.none (c : Thread nD τ) none) Set.univ (kk ⟨⟩) Q)
        -∗ wp frame (wpE (defs₀ (F := F)) Variants.none (c : Thread nD τ) none) Set.univ (Scf.Loop.for k0_t1_loop (k0_t1_ok i hh) ⟨⟩ (k0_t1_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh) >>= kk) Q) := by
  refine wp_loop c k0_t1_loop (k0_t1_ok i hh) (k0_t1_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh)
    (fun k => iprop(GB c src slab 0 (0 + k) ∗ srcPt c src)) (fun k => ?_) kk Q
  have hk : k.val < 128 := k.isLt
  refine BI.Entails.trans (show iprop(GB c src slab 0 (0 + k.val) ∗ srcPt c src)
      ⊢ iprop(GB c src slab 0 (0 + k.val) ∗ srcPt c src ∗ (iprop(GB c src slab 0 (0 + k.val + 1) ∗ srcPt c src) -∗ iprop(GB c src slab 0 (0 + (k.val + 1)) ∗ srcPt c src))) from ?_)
    (gather_trip c src slab 0 (0 + k.val) (by omega) (by omega) (k0_off2 k) (by rw [off2_eq k]; simp) (k0_off2_inb i k hh)
    (k0_off3 k) (by rw [off3_eq k]; simp) (k0_off3_inb i k hh) k0_off4 (fun _ => rfl) (k0_chk1 i) (k0_chk1.dec i) ?_
    (fun v hv => k0_off4_inb i v hv hh) (gcell 0) rfl (fun _ => iprop(GB c src slab 0 (0 + (k.val + 1)) ∗ srcPt c src)))
  · iintro ⟨HB, Hs⟩
    isplitl [HB]; · iexact HB
    isplitl [Hs]; · iexact Hs
    iintro H
    iexact H
  · exact fun _ => row_inb _ (hr (0 + k.val) (by omega))

/-- Part 2 of the first gather. -/
theorem gather_t2 (hr : ∀ j < 512, rowOf src 0 j < 8192) {α : Type} (kk : Unit → Prog (TpuEff nD τ sig (Elt F) Λ₀ .tc) α) (Q : α → sProp 𝕄) (hh : k0_cond1 i = 1#1) :
    iprop(GB c src slab 0 128 ∗ srcPt c src)
      ⊢ iprop((iprop(GB c src slab 0 256 ∗ srcPt c src) -∗ wp frame (wpE (defs₀ (F := F)) Variants.none (c : Thread nD τ) none) Set.univ (kk ⟨⟩) Q)
        -∗ wp frame (wpE (defs₀ (F := F)) Variants.none (c : Thread nD τ) none) Set.univ (Scf.Loop.for k0_t2_loop (k0_t2_ok i hh) ⟨⟩ (k0_t2_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh) >>= kk) Q) := by
  refine wp_loop c k0_t2_loop (k0_t2_ok i hh) (k0_t2_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh)
    (fun k => iprop(GB c src slab 0 (128 + k) ∗ srcPt c src)) (fun k => ?_) kk Q
  have hk : k.val < 128 := k.isLt
  refine BI.Entails.trans (show iprop(GB c src slab 0 (128 + k.val) ∗ srcPt c src)
      ⊢ iprop(GB c src slab 0 (128 + k.val) ∗ srcPt c src ∗ (iprop(GB c src slab 0 (128 + k.val + 1) ∗ srcPt c src) -∗ iprop(GB c src slab 0 (128 + (k.val + 1)) ∗ srcPt c src))) from ?_)
    (gather_trip c src slab 0 (128 + k.val) (by omega) (by omega) (k0_off5 k) (by rw [off5_eq k]) (k0_off5_inb i k hh)
    (k0_off6 k) (by rw [off6_eq k]) (k0_off6_inb i k hh) k0_off7 (fun _ => rfl) (k0_chk2 i) (k0_chk2.dec i) ?_
    (fun v hv => k0_off7_inb i v hv hh) (gcell 0) rfl (fun _ => iprop(GB c src slab 0 (128 + (k.val + 1)) ∗ srcPt c src)))
  · iintro ⟨HB, Hs⟩
    isplitl [HB]; · iexact HB
    isplitl [Hs]; · iexact Hs
    iintro H
    iexact H
  · exact fun _ => row_inb _ (hr (128 + k.val) (by omega))

/-- Part 3 of the first gather. -/
theorem gather_t3 (hr : ∀ j < 512, rowOf src 0 j < 8192) {α : Type} (kk : Unit → Prog (TpuEff nD τ sig (Elt F) Λ₀ .tc) α) (Q : α → sProp 𝕄) (hh : k0_cond1 i = 1#1) :
    iprop(GB c src slab 0 256 ∗ srcPt c src)
      ⊢ iprop((iprop(GB c src slab 0 384 ∗ srcPt c src) -∗ wp frame (wpE (defs₀ (F := F)) Variants.none (c : Thread nD τ) none) Set.univ (kk ⟨⟩) Q)
        -∗ wp frame (wpE (defs₀ (F := F)) Variants.none (c : Thread nD τ) none) Set.univ (Scf.Loop.for k0_t3_loop (k0_t3_ok i hh) ⟨⟩ (k0_t3_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh) >>= kk) Q) := by
  refine wp_loop c k0_t3_loop (k0_t3_ok i hh) (k0_t3_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh)
    (fun k => iprop(GB c src slab 0 (256 + k) ∗ srcPt c src)) (fun k => ?_) kk Q
  have hk : k.val < 128 := k.isLt
  refine BI.Entails.trans (show iprop(GB c src slab 0 (256 + k.val) ∗ srcPt c src)
      ⊢ iprop(GB c src slab 0 (256 + k.val) ∗ srcPt c src ∗ (iprop(GB c src slab 0 (256 + k.val + 1) ∗ srcPt c src) -∗ iprop(GB c src slab 0 (256 + (k.val + 1)) ∗ srcPt c src))) from ?_)
    (gather_trip c src slab 0 (256 + k.val) (by omega) (by omega) (k0_off8 k) (by rw [off8_eq k]) (k0_off8_inb i k hh)
    (k0_off9 k) (by rw [off9_eq k]) (k0_off9_inb i k hh) k0_off10 (fun _ => rfl) (k0_chk3 i) (k0_chk3.dec i) ?_
    (fun v hv => k0_off10_inb i v hv hh) (gcell 0) rfl (fun _ => iprop(GB c src slab 0 (256 + (k.val + 1)) ∗ srcPt c src)))
  · iintro ⟨HB, Hs⟩
    isplitl [HB]; · iexact HB
    isplitl [Hs]; · iexact Hs
    iintro H
    iexact H
  · exact fun _ => row_inb _ (hr (256 + k.val) (by omega))

/-- Part 4 of the first gather. -/
theorem gather_t4 (hr : ∀ j < 512, rowOf src 0 j < 8192) {α : Type} (kk : Unit → Prog (TpuEff nD τ sig (Elt F) Λ₀ .tc) α) (Q : α → sProp 𝕄) (hh : k0_cond1 i = 1#1) :
    iprop(GB c src slab 0 384 ∗ srcPt c src)
      ⊢ iprop((iprop(GB c src slab 0 512 ∗ srcPt c src) -∗ wp frame (wpE (defs₀ (F := F)) Variants.none (c : Thread nD τ) none) Set.univ (kk ⟨⟩) Q)
        -∗ wp frame (wpE (defs₀ (F := F)) Variants.none (c : Thread nD τ) none) Set.univ (Scf.Loop.for k0_t4_loop (k0_t4_ok i hh) ⟨⟩ (k0_t4_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh) >>= kk) Q) := by
  refine wp_loop c k0_t4_loop (k0_t4_ok i hh) (k0_t4_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh)
    (fun k => iprop(GB c src slab 0 (384 + k) ∗ srcPt c src)) (fun k => ?_) kk Q
  have hk : k.val < 128 := k.isLt
  refine BI.Entails.trans (show iprop(GB c src slab 0 (384 + k.val) ∗ srcPt c src)
      ⊢ iprop(GB c src slab 0 (384 + k.val) ∗ srcPt c src ∗ (iprop(GB c src slab 0 (384 + k.val + 1) ∗ srcPt c src) -∗ iprop(GB c src slab 0 (384 + (k.val + 1)) ∗ srcPt c src))) from ?_)
    (gather_trip c src slab 0 (384 + k.val) (by omega) (by omega) (k0_off11 k) (by rw [off11_eq k]) (k0_off11_inb i k hh)
    (k0_off12 k) (by rw [off12_eq k]) (k0_off12_inb i k hh) k0_off13 (fun _ => rfl) (k0_chk4 i) (k0_chk4.dec i) ?_
    (fun v hv => k0_off13_inb i v hv hh) (gcell 0) rfl (fun _ => iprop(GB c src slab 0 (384 + (k.val + 1)) ∗ srcPt c src)))
  · iintro ⟨HB, Hs⟩
    isplitl [HB]; · iexact HB
    isplitl [Hs]; · iexact Hs
    iintro H
    iexact H
  · exact fun _ => row_inb _ (hr (384 + k.val) (by omega))

/-- The rows past the tokens, as the first point's transfer leaves the result. -/
def OUT0 (V0 : S8704x16x128.Idx → Elt F .f32) : S8704x16x128.Idx → Elt F .f32 :=
  (outM.slice (Rect.unit (s := S8704x16x128) ![8192, 0, 0] S512x16x128.size inb_S8704x16x128_S512x16x128_8192_0_0) (fun _ => rfl)).view.write (Elt F) V0
    (ReadAs.same.apply (obM.view.read (Elt F) (k0_pay6 (F := F)))) Finset.univ

/-- The transfer of zeros into the rows past the tokens, and its wait. -/
theorem zero_fill (V0 : S8704x16x128.Idx → Elt F .f32) {W : Waits sig Unit} {α : Type} {p1 p2 p3 p4 p5}
    (kk : Unit → Prog (TpuEff nD τ sig (Elt F) Λ₀ .tc) α) (Q : α → sProp 𝕄) :
    iprop((obM.view.loc (c : Thread nD τ) ↦{fullShare} (k0_pay6 (F := F))) ∗ (outM.view.loc (c : Thread nD τ) ↦{fullShare} V0)
        ∗ semVal ((c : Thread nD τ), SemLoc.dma scell) 0 ∗ owes (c : Thread nD τ) 0 W)
      ⊢ iprop((iprop((obM.view.loc (c : Thread nD τ) ↦{fullShare} (k0_pay6 (F := F))) ∗ (outM.view.loc (c : Thread nD τ) ↦{fullShare} OUT0 V0)
        ∗ semVal ((c : Thread nD τ), SemLoc.dma scell) 0 ∗ owes (c : Thread nD τ) 0 (insert (SemLoc.dma scell, ()) W)) -∗ wp frame (wpE (defs₀ (F := F)) Variants.none (c : Thread nD τ) none) Set.univ (kk ⟨⟩) Q)
        -∗ wp frame (wpE (defs₀ (F := F)) Variants.none (c : Thread nD τ) none) Set.univ (.op (.enqueueDma obM (.here (outM.slice (Rect.unit (s := S8704x16x128) ![8192, 0, 0] S512x16x128.size inb_S8704x16x128_S512x16x128_8192_0_0) (fun _ => rfl)))
            (.dma scell) p1 p2 p3) fun _ => .op (.waitDma2 scell obM (outM.slice (Rect.unit (s := S8704x16x128) ![8192, 0, 0] S512x16x128.size inb_S8704x16x128_S512x16x128_8192_0_0) (fun _ => rfl)) p4 p5) kk) Q) := by
  iintro ⟨Ho, Hx, Hg, HO⟩ Hk
  have hset : obM.view.set = (Finset.univ : Finset S512x16x128.Idx) := View.set_whole _
  iapply (Transfers.wp_dmaLocal (countersEmb (U := Pipeline.UD sig nD τ)) Variants.none (c : Thread nD τ) none
    (src := obM) (dst := outM.slice (Rect.unit (s := S8704x16x128) ![8192, 0, 0] S512x16x128.size inb_S8704x16x128_S512x16x128_8192_0_0) (fun _ => rfl))
    (fs := (k0_pay6 (F := F))) (fd := V0) (q := fullShare) (Sd := Finset.univ) (sm := .dma scell) () (256 * 512) (show RefSig.tileCredit S512x16x128 .f32 = 256 * 512 by decide +kernel) (by decide) (Finset.subset_univ _)) $$ [Ho Hx Hg]
  · isplitl [Ho]
    · rw [hset]; iexact Ho
    isplitl [Hx]; · iexact Hx
    iexact Hg
  iintro HF
  iapply (Transfers.wp_waitLocal (countersEmb (U := Pipeline.UD sig nD τ)) Variants.none (c : Thread nD τ) none (N := 256 * 512) () (show RefSig.tileCredit S512x16x128 .f32 = 256 * 512 by decide +kernel)) $$ [HF HO]
  · isplitl [HF] <;> iassumption
  iintro ⟨⟨Hx, Ho⟩, Hg, HO⟩
  iapply Hk
  isplitl [Ho]
  · rw [hset]; iexact Ho
  isplitl [Hx]; · iexact Hx
  isplitl [Hg] <;> iassumption

end Cert.Kernel2Ideal.Moe

end
-- ==== Proof.MoeSlots.lean ====
/- The two slots of gathered rows between the parts of a chunk: waiting for a chunk, issuing the next. -/
module

public import proofs.«01_k».proof.Proof.MoeStart

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD) (src : S10240.Idx → Elt F .i32) (slab : S8192x24x128.Idx → Elt F .f32) (u : Fin 21)
  (i : grid0.Coords)

/-- The token rows whole. -/
abbrev slabF : sProp 𝕄 := slabM.view.loc (c : Thread nD τ) ↦{fullShare} slab
/-- Slot `b` free: its contents anything, its cell at zero. -/
def Free (F : FTy → Type) [FloatOps F] [∀ e, Nonempty (Elt F e)] (b : ℕ) : sProp (MT nD τ sig Unit (Elt F) ℕ (Pipeline.UD sig nD τ) ℕ) :=
  iprop((∃ f : S2x512x24x128.Idx → Elt F .f32, xbM.view.loc (c : Thread nD τ) ↦[slot b]{fullShare} f) ∗ semVal ((c : Thread nD τ), SemLoc.dma (gcell b)) 0)
/-- Chunk `q`'s slot holding its rows, its cell at zero. -/
def slotX (q : ℕ) : sProp 𝕄 :=
  iprop((xbM.view.loc (c : Thread nD τ) ↦[slot (q % 2)]{fullShare} XG src slab q) ∗ semVal ((c : Thread nD τ), SemLoc.dma (gcell (q % 2))) 0)
/-- Both slots free and the token rows whole. -/
def Idle : sProp 𝕄 := iprop(Free c F 0 ∗ Free c F 1 ∗ slabF c slab)
/-- The next chunk's gather with `k` rows issued, if there is a next chunk in use. -/
def Next (q k : ℕ) : sProp 𝕄 := if q + 1 < u.val then GB c src slab (q + 1) k else iprop(Free c F ((q + 1) % 2) ∗ slabF c slab)
/-- The slots before part `s` of chunk `q`. -/
def Gst (q s : ℕ) : sProp 𝕄 :=
  if q < u.val then (if s = 0 then iprop(GB c src slab q 512 ∗ Free c F ((q + 1) % 2)) else iprop(slotX c src slab q ∗ Next c src slab u q (128 * s)))
  else Idle c slab
/-- The slots once chunk `q`'s gather is waited for, `k` rows of the next chunk issued. -/
def G1 (q k : ℕ) : sProp 𝕄 := if q < u.val then iprop(slotX c src slab q ∗ Next c src slab u q k) else Idle c slab

theorem G1_Gst (q s : ℕ) (hs : s < 3) : G1 c src slab u q (128 * (s + 1)) = Gst c src slab u q (s + 1) := by
  unfold G1 Gst
  rw [if_neg (show ¬ s + 1 = 0 by omega)]

theorem slotX_free (q : ℕ) : slotX c src slab q ⊢ Free c F (q % 2) := by
  unfold slotX Free
  iintro ⟨Hx, Hg⟩
  isplitl [Hx]
  · iexists _; iexact Hx
  · iexact Hg

theorem free_pair (q : ℕ) : iprop(Free c F (q % 2) ∗ Free c F ((q + 1) % 2)) ⊢ iprop(Free c F 0 ∗ Free c F 1) := by
  rcases Nat.mod_two_eq_zero_or_one q with h | h
  · rw [h, show (q + 1) % 2 = 1 by omega]
  · rw [h, show (q + 1) % 2 = 0 by omega]
    iintro ⟨H1, H0⟩
    isplitl [H0] <;> iassumption

theorem G1_next (q : ℕ) : G1 c src slab u q 512 ⊢ Gst c src slab u (q + 1) 0 := by
  unfold G1 Gst Next
  by_cases hq : q < u.val
  · rw [if_pos hq]
    by_cases hq1 : q + 1 < u.val
    · rw [if_pos hq1, if_pos hq1, if_pos rfl, show (q + 1 + 1) % 2 = q % 2 by omega]
      iintro ⟨Hx, HB⟩
      isplitl [HB]; · iexact HB
      iapply (slotX_free c src slab q) $$ Hx
    · rw [if_neg hq1, if_neg hq1]
      unfold Idle
      iintro ⟨Hx, Hf, Hs⟩
      ihave Hx := (slotX_free c src slab q) $$ Hx
      ihave H := (free_pair (F := F) c q) $$ [Hx Hf]
      · isplitl [Hx] <;> iassumption
      icases H with ⟨H0, H1⟩
      isplitl [H0]; · iexact H0
      isplitl [H1]; · iexact H1
      iexact Hs
  · rw [if_neg hq, if_neg (by omega)]

/-- Waiting for a chunk's gather, at its first part. -/
def prog2 {α : Type} (v0 : BitVec 32) (R : Unit → Prog (TpuEff nD τ sig (Elt F) Λ₀ .tc) α) : Prog (TpuEff nD τ sig (Elt F) Λ₀ .tc) α :=
  if Scalar.cmpi .ne (Scalar.extui (Scalar.andi (Scalar.cmpi .slt (BitVec.ofNat 32 (i 0).val) v0) (Scalar.cmpi .eq (BitVec.ofNat 32 (i 1).val) 0#32)) : BitVec 32) 0#32 = 1#1 then do
    Prog.lift (.waitDma2 ((cc0_scratch5.slice (Rect.unit (s := S2) (k0_off14 i) S1.size (k0_off14_inb i))).squeeze S_ squeezes_S1_S_).sem
      (slabM.slice (Rect.unit (s := S8192x24x128) ![0, 0, 0] S512x24x128.size inb_S8192x24x128_S512x24x128_0_0_0) (fun _ => rfl))
      ((xbM.slice (Rect.unit (s := S2x512x24x128) (k0_off15 i) S1x512x24x128.size (k0_off15_inb i)) (fun _ => rfl)).squeeze S512x24x128 squeezes_S1x512x24x128_S512x24x128)
      (View.wordExact_bits rfl) ((View.wordExact_bits rfl).reshape _ _))
    R ⟨⟩
  else R ⟨⟩

theorem cell_eq (o : Fin 1 → ℕ) (b : ℕ) (ho : o = ![b]) (h : ∀ a, o a + S1.size a ≤ S2.size a) :
    ((cc0_scratch5.slice (Rect.unit (s := S2) o S1.size h)).squeeze S_ squeezes_S1_S_).sem = gcell b := by
  subst ho
  have hb : b + 1 ≤ 2 := h 0
  have : b = 0 ∨ b = 1 := by omega
  rcases this with rfl | rfl
  · exact (rfl : ((cc0_scratch5.slice (Rect.unit (s := S2) ![0] S1.size inb_S2_S1_0)).squeeze S_ squeezes_S1_S_).sem = gcell 0)
  · exact (rfl : ((cc0_scratch5.slice (Rect.unit (s := S2) ![1] S1.size (by decide))).squeeze S_ squeezes_S1_S_).sem = gcell 1)

theorem sec2 {α : Type} {W : Waits sig Unit} (R : Unit → Prog (TpuEff nD τ sig (Elt F) Λ₀ .tc) α) (Q : α → sProp 𝕄) :
    iprop(Gst c src slab u (i 0).val (i 1).val ∗ owes (c : Thread nD τ) 0 W
        ∗ (∀ W', iprop(G1 c src slab u (i 0).val (128 * (i 1).val) ∗ owes (c : Thread nD τ) 0 W') -∗ wp frame (wpE (defs₀ (F := F)) Variants.none (c : Thread nD τ) none) Set.univ (R ⟨⟩) Q))
      ⊢ wp frame (wpE (defs₀ (F := F)) Variants.none (c : Thread nD τ) none) Set.univ (prog2 i (BitVec.ofNat 32 u.val) R) Q := by
  unfold prog2
  by_cases hq : (i 0).val < u.val
  · by_cases hs : (i 1).val = 0
    · rw [if_pos ((v20_iff i u).2 ⟨hq, hs⟩)]
      unfold Gst G1
      rw [if_pos hq, if_pos hs, if_pos hq, hs]
      iintro ⟨⟨HB, Hf⟩, HO, Hk⟩
      iapply (gather_wait c src slab (i 0).val _ (cell_eq _ _ (off14_eq i) _) (show RefSig.tileCredit S512x24x128 .f32 = 384 * 512 by decide +kernel)) $$ [HB HO]
      · isplitl [HB] <;> iassumption
      iintro ⟨Hx, Hs, Hg, HO⟩
      simp only [ret_then]
      unfold Next
      by_cases hq1 : (i 0).val + 1 < u.val
      · rw [if_pos hq1]
        unfold Free
        icases Hf with ⟨Hf, Hg'⟩
        imod (gather_alloc c src slab ((i 0).val + 1)) $$ [Hf Hg' Hs] with HB
        · isplitl [Hg']; · iexact Hg'
          isplitl [Hf] <;> iassumption
        iapply Hk
        isplitr [HO]
        · unfold slotX
          isplitl [Hx Hg]
          · isplitl [Hx] <;> iassumption
          iexact HB
        iexact HO
      · rw [if_neg hq1]
        iapply Hk
        isplitr [HO]
        · unfold slotX
          isplitl [Hx Hg]
          · isplitl [Hx] <;> iassumption
          isplitl [Hf] <;> iassumption
        iexact HO
    · rw [if_neg (fun h => hs ((v20_iff i u).1 h).2)]
      unfold Gst G1
      rw [if_pos hq, if_neg hs, if_pos hq]
      iintro ⟨H, HO, Hk⟩
      iapply Hk
      isplitl [H] <;> iassumption
  · rw [if_neg (fun h => hq ((v20_iff i u).1 h).1)]
    unfold Gst G1
    rw [if_neg hq, if_neg hq]
    iintro ⟨H, HO, Hk⟩
    iapply Hk
    isplitl [H] <;> iassumption

variable (m7 : Memref sig .tc .vmem S1x2048 .f32) (h7 : m7.IsWhole) (m8 : Memref sig .tc .vmem S1x2048 .f32) (h8 : m8.IsWhole)
  (m9 : Memref sig .tc .vmem S1x2048 .f32) (h9 : m9.IsWhole) (m10 : Memref sig .tc .vmem S1x2048 .f32) (h10 : m10.IsWhole)
  (m11 : Memref sig .tc .vmem S1x1x2048x512 .f32) (h11 : m11.IsWhole) (m12 : Memref sig .tc .vmem S1x1x2048x512 .f32) (h12 : m12.IsWhole)
  (m13 : Memref sig .tc .vmem S1x1x512x2048 .f32) (h13 : m13.IsWhole)

/-- Issuing a quarter of the next chunk's gather. -/
def prog3 {α : Type} (v0 : BitVec 32) (hw : k0_chk5 i v0) (R : Unit → Prog (TpuEff nD τ sig (Elt F) Λ₀ .tc) α) : Prog (TpuEff nD τ sig (Elt F) Λ₀ .tc) α :=
  if k0_h3 : k0_cond3 i v0 = 1#1 then do
    Scf.Loop.for k0_t5_loop k0_t5_ok ⟨⟩ (k0_t5_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 v0 hw k0_h3)
    R ⟨⟩
  else R ⟨⟩

theorem sec3 (hr : ∀ q < u.val, ∀ j < 512, rowOf src q j < 8192) {α : Type} (hw : k0_chk5 i (BitVec.ofNat 32 u.val)) (R : Unit → Prog (TpuEff nD τ sig (Elt F) Λ₀ .tc) α) (Q : α → sProp 𝕄) :
    iprop(G1 c src slab u (i 0).val (128 * (i 1).val) ∗ srcPt c src
        ∗ (iprop(G1 c src slab u (i 0).val (128 * ((i 1).val + 1)) ∗ srcPt c src) -∗ wp frame (wpE (defs₀ (F := F)) Variants.none (c : Thread nD τ) none) Set.univ (R ⟨⟩) Q))
      ⊢ wp frame (wpE (defs₀ (F := F)) Variants.none (c : Thread nD τ) none) Set.univ (prog3 i m7 h7 m8 h8 m9 h9 m10 h10 m11 h11 m12 h12 m13 h13 (BitVec.ofNat 32 u.val) hw R) Q := by
  unfold prog3 G1 Next
  have h20 := i0_lt i
  have h4 := i1_lt i
  by_cases hq1 : (i 0).val + 1 < u.val
  · have hh := (cond3_iff i u).2 hq1
    rw [dif_pos hh, if_pos hq1, if_pos (show (i 0).val < u.val by omega), if_pos (show (i 0).val < u.val by omega), if_pos hq1]
    have hu := u.isLt
    iintro ⟨⟨Hx, HB⟩, Hs, Hk⟩
    iapply (wp_loop c k0_t5_loop k0_t5_ok (k0_t5_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 (BitVec.ofNat 32 u.val) hw hh)
      (fun k => iprop(GB c src slab ((i 0).val + 1) (128 * (i 1).val + k) ∗ srcPt c src)) (fun k => by
        have hk : k.val < 128 := k.isLt
        refine BI.Entails.trans (show iprop(GB c src slab ((i 0).val + 1) (128 * (i 1).val + k.val) ∗ srcPt c src)
            ⊢ iprop(GB c src slab ((i 0).val + 1) (128 * (i 1).val + k.val) ∗ srcPt c src
              ∗ (iprop(GB c src slab ((i 0).val + 1) (128 * (i 1).val + k.val + 1) ∗ srcPt c src) -∗ iprop(GB c src slab ((i 0).val + 1) (128 * (i 1).val + (k.val + 1)) ∗ srcPt c src))) from ?_)
          (gather_trip c src slab ((i 0).val + 1) (128 * (i 1).val + k.val) (by omega) (by omega) (k0_off16 i k) (off16_eq i k) (k0_off16_inb i (BitVec.ofNat 32 u.val) hw k hh)
            (k0_off18 i k) (off18_eq i k) (k0_off18_inb i k) k0_off19 (fun _ => rfl) (k0_chk6 i (BitVec.ofNat 32 u.val)) (k0_chk6.dec i (BitVec.ofNat 32 u.val)) ?_
            (fun v hv => k0_off19_inb i (BitVec.ofNat 32 u.val) v hv hh) _ (cell_eq _ _ (off17_eq i) (k0_off17_inb i))
            (fun _ => iprop(GB c src slab ((i 0).val + 1) (128 * (i 1).val + (k.val + 1)) ∗ srcPt c src)))
        · iintro ⟨HB, Hs⟩
          isplitl [HB]; · iexact HB
          isplitl [Hs]; · iexact Hs
          iintro H
          iexact H
        · exact fun _ => row_inb _ (hr _ (by omega) (128 * (i 1).val + k.val) (by omega)))) $$ [HB Hs]
    · isplitl [HB] <;> iassumption
    iintro ⟨HB, Hs⟩
    iapply Hk
    isplitr [Hs]
    · isplitl [Hx]; · iexact Hx
      iexact HB
    iexact Hs
  · rw [dif_neg (fun h => hq1 ((cond3_iff i u).1 h)), if_neg hq1, if_neg hq1]
    iintro ⟨H, Hs, Hk⟩
    iapply Hk
    isplitl [H] <;> iassumption

end Cert.Kernel2Ideal.Moe

end
-- ==== Proof.MoeCompute.lean ====
/- What the call computes chunk by chunk, and the normalization of a chunk's rows. -/
module

public import proofs.«01_k».proof.Proof.MoeSlots

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- What the call computes from: the valid rows of each chunk, the rows' tokens, the token rows, the four rows of the norm and
    the gate, the experts' blocks of weights at each chunk and part, and what the result's array holds before. -/
structure Args (F : FTy → Type) where
  nv : S20.Idx → Elt F .i32
  src : S10240.Idx → Elt F .i32
  slab : S8192x24x128.Idx → Elt F .f32
  g : Vec F S1x2048 .f32
  sc : Vec F S1x2048 .f32
  sh : Vec F S1x2048 .f32
  g2 : Vec F S1x2048 .f32
  Wg : ℕ → ℕ → Vec F S1x1x2048x512 .f32
  Wu : ℕ → ℕ → Vec F S1x1x2048x512 .f32
  Wd : ℕ → ℕ → Vec F S1x1x512x2048 .f32
  V0 : S8704x16x128.Idx → Elt F .f32

/-- Of the rows chunk `q` gathers: element `(a, b)` of row `j`. -/
def XB (src : S10240.Idx → BitVec 32) (slab : S8192x24x128.Idx → Elt F .f32) (q j a b : ℕ) : Elt F .f32 :=
  slab (ix3 (Fin.ofNat 8192 (rowOf src q j)) (Fin.ofNat 24 a) (Fin.ofNat 128 b))

variable (D : Args F)

/-- Chunk `q`'s rows: 32 of them, all of them, and the columns past the token's own. -/
def XT (q k : ℕ) : Vec F S1x32x16x128 .f32 := fun y => XB D.src D.slab q (32 * k + (y 1).val) (0 + (y 2).val) (0 + (y 3).val)
def XR (q : ℕ) : Vec F S1x512x16x128 .f32 := fun y => XB D.src D.slab q (0 + (y 1).val) (0 + (y 2).val) (0 + (y 3).val)
def XC (q : ℕ) : Vec F S1x512x8x128 .f32 := fun y => XB D.src D.slab q (0 + (y 1).val) (16 + (y 2).val) (0 + (y 3).val)

/-- The chunk's rows normalized. -/
def Hv (q : ℕ) : Vec F S512x2048 .bf16 := fun x => k0_pay7 D.g D.sc D.sh (XT D q ((x 0).val / 32)) (ix2 (Fin.ofNat 32 ((x 0).val % 32)) (x 1))

/-- The part's number within its expert, as the kernel computes it. -/
def colOf (arg1 : BitVec 32) : BitVec 32 :=
  Scalar.select (Scalar.andi (Scalar.cmpi .ne (Scalar.subi (Scalar.extui (Scalar.cmpi .sgt arg1 0#32)) (Scalar.extui (Scalar.cmpi .slt arg1 0#32)))
      (Scalar.subi (Scalar.extui (Scalar.cmpi .sgt 1#32 0#32)) (Scalar.extui (Scalar.cmpi .slt 1#32 0#32)) : BitVec 32))
    (Scalar.cmpi .ne (Scalar.remsi arg1 1#32) 0#32)) (Scalar.subi (Scalar.divsi arg1 1#32) 1#32) (Scalar.divsi arg1 1#32)

/-- Expert `s`'s activations of chunk `q`, weighted. -/
def ACTv (q s : ℕ) : Vec F S1x512x512 .bf16 :=
  k0_pay9 (k0_pay2 (Hv D q) (D.Wg q s)) (k0_pay3 (Hv D q) (D.Wu q s)) (colOf (BitVec.ofNat 32 s)) (k0_pay4 (XC D q)) (k0_pay5 (BitVec.ofNat 32 s) (XC D q)) 1#32

/-- The sum over the first `s` experts. -/
def ACC (q : ℕ) : ℕ → Vec F S512x2048 .f32
  | 0 => k0_pay8
  | s + 1 => k0_pay10 (ACTv D q s) (ACC q s) (D.Wd q s)

/-- The chunk's rows of the result. -/
def OB (q : ℕ) : S512x16x128.Idx → Elt F .f32 := k0_pay1 D.g2 (ACC D q 4) (XR D q)

/-- Where the chunk's rows go. -/
def dst (q : ℕ) (j : Fin 512) : ℕ := dstRow (D.nv (ix1 (Fin.ofNat 20 q))) (D.src (ix1 (Fin.ofNat 10240 (512 * q + j.val)))) j.val

/-- The result after `q` chunks. -/
def OUT : ℕ → S8704x16x128.Idx → Elt F .f32
  | 0 => OUT0 D.V0
  | q + 1 => outNext (dst D q) (OB D q) (OUT q)

variable (c : Dev nD) (u : Fin 21) (i : grid0.Coords)

theorem mod_num (s n m : ℕ) (h : s + n < m) : s + 1 * n = (s + n) % m := by rw [Nat.mod_eq_of_lt h]; omega

/-- A load from the slot that holds chunk `q`'s rows. -/
theorem wp_loadSlot (q : ℕ) (o sz : Fin 4 → ℕ) (r s : ℕ) (ho : o = ![q % 2, r, s, 0]) (hz : sz 0 = 1) (h : ∀ a, o a + sz a ≤ S2x512x24x128.size a)
    {hl : xbM.view.LoadsAt (Rect.unit (s := S2x512x24x128) o sz h).toLoadRect} {α : Type}
    (k : ((⟨4, sz⟩ : Shape).Idx → Elt F .f32) → Prog (TpuEff nD τ sig (Elt F) Λ₀ .tc) α) (Q : α → sProp 𝕄) :
    (xbM.view.loc (c : Thread nD τ) ↦[slot (q % 2)]{fullShare} XG D.src D.slab q)
      ⊢ iprop(((xbM.view.loc (c : Thread nD τ) ↦[slot (q % 2)]{fullShare} XG D.src D.slab q)
            -∗ wp frame (wpE (defs₀ (F := F)) Variants.none (c : Thread nD τ) none) Set.univ (k (fun y => XB D.src D.slab q (r + (y 1).val) (s + (y 2).val) (0 + (y 3).val))) Q)
        -∗ wp frame (wpE (defs₀ (F := F)) Variants.none (c : Thread nD τ) none) Set.univ (.op (.load xbM (Rect.unit (s := S2x512x24x128) o sz h).toLoadRect hl) k) Q) := by
  subst ho
  have hS : (xbM.access (Rect.unit (s := S2x512x24x128) ![q % 2, r, s, 0] sz h)).set ⊆ slot (q % 2) := by
    intro x hx
    rw [View.set_slice_whole, Rect.mem_set_unit] at hx
    have h0 : q % 2 ≤ (x 0).val ∧ (x 0).val < q % 2 + sz 0 := hx 0
    simp only [slot, Finset.mem_filter, Finset.mem_univ, _root_.true_and]
    omega
  have hr : (xbM.access (Rect.unit (s := S2x512x24x128) ![q % 2, r, s, 0] sz h)).read (Elt F) (XG D.src D.slab q)
      = fun y => XB D.src D.slab q (r + (y 1).val) (s + (y 2).val) (0 + (y 3).val) := by
    funext y
    have h1 : r + sz 1 ≤ 512 := h 1
    have h2 : s + sz 2 ≤ 24 := h 2
    have h3 : 0 + sz 3 ≤ 128 := h 3
    have y1 : (y 1).val < sz 1 := (y 1).isLt
    have y2 : (y 2).val < sz 2 := (y 2).isLt
    have y3 : (y 3).val < sz 3 := (y 3).isLt
    rw [View.read_apply]
    show D.slab (ix3 (Fin.ofNat 8192 (rowOf D.src q (r + 1 * (y 1).val))) _ _) = D.slab (ix3 _ _ _)
    rw [Nat.one_mul]
    congr 1
    funext a
    apply Fin.ext
    fin_cases a
    · rfl
    · exact mod_num s _ 24 (Nat.lt_of_lt_of_le (Nat.add_lt_add_left y2 s) h2)
    · exact mod_num 0 _ 128 (Nat.lt_of_lt_of_le (Nat.add_lt_add_left y3 0) h3)
  have H := wp_load_rect (defs := defs₀ (F := F)) Variants.none (c : Thread nD τ) none (Γ := .empty) Set.univ (Q := Q) (m := xbM)
    (r := Rect.unit (s := S2x512x24x128) ![q % 2, r, s, 0] sz h) (hl := hl) (k := k) (q := fullShare) (f := XG D.src D.slab q) (S := slot (q % 2)) hS
  rw [hr] at H
  exact H

variable (m7 : Memref sig .tc .vmem S1x2048 .f32) (h7 : m7.IsWhole) (m8 : Memref sig .tc .vmem S1x2048 .f32) (h8 : m8.IsWhole)
  (m9 : Memref sig .tc .vmem S1x2048 .f32) (h9 : m9.IsWhole) (m10 : Memref sig .tc .vmem S1x2048 .f32) (h10 : m10.IsWhole)
  (m11 : Memref sig .tc .vmem S1x1x2048x512 .f32) (h11 : m11.IsWhole) (m12 : Memref sig .tc .vmem S1x1x2048x512 .f32) (h12 : m12.IsWhole)
  (m13 : Memref sig .tc .vmem S1x1x512x2048 .f32) (h13 : m13.IsWhole)
theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

/-- The rows normalized so far: the first `32 k` of them. -/
def HI (q k : ℕ) : sProp 𝕄 :=
  iprop((xbM.view.loc (c : Thread nD τ) ↦[slot (q % 2)]{fullShare} XG D.src D.slab q)
    ∗ ∃ f : Vec F S512x2048 .bf16, ⌜∀ x : S512x2048.Idx, (x 0).val < 32 * k → f x = Hv D q x⌝ ∗ (hM.view.loc (c : Thread nD τ) ↦{fullShare} f))

/-- A block of 32 rows stored leaves those rows normalized. -/
theorem norm_write (q : ℕ) (k : Fin k0_t6_loop.trips) (f : Vec F S512x2048 .bf16) (hf : ∀ x : S512x2048.Idx, (x 0).val < 32 * k.val → f x = Hv D q x)
    (x : S512x2048.Idx) (hx : (x 0).val < 32 * (k.val + 1)) :
    (hM.access (Rect.unit (s := S512x2048) (k0_off21 k) S32x2048.size (k0_off21_inb k))).write (Elt F) f (k0_pay7 D.g D.sc D.sh (XT D q k.val)) Finset.univ x = Hv D q x := by
  have hk : k.val < 16 := k.isLt
  have ho := off21_eq k
  by_cases hlt : (x 0).val < 32 * k.val
  · rw [View.write_of_not_mem, hf x hlt]
    show x ∉ (hM.access (Rect.unit (s := S512x2048) (k0_off21 k) S32x2048.size (k0_off21_inb k))).set
    rw [View.set_slice_whole, Rect.mem_set_unit]
    intro H
    have H0 := H 0
    rw [ho] at H0
    have : 32 * k.val ≤ (x 0).val := H0.1
    omega
  · have hemb : x = (hM.access (Rect.unit (s := S512x2048) (k0_off21 k) S32x2048.size (k0_off21_inb k))).emb (ix2 (Fin.ofNat 32 ((x 0).val % 32)) (x 1)) := by
      funext a
      apply Fin.ext
      fin_cases a
      · show (x 0).val = k0_off21 k 0 + 1 * ((x 0).val % 32 % 32)
        rw [ho]
        show (x 0).val = 32 * k.val + 1 * ((x 0).val % 32 % 32)
        omega
      · show (x 1).val = k0_off21 k 1 + 1 * (x 1).val
        rw [ho]
        show (x 1).val = 0 + 1 * (x 1).val
        omega
    conv_lhs => rw [hemb]
    refine (View.write_emb_of_mem _ _ (Finset.mem_univ _)).trans ?_
    unfold Hv
    rw [show (x 0).val / 32 = k.val by omega]
    rfl

/-- One block of 32 rows normalized. -/
theorem norm_trip (k : Fin k0_t6_loop.trips) :
    HI D c (i 0).val k.val ⊢ wp frame (wpE (defs₀ (F := F)) Variants.none (c : Thread nD τ) none) Set.univ (k0_t6_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 D.g D.sc D.sh k ⟨⟩) (fun _ => HI D c (i 0).val (k.val + 1)) := by
  unfold k0_t6_body HI
  iintro ⟨Hx, ⟨%f, %hf, Hh⟩⟩
  iapply (wp_loadSlot D c (i 0).val (k0_off20 i k) S1x32x16x128.size (32 * k.val) 0 (off20_eq i k) rfl (k0_off20_inb i k)) $$ Hx
  iintro Hx
  simp only [ret_then]
  iapply (wp_load_rect (m := hM) (r := Rect.unit (s := S512x2048) (k0_off21 k) S32x2048.size (k0_off21_inb k)) (S := Finset.univ) Variants.none (c : Thread nD τ) none Set.univ (Finset.subset_univ _)) $$ Hh
  iintro Hh
  simp only [ret_then]
  iapply (wp_store (m := hM) (r := Rect.unit (s := S512x2048) (k0_off21 k) S32x2048.size (k0_off21_inb k)) (S := Finset.univ) Variants.none (c : Thread nD τ) none Set.univ (Finset.subset_univ _)) $$ Hh
  iintro Hh
  simp only [ret_then]
  sl_step
  isplitl [Hx]; · iexact Hx
  iexists _
  isplitr
  swap; · iexact Hh
  ipureintro
  exact fun x hx => norm_write D (i 0).val k f hf x hx

end Cert.Kernel2Ideal.Moe

end
-- ==== Proof.MoeParts.lean ====
/- A part's arithmetic: normalizing a chunk's rows, and one expert's share of its sum. -/
module

public import proofs.«01_k».proof.Proof.MoeCompute

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (D : Args F) (c : Dev nD) (u : Fin 21) (i : grid0.Coords)
variable (m7 : Memref sig .tc .vmem S1x2048 .f32) (h7 : m7.IsWhole) (m8 : Memref sig .tc .vmem S1x2048 .f32) (h8 : m8.IsWhole)
  (m9 : Memref sig .tc .vmem S1x2048 .f32) (h9 : m9.IsWhole) (m10 : Memref sig .tc .vmem S1x2048 .f32) (h10 : m10.IsWhole)
  (m11 : Memref sig .tc .vmem S1x1x2048x512 .f32) (h11 : m11.IsWhole) (m12 : Memref sig .tc .vmem S1x1x2048x512 .f32) (h12 : m12.IsWhole)
  (m13 : Memref sig .tc .vmem S1x1x512x2048 .f32) (h13 : m13.IsWhole)
/-- The normalized rows and the sum, before part `s` of chunk `q` (`Cst`), and once it is begun (`C1`). -/
def Cany (F : FTy → Type) [FloatOps F] [∀ e, Nonempty (Elt F e)] : sProp (MT nD τ sig Unit (Elt F) ℕ (Pipeline.UD sig nD τ) ℕ) :=
  iprop((∃ f : Vec F S512x2048 .bf16, owns (c : Thread nD τ) hM fullShare f) ∗ (∃ f : Vec F S512x2048 .f32, owns (c : Thread nD τ) accM fullShare f))
def Cat (q s : ℕ) : sProp 𝕄 := iprop(owns (c : Thread nD τ) hM fullShare (Hv D q) ∗ owns (c : Thread nD τ) accM fullShare (ACC D q s))
def C1 (q s : ℕ) : sProp 𝕄 := if q < u.val then Cat D c q s else Cany c F
def Cst (q s : ℕ) : sProp 𝕄 := if s = 0 then Cany c F else C1 D c u q s

theorem Cat_any (q s : ℕ) : Cat D c q s ⊢ Cany c F := by
  unfold Cat Cany
  iintro ⟨H, A⟩
  isplitl [H]
  · iexists _; iexact H
  · iexists _; iexact A

theorem C1_any (q s : ℕ) : C1 D c u q s ⊢ Cany c F := by
  unfold C1
  by_cases hq : q < u.val
  · rw [if_pos hq]; exact Cat_any D c q s
  · rw [if_neg hq]

/-- Normalizing a chunk's rows, at its first part. -/
def prog4 {α : Type} (v0 : BitVec 32) (R : Unit → Prog (TpuEff nD τ sig (Elt F) Λ₀ .tc) α) : Prog (TpuEff nD τ sig (Elt F) Λ₀ .tc) α :=
  if Scalar.cmpi .ne (Scalar.extui (Scalar.andi (Scalar.cmpi .slt (BitVec.ofNat 32 (i 0).val) v0) (Scalar.cmpi .eq (BitVec.ofNat 32 (i 1).val) 0#32)) : BitVec 32) 0#32 = 1#1 then do
    let v35 : Vec F S1x2048 .f32 ← Prog.lift (.load m7 (Rect.unit (s := S1x2048) ![0, 0] S1x2048.size inb_S1x2048_S1x2048_0_0).toLoadRect (View.loadsAt_vmem h_S1x2048))
    let v36 : Vec F S1x2048 .f32 ← Prog.lift (.load m8 (Rect.unit (s := S1x2048) ![0, 0] S1x2048.size inb_S1x2048_S1x2048_0_0).toLoadRect (View.loadsAt_vmem h_S1x2048))
    let v39 : Vec F S1x2048 .f32 ← Prog.lift (.load m9 (Rect.unit (s := S1x2048) ![0, 0] S1x2048.size inb_S1x2048_S1x2048_0_0).toLoadRect (View.loadsAt_vmem h_S1x2048))
    Scf.Loop.for k0_t6_loop k0_t6_ok ⟨⟩ (k0_t6_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 v35 v36 v39)
    let _ : Vec F S512x2048 .f32 ← Prog.lift (.load accM (Rect.unit (s := S512x2048) ![0, 0] S512x2048.size inb_S512x2048_S512x2048_0_0).toLoadRect (View.loadsAt_vmem h_S512x2048))
    Prog.lift (.store accM (Rect.unit (s := S512x2048) ![0, 0] S512x2048.size inb_S512x2048_S512x2048_0_0) (k0_pay8 (F := F)) Finset.univ (View.stores_vmem_bits_univ h_S512x2048 rfl) (.inl rfl))
    R ⟨⟩
  else R ⟨⟩

theorem sec4 (n : ℕ) {α : Type} (R : Unit → Prog (TpuEff nD τ sig (Elt F) Λ₀ .tc) α) (Q : α → sProp 𝕄) :
    iprop(G1 c D.src D.slab u (i 0).val n ∗ Cst D c u (i 0).val (i 1).val
        ∗ owns (c : Thread nD τ) m7 fullShare D.g ∗ owns (c : Thread nD τ) m8 fullShare D.sc ∗ owns (c : Thread nD τ) m9 fullShare D.sh
        ∗ (iprop(G1 c D.src D.slab u (i 0).val n ∗ C1 D c u (i 0).val (i 1).val
          ∗ owns (c : Thread nD τ) m7 fullShare D.g ∗ owns (c : Thread nD τ) m8 fullShare D.sc ∗ owns (c : Thread nD τ) m9 fullShare D.sh) -∗ wp frame (wpE (defs₀ (F := F)) Variants.none (c : Thread nD τ) none) Set.univ (R ⟨⟩) Q))
      ⊢ wp frame (wpE (defs₀ (F := F)) Variants.none (c : Thread nD τ) none) Set.univ (prog4 i m7 h7 m8 h8 m9 h9 m10 h10 m11 h11 m12 h12 m13 h13 (BitVec.ofNat 32 u.val) R) Q := by
  unfold prog4
  by_cases hs : (i 1).val = 0
  · by_cases hq : (i 0).val < u.val
    · rw [if_pos ((v20_iff i u).2 ⟨hq, hs⟩)]
      unfold Cst C1 G1
      rw [if_pos hs, if_pos hq, if_pos hq, hs]
      unfold Cany Cat slotX
      iintro ⟨⟨⟨Hx, Hg⟩, Hn⟩, ⟨⟨%fh, Hh⟩, ⟨%fa, Ha⟩⟩, H7, H8, H9, Hk⟩
      iapply (wp_loadOwns c m7 h7 zero2 inb_S1x2048_S1x2048_0_0 D.g) $$ H7
      iintro H7
      simp only [ret_then]
      iapply (wp_loadOwns c m8 h8 zero2 inb_S1x2048_S1x2048_0_0 D.sc) $$ H8
      iintro H8
      simp only [ret_then]
      iapply (wp_loadOwns c m9 h9 zero2 inb_S1x2048_S1x2048_0_0 D.sh) $$ H9
      iintro H9
      simp only [ret_then]
      iapply (wp_loop c k0_t6_loop k0_t6_ok (k0_t6_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 D.g D.sc D.sh) (HI D c (i 0).val) (fun k => norm_trip D c i m7 h7 m8 h8 m9 h9 m10 h10 m11 h11 m12 h12 m13 h13 k)) $$ [Hx Hh]
      · unfold HI
        isplitl [Hx]; · iexact Hx
        iexists fh
        isplitr
        · ipureintro
          intro x hx
          omega
        iapply (Entails.of_eq (owns_whole (c : Thread nD τ) cc0_scratch2 fullShare fh)) $$ Hh
      unfold HI
      iintro ⟨Hx, ⟨%f, %hf, Hh⟩⟩
      have hfe : f = Hv D (i 0).val := funext fun x => hf x (by
        have : (x 0).val < 512 := (x 0).isLt
        exact this)
      subst hfe
      iapply (wp_loadOwns c accM (Memref.isWhole_whole _) zero2 inb_S512x2048_S512x2048_0_0 fa) $$ Ha
      iintro Ha
      simp only [ret_then]
      iapply (wp_storeOwns c accM (Memref.isWhole_whole _) zero2 inb_S512x2048_S512x2048_0_0 fa) $$ Ha
      iintro Ha
      simp only [ret_then]
      iapply Hk
      isplitl [Hx Hg Hn]
      · isplitl [Hx Hg]
        · isplitl [Hx] <;> iassumption
        iexact Hn
      isplitl [Hh Ha]
      · isplitl [Hh]
        · rw [owns_whole]
          iexact Hh
        iexact Ha
      isplitl [H7]; · iexact H7
      isplitl [H8] <;> iassumption
    · rw [if_neg (fun h => hq ((v20_iff i u).1 h).1)]
      unfold Cst C1
      rw [if_pos hs, if_neg hq]
      iintro ⟨HG, HC, H7, H8, H9, Hk⟩
      iapply Hk
      isplitl [HG]; · iexact HG
      isplitl [HC]; · iexact HC
      isplitl [H7]; · iexact H7
      isplitl [H8] <;> iassumption
  · rw [if_neg (fun h => hs ((v20_iff i u).1 h).2)]
    unfold Cst
    rw [if_neg hs]
    iintro ⟨HG, HC, H7, H8, H9, Hk⟩
    iapply Hk
    isplitl [HG]; · iexact HG
    isplitl [HC]; · iexact HC
    isplitl [H7]; · iexact H7
    isplitl [H8] <;> iassumption

/-- One expert's share of the sum. -/
def prog5 {α : Type} (v0 v11 : BitVec 32) (R : Unit → Prog (TpuEff nD τ sig (Elt F) Λ₀ .tc) α) : Prog (TpuEff nD τ sig (Elt F) Λ₀ .tc) α :=
  let arg1 : BitVec 32 := BitVec.ofNat 32 (i 1).val
  if Scalar.cmpi .ne (Scalar.extui (Scalar.cmpi .slt (BitVec.ofNat 32 (i 0).val) v0) : BitVec 32) 0#32 = 1#1 then do
    let ⟨v39, v43, v60, v65, v69, c1_i32_36⟩ : Σ' (v39 : FVec F S512x512 .f32) (v43 : FVec F S512x512 .f32) (v60 : BitVec 32) (v65 : FVec F S512x128 .f32) (v69 : FVec F S512x1 .f32), BitVec 32 ← k0_part1 i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 arg1 v11
    let _ : Vec F S1x512x512 .bf16 ← Prog.lift (.load actM (Rect.unit (s := S1x512x512) (k0_off23 i) S1x512x512.size (k0_off23_inb i)).toLoadRect (View.loadsAt_vmem h_S1x512x512))
    Prog.lift (.store actM (Rect.unit (s := S1x512x512) (k0_off23 i) S1x512x512.size (k0_off23_inb i)) (k0_pay9 v39 v43 v60 v65 v69 c1_i32_36) Finset.univ (View.stores_vmem h_S1x512x512 ((Memref.isWhole_whole cc0_scratch4).storeExact_slice rfl _ (k0_off23_packedbf16 i)) (fun _ => rfl)) (.inl rfl))
    if _h6 : Scalar.cmpi .ne (Scalar.extui (Scalar.cmpi .eq (Scalar.select (Scalar.andi (Scalar.xori (Scalar.cmpi .slt (Scalar.remsi arg1 (Scalar.select (Scalar.cmpi .eq 1#32 0#32) 1#32 1#32)) 0#32)
        (Scalar.cmpi .slt (Scalar.select (Scalar.cmpi .eq 1#32 0#32) 1#32 1#32) 0#32)) (Scalar.cmpi .ne (Scalar.remsi arg1 (Scalar.select (Scalar.cmpi .eq 1#32 0#32) 1#32 1#32)) 0#32))
        (Scalar.addi (Scalar.remsi arg1 (Scalar.select (Scalar.cmpi .eq 1#32 0#32) 1#32 1#32)) (Scalar.select (Scalar.cmpi .eq 1#32 0#32) 1#32 1#32))
        (Scalar.remsi arg1 (Scalar.select (Scalar.cmpi .eq 1#32 0#32) 1#32 1#32))) 0#32) : BitVec 32) 0#32 = 1#1 then do
      let v102 : Vec F S1x512x512 .bf16 ← Prog.lift (.load actM (Rect.unit (s := S1x512x512) ![0, 0, 0] S1x512x512.size inb_S1x512x512_S1x512x512_0_0_0).toLoadRect (View.loadsAt_vmem h_S1x512x512))
      let v104 : Vec F S512x2048 .f32 ← Prog.lift (.load accM (Rect.unit (s := S512x2048) ![0, 0] S512x2048.size inb_S512x2048_S512x2048_0_0).toLoadRect (View.loadsAt_vmem h_S512x2048))
      let v105 : Vec F S1x1x512x2048 .f32 ← Prog.lift (.load m13 (Rect.unit (s := S1x1x512x2048) ![0, 0, 0, 0] S1x1x512x2048.size inb_S1x1x512x2048_S1x1x512x2048_0_0_0_0).toLoadRect (View.loadsAt_vmem h_S1x1x512x2048))
      let _ : Vec F S512x2048 .f32 ← Prog.lift (.load accM (Rect.unit (s := S512x2048) ![0, 0] S512x2048.size inb_S512x2048_S512x2048_0_0).toLoadRect (View.loadsAt_vmem h_S512x2048))
      Prog.lift (.store accM (Rect.unit (s := S512x2048) ![0, 0] S512x2048.size inb_S512x2048_S512x2048_0_0) (k0_pay10 v102 v104 v105) Finset.univ (View.stores_vmem_bits_univ h_S512x2048 rfl) (.inl rfl))
      R ⟨⟩
    else R ⟨⟩
  else R ⟨⟩

theorem v101_eq :
    Scalar.cmpi .ne (Scalar.extui (Scalar.cmpi .eq (Scalar.select (Scalar.andi (Scalar.xori (Scalar.cmpi .slt (Scalar.remsi (BitVec.ofNat 32 (i 1).val) (Scalar.select (Scalar.cmpi .eq 1#32 0#32) 1#32 1#32)) 0#32)
        (Scalar.cmpi .slt (Scalar.select (Scalar.cmpi .eq 1#32 0#32) 1#32 1#32) 0#32)) (Scalar.cmpi .ne (Scalar.remsi (BitVec.ofNat 32 (i 1).val) (Scalar.select (Scalar.cmpi .eq 1#32 0#32) 1#32 1#32)) 0#32))
        (Scalar.addi (Scalar.remsi (BitVec.ofNat 32 (i 1).val) (Scalar.select (Scalar.cmpi .eq 1#32 0#32) 1#32 1#32)) (Scalar.select (Scalar.cmpi .eq 1#32 0#32) 1#32 1#32))
        (Scalar.remsi (BitVec.ofNat 32 (i 1).val) (Scalar.select (Scalar.cmpi .eq 1#32 0#32) 1#32 1#32))) 0#32) : BitVec 32) 0#32 = 1#1 := by
  have h : ∀ s : Fin 4, Scalar.cmpi .ne (Scalar.extui (Scalar.cmpi .eq (Scalar.select (Scalar.andi (Scalar.xori (Scalar.cmpi .slt (Scalar.remsi (BitVec.ofNat 32 s.val) (Scalar.select (Scalar.cmpi .eq 1#32 0#32) 1#32 1#32)) 0#32)
        (Scalar.cmpi .slt (Scalar.select (Scalar.cmpi .eq 1#32 0#32) 1#32 1#32) 0#32)) (Scalar.cmpi .ne (Scalar.remsi (BitVec.ofNat 32 s.val) (Scalar.select (Scalar.cmpi .eq 1#32 0#32) 1#32 1#32)) 0#32))
        (Scalar.addi (Scalar.remsi (BitVec.ofNat 32 s.val) (Scalar.select (Scalar.cmpi .eq 1#32 0#32) 1#32 1#32)) (Scalar.select (Scalar.cmpi .eq 1#32 0#32) 1#32 1#32))
        (Scalar.remsi (BitVec.ofNat 32 s.val) (Scalar.select (Scalar.cmpi .eq 1#32 0#32) 1#32 1#32))) 0#32) : BitVec 32) 0#32 = 1#1 := by decide +kernel
  exact h (i 1)

/-- The two products of a chunk's rows with an expert's first weights, and its weights' column. -/
theorem sec5a (v11 : BitVec 32) (q s : ℕ) (hq : (i 0).val = q) (hs : (i 1).val = s) (Q : _ → sProp 𝕄) :
    iprop((xbM.view.loc (c : Thread nD τ) ↦[slot (q % 2)]{fullShare} XG D.src D.slab q) ∗ owns (c : Thread nD τ) hM fullShare (Hv D q)
        ∗ owns (c : Thread nD τ) m11 fullShare (D.Wg q s) ∗ owns (c : Thread nD τ) m12 fullShare (D.Wu q s)
        ∗ (iprop((xbM.view.loc (c : Thread nD τ) ↦[slot (q % 2)]{fullShare} XG D.src D.slab q) ∗ owns (c : Thread nD τ) hM fullShare (Hv D q)
        ∗ owns (c : Thread nD τ) m11 fullShare (D.Wg q s) ∗ owns (c : Thread nD τ) m12 fullShare (D.Wu q s))
          -∗ Q ⟨k0_pay2 (Hv D q) (D.Wg q s), k0_pay3 (Hv D q) (D.Wu q s), colOf (BitVec.ofNat 32 s), k0_pay4 (XC D q), k0_pay5 (BitVec.ofNat 32 s) (XC D q), 1#32⟩))
      ⊢ wp frame (wpE (defs₀ (F := F)) Variants.none (c : Thread nD τ) none) Set.univ (k0_part1 i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 (BitVec.ofNat 32 (i 1).val) v11) Q := by
  subst hq hs
  rw [k0_part1_eq_skeleton]
  unfold k0_part1_skel XC colOf
  iintro ⟨Hx, Hh, H11, H12, Hk⟩
  iapply (wp_loadOwns c hM (Memref.isWhole_whole _) zero2 inb_S512x2048_S512x2048_0_0 (Hv D (i 0).val)) $$ Hh
  iintro Hh
  simp only [ret_then]
  iapply (wp_loadOwns c m11 h11 zero4 inb_S1x1x2048x512_S1x1x2048x512_0_0_0_0 (D.Wg (i 0).val (i 1).val)) $$ H11
  iintro H11
  simp only [ret_then]
  iapply (wp_loadOwns c m12 h12 zero4 inb_S1x1x2048x512_S1x1x2048x512_0_0_0_0 (D.Wu (i 0).val (i 1).val)) $$ H12
  iintro H12
  simp only [ret_then]
  iapply (wp_loadSlot D c (i 0).val (k0_off22 i) S1x512x8x128.size 0 16 (off22_eq i) rfl (k0_off22_inb i)) $$ Hx
  iintro Hx
  simp only [ret_then]
  sl_step
  iapply Hk
  isplitl [Hx]; · iexact Hx
  isplitl [Hh]; · iexact Hh
  isplitl [H11] <;> iassumption

theorem sec5 (n : ℕ) (v11 : BitVec 32) {α : Type} (R : Unit → Prog (TpuEff nD τ sig (Elt F) Λ₀ .tc) α) (Q : α → sProp 𝕄) :
    iprop(G1 c D.src D.slab u (i 0).val n ∗ C1 D c u (i 0).val (i 1).val ∗ (∃ f : Vec F S1x512x512 .bf16, owns (c : Thread nD τ) actM fullShare f)
        ∗ owns (c : Thread nD τ) m11 fullShare (D.Wg (i 0).val (i 1).val) ∗ owns (c : Thread nD τ) m12 fullShare (D.Wu (i 0).val (i 1).val) ∗ owns (c : Thread nD τ) m13 fullShare (D.Wd (i 0).val (i 1).val)
        ∗ (iprop(G1 c D.src D.slab u (i 0).val n ∗ C1 D c u (i 0).val ((i 1).val + 1) ∗ (∃ f : Vec F S1x512x512 .bf16, owns (c : Thread nD τ) actM fullShare f)
        ∗ owns (c : Thread nD τ) m11 fullShare (D.Wg (i 0).val (i 1).val) ∗ owns (c : Thread nD τ) m12 fullShare (D.Wu (i 0).val (i 1).val) ∗ owns (c : Thread nD τ) m13 fullShare (D.Wd (i 0).val (i 1).val)) -∗ wp frame (wpE (defs₀ (F := F)) Variants.none (c : Thread nD τ) none) Set.univ (R ⟨⟩) Q))
      ⊢ wp frame (wpE (defs₀ (F := F)) Variants.none (c : Thread nD τ) none) Set.univ (prog5 i m7 h7 m8 h8 m9 h9 m10 h10 m11 h11 m12 h12 m13 h13 (BitVec.ofNat 32 u.val) v11 R) Q := by
  unfold prog5
  by_cases hq : (i 0).val < u.val
  · simp only []
    rw [if_pos ((v30_iff i u).2 hq)]
    unfold C1 G1
    rw [if_pos hq, if_pos hq, if_pos hq]
    unfold Cat slotX
    rw [wp_bind]
    iintro ⟨⟨⟨Hx, Hg⟩, Hn⟩, ⟨Hh, Ha⟩, ⟨%ft, Ht⟩, H11, H12, H13, Hk⟩
    iapply (sec5a D c i m7 h7 m8 h8 m9 h9 m10 h10 m11 h11 m12 h12 m13 h13 v11 (i 0).val (i 1).val rfl rfl)
    isplitl [Hx]; · iexact Hx
    isplitl [Hh]; · iexact Hh
    isplitl [H11]; · iexact H11
    isplitl [H12]; · iexact H12
    iintro ⟨Hx, Hh, H11, H12⟩
    iapply (wp_loadOwns c actM (Memref.isWhole_whole _) ((off23_eq i).trans zero3) (k0_off23_inb i) ft) $$ Ht
    iintro Ht
    simp only [ret_then]
    iapply (wp_storeOwns c actM (Memref.isWhole_whole _) ((off23_eq i).trans zero3) (k0_off23_inb i) ft) $$ Ht
    iintro Ht
    simp only [ret_then]
    rw [dif_pos (v101_eq i)]
    iapply (wp_loadOwns c actM (Memref.isWhole_whole _) zero3 inb_S1x512x512_S1x512x512_0_0_0 (ACTv D (i 0).val (i 1).val)) $$ [Ht]
    · iexact Ht
    iintro Ht
    simp only [ret_then]
    iapply (wp_loadOwns c accM (Memref.isWhole_whole _) zero2 inb_S512x2048_S512x2048_0_0 (ACC D (i 0).val (i 1).val)) $$ Ha
    iintro Ha
    simp only [ret_then]
    iapply (wp_loadOwns c m13 h13 zero4 inb_S1x1x512x2048_S1x1x512x2048_0_0_0_0 (D.Wd (i 0).val (i 1).val)) $$ H13
    iintro H13
    simp only [ret_then]
    iapply (wp_loadOwns c accM (Memref.isWhole_whole _) zero2 inb_S512x2048_S512x2048_0_0 (ACC D (i 0).val (i 1).val)) $$ Ha
    iintro Ha
    simp only [ret_then]
    iapply (wp_storeOwns c accM (Memref.isWhole_whole _) zero2 inb_S512x2048_S512x2048_0_0 (ACC D (i 0).val (i 1).val)) $$ Ha
    iintro Ha
    simp only [ret_then]
    iapply Hk
    isplitl [Hx Hg Hn]
    · isplitl [Hx Hg]
      · isplitl [Hx] <;> iassumption
      iexact Hn
    isplitl [Hh Ha]
    · isplitl [Hh]; · iexact Hh
      iexact Ha
    isplitl [Ht]
    · iexists _; iexact Ht
    isplitl [H11]; · iexact H11
    isplitl [H12] <;> iassumption
  · simp only []
    rw [if_neg (fun h => hq ((v30_iff i u).1 h))]
    unfold C1
    rw [if_neg hq, if_neg hq]
    iintro ⟨HG, HC, Ht, H11, H12, H13, Hk⟩
    iapply Hk
    isplitl [HG]; · iexact HG
    isplitl [HC]; · iexact HC
    isplitl [Ht]; · iexact Ht
    isplitl [H11]; · iexact H11
    isplitl [H12] <;> iassumption

end Cert.Kernel2Ideal.Moe

end
-- ==== Proof.MoeFinish.lean ====
/- Finishing a chunk: its rows of the result computed, sent to their places, and waited for a chunk later. -/
module

public import proofs.«01_k».proof.Proof.MoeParts

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (D : Args F) (c : Dev nD) (u : Fin 21) (i : grid0.Coords)
variable (m7 : Memref sig .tc .vmem S1x2048 .f32) (h7 : m7.IsWhole) (m8 : Memref sig .tc .vmem S1x2048 .f32) (h8 : m8.IsWhole)
  (m9 : Memref sig .tc .vmem S1x2048 .f32) (h9 : m9.IsWhole) (m10 : Memref sig .tc .vmem S1x2048 .f32) (h10 : m10.IsWhole)
  (m11 : Memref sig .tc .vmem S1x1x2048x512 .f32) (h11 : m11.IsWhole) (m12 : Memref sig .tc .vmem S1x1x2048x512 .f32) (h12 : m12.IsWhole)
  (m13 : Memref sig .tc .vmem S1x1x512x2048 .f32) (h13 : m13.IsWhole)
/-- The result's buffer, its cell and the result, nothing on its way. -/
def Quiet (q : ℕ) : sProp 𝕄 :=
  iprop((∃ f : S512x16x128.Idx → Elt F .f32, owns (c : Thread nD τ) obM fullShare f) ∗ semVal ((c : Thread nD τ), SemLoc.dma scell) 0
    ∗ (outM.view.loc (c : Thread nD τ) ↦{fullShare} OUT D q))
/-- The result before chunk `q` is finished: the chunk before it on its way, if there is one. -/
def Sst (q : ℕ) : sProp 𝕄 :=
  if 0 < q ∧ q < u.val then SB c (dst D (q - 1)) (OB D (q - 1)) (OUT D (q - 1)) 512 else Quiet D c (min q u.val)

theorem out_inb (n : ℕ) (hn : n < 8704) : ∀ a, (![n, 0, 0] : Fin 3 → ℕ) a + S1x16x128.size a ≤ S8704x16x128.size a := by
  intro a
  fin_cases a
  · show n + 1 ≤ 8704; omega
  · show 0 + 16 ≤ 16; omega
  · show 0 + 128 ≤ 128; omega

theorem dst_lt (q : ℕ) (hr : ∀ j < 512, rowOf D.src q j < 8192) (j : Fin 512) : dst D q j < 8704 := by
  have h : rowOf D.src q j.val < 8192 := hr j.val j.isLt
  have hj := j.isLt
  unfold dst dstRow
  split
  · exact Nat.lt_of_lt_of_le h (by omega)
  · omega

theorem ob_owns (f : S512x16x128.Idx → Elt F .f32) : (owns (c : Thread nD τ) obM fullShare f : sProp 𝕄) = (obM.view.loc (c : Thread nD τ) ↦{fullShare} f) := owns_whole (c : Thread nD τ) cc0_scratch1 fullShare f

/-- A chunk's scatter waited for. -/
theorem quiet_of_wait (q : ℕ) (hd : Function.Injective (dst D q)) {W : Waits sig Unit} {α : Type}
    {spw sp : Space} {sw s : Shape} {ew e : EltTy} {srcw : Memref sig .tc spw sw ew} {dstw : Memref sig .tc sp s e}
    (hJ : dstw.view.dmaCredit = 256 * 512) {h1 : srcw.view.WordExact} {h2 : dstw.view.WordExact}
    (K : PUnit → Prog (TpuEff nD τ sig (Elt F) Λ₀ .tc) α) (Q : α → sProp 𝕄) :
    iprop(SB c (dst D q) (OB D q) (OUT D q) 512 ∗ owes (c : Thread nD τ) 0 W)
      ⊢ iprop((∀ W', iprop(Quiet D c (q + 1) ∗ owes (c : Thread nD τ) 0 W') -∗ wp frame (wpE (defs₀ (F := F)) Variants.none (c : Thread nD τ) none) Set.univ (K ⟨⟩) Q)
        -∗ wp frame (wpE (defs₀ (F := F)) Variants.none (c : Thread nD τ) none) Set.univ (.op (.waitDma2 scell srcw dstw h1 h2) K) Q) := by
  iintro H Hk
  iapply (scatter_wait c (dst D q) (OB D q) (OUT D q) hd hJ K Q) $$ H
  iintro ⟨Ho, Hx, Hg, HO⟩
  iapply Hk
  isplitr [HO]
  · unfold Quiet
    isplitl [Ho]
    · iexists _
      iapply (Entails.of_eq (ob_owns c (OB D q)).symm) $$ Ho
    isplitl [Hg]; · iexact Hg
    iexact Hx
  iexact HO

/-- Waiting for the chunk before, if there is one. -/
def prog7a {α : Type} (a0 : BitVec 32) (R : Unit → Prog (TpuEff nD τ sig (Elt F) Λ₀ .tc) α) : Prog (TpuEff nD τ sig (Elt F) Λ₀ .tc) α :=
  if _h8 : Scalar.cmpi .ne (Scalar.extui (Scalar.cmpi .sgt a0 0#32) : BitVec 32) 0#32 = 1#1 then do
    Prog.lift (.waitDma2 ((cc0_scratch6.slice (Rect.unit (s := S1) ![0] S1.size inb_S1_S1_0)).squeeze S_ squeezes_S1_S_).sem obM
      (outM.slice (Rect.unit (s := S8704x16x128) ![0, 0, 0] S512x16x128.size inb_S8704x16x128_S512x16x128_0_0_0) (fun _ => rfl))
      (Memref.isWhole_whole cc0_scratch1).wordExact (View.wordExact_bits rfl))
    R ⟨⟩
  else R ⟨⟩

theorem sec7a (hq : (i 0).val < u.val) (hd : ∀ q < u.val, Function.Injective (dst D q)) {W : Waits sig Unit} {α : Type}
    (R : Unit → Prog (TpuEff nD τ sig (Elt F) Λ₀ .tc) α) (Q : α → sProp 𝕄) :
    iprop(Sst D c u (i 0).val ∗ owes (c : Thread nD τ) 0 W)
      ⊢ iprop((∀ W', iprop(Quiet D c (i 0).val ∗ owes (c : Thread nD τ) 0 W') -∗ wp frame (wpE (defs₀ (F := F)) Variants.none (c : Thread nD τ) none) Set.univ (R ⟨⟩) Q) -∗ wp frame (wpE (defs₀ (F := F)) Variants.none (c : Thread nD τ) none) Set.univ (prog7a (BitVec.ofNat 32 (i 0).val) R) Q) := by
  unfold prog7a Sst
  by_cases h0 : 0 < (i 0).val
  · rw [dif_pos ((v37_iff i).2 h0), if_pos ⟨h0, hq⟩]
    iintro H Hk
    iapply (quiet_of_wait D c ((i 0).val - 1) (hd _ (by omega)) (show RefSig.tileCredit S512x16x128 .f32 = 256 * 512 by decide +kernel)) $$ H
    rw [show (i 0).val - 1 + 1 = (i 0).val by omega]
    simp only [ret_then]
    iexact Hk
  · rw [dif_neg (fun h => h0 ((v37_iff i).1 h)), if_neg (fun h => h0 h.1), Nat.min_eq_left hq.le]
    iintro H Hk
    iapply Hk
    iexact H

/-- Waiting for the chunk itself, if it is the last. -/
def prog7d {α : Type} (a0 v0 : BitVec 32) (R : Unit → Prog (TpuEff nD τ sig (Elt F) Λ₀ .tc) α) : Prog (TpuEff nD τ sig (Elt F) Λ₀ .tc) α :=
  if Scalar.cmpi .ne (Scalar.extui (Scalar.cmpi .eq a0 (Scalar.subi v0 1#32)) : BitVec 32) 0#32 = 1#1 then do
    Prog.lift (.waitDma2 ((cc0_scratch6.slice (Rect.unit (s := S1) ![0] S1.size inb_S1_S1_0)).squeeze S_ squeezes_S1_S_).sem obM
      (outM.slice (Rect.unit (s := S8704x16x128) ![0, 0, 0] S512x16x128.size inb_S8704x16x128_S512x16x128_0_0_0) (fun _ => rfl))
      (Memref.isWhole_whole cc0_scratch1).wordExact (View.wordExact_bits rfl))
    R ⟨⟩
  else R ⟨⟩

theorem sec7d (hq : (i 0).val < u.val) (hd : ∀ q < u.val, Function.Injective (dst D q)) {W : Waits sig Unit} {α : Type}
    (R : Unit → Prog (TpuEff nD τ sig (Elt F) Λ₀ .tc) α) (Q : α → sProp 𝕄) :
    iprop(SB c (dst D (i 0).val) (OB D (i 0).val) (OUT D (i 0).val) 512 ∗ owes (c : Thread nD τ) 0 W)
      ⊢ iprop((∀ W', iprop(Sst D c u ((i 0).val + 1) ∗ owes (c : Thread nD τ) 0 W') -∗ wp frame (wpE (defs₀ (F := F)) Variants.none (c : Thread nD τ) none) Set.univ (R ⟨⟩) Q) -∗ wp frame (wpE (defs₀ (F := F)) Variants.none (c : Thread nD τ) none) Set.univ (prog7d (BitVec.ofNat 32 (i 0).val) (BitVec.ofNat 32 u.val) R) Q) := by
  unfold prog7d Sst
  by_cases h1 : (i 0).val + 1 = u.val
  · rw [if_pos ((v54_iff i u).2 h1), if_neg (by omega), Nat.min_eq_left h1.le]
    iintro H Hk
    iapply (quiet_of_wait D c (i 0).val (hd _ hq) (show RefSig.tileCredit S512x16x128 .f32 = 256 * 512 by decide +kernel)) $$ H
    simp only [ret_then]
    iexact Hk
  · rw [if_neg (fun h => h1 ((v54_iff i u).1 h)), if_pos (by omega), Nat.add_sub_cancel]
    iintro H Hk
    iapply Hk
    iexact H

/-- Issuing a finished chunk's rows. -/
theorem scatter_loop (hq : (i 0).val < u.val) (hd : ∀ q < u.val, Function.Injective (dst D q)) (hr : ∀ q < u.val, ∀ j < 512, rowOf D.src q j < 8192)
    (hh : k0_cond7 i (BitVec.ofNat 32 u.val) = 1#1) {α : Type} (kk : Unit → Prog (TpuEff nD τ sig (Elt F) Λ₀ .tc) α) (Q : α → sProp 𝕄) :
    iprop(SB c (dst D (i 0).val) (OB D (i 0).val) (OUT D (i 0).val) 0 ∗ nvPt c D.nv ∗ srcPt c D.src)
      ⊢ iprop((iprop(SB c (dst D (i 0).val) (OB D (i 0).val) (OUT D (i 0).val) 512 ∗ nvPt c D.nv ∗ srcPt c D.src) -∗ wp frame (wpE (defs₀ (F := F)) Variants.none (c : Thread nD τ) none) Set.univ (kk ⟨⟩) Q)
        -∗ wp frame (wpE (defs₀ (F := F)) Variants.none (c : Thread nD τ) none) Set.univ (Scf.Loop.for k0_t7_loop k0_t7_ok ⟨⟩ (k0_t7_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 (BitVec.ofNat 32 u.val) hh) >>= kk) Q) := by
  refine wp_loop c k0_t7_loop k0_t7_ok (k0_t7_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 (BitVec.ofNat 32 u.val) hh)
    (fun k => iprop(SB c (dst D (i 0).val) (OB D (i 0).val) (OUT D (i 0).val) k ∗ nvPt c D.nv ∗ srcPt c D.src)) (fun k => ?_) kk Q
  have hk : k.val < 512 := k.isLt
  refine BI.Entails.trans (show iprop(SB c (dst D (i 0).val) (OB D (i 0).val) (OUT D (i 0).val) k.val ∗ nvPt c D.nv ∗ srcPt c D.src)
      ⊢ iprop(SB c (dst D (i 0).val) (OB D (i 0).val) (OUT D (i 0).val) k.val ∗ nvPt c D.nv ∗ srcPt c D.src
        ∗ (iprop(SB c (dst D (i 0).val) (OB D (i 0).val) (OUT D (i 0).val) (k.val + 1) ∗ nvPt c D.nv ∗ srcPt c D.src)
          -∗ iprop(SB c (dst D (i 0).val) (OB D (i 0).val) (OUT D (i 0).val) (k.val + 1) ∗ nvPt c D.nv ∗ srcPt c D.src))) from ?_)
    (scatter_trip c D.nv D.src (dst D (i 0).val) (OB D (i 0).val) (OUT D (i 0).val) (hd _ hq) (i 0).val k.val hk (k0_off25 i) (off25_eq i) (k0_off25_inb i)
      (k0_off26 i k) (off26_eq i k) (k0_off26_inb i k) (k0_off28 k) (off28_eq k) (k0_off28_inb k)
      (fun v w => k0_off27 k v w) (off27_eq k _ _) (fun v w => k0_chk7 i (BitVec.ofNat 32 u.val) k v w) (fun v w => k0_chk7.dec i (BitVec.ofNat 32 u.val) k v w) ?_
      (fun v w hv => k0_off27_inb i (BitVec.ofNat 32 u.val) k v w hv hh)
      (fun _ => iprop(SB c (dst D (i 0).val) (OB D (i 0).val) (OUT D (i 0).val) (k.val + 1) ∗ nvPt c D.nv ∗ srcPt c D.src)))
  · iintro ⟨HB, Hn, Hs⟩
    isplitl [HB]; · iexact HB
    isplitl [Hn]; · iexact Hn
    isplitl [Hs]; · iexact Hs
    iintro H
    iexact H
  · intro _
    rw [off27_eq]
    exact out_inb _ (dst_lt D (i 0).val (hr _ hq) ⟨k.val, hk⟩)

/-- Finishing a chunk, at its last part: its rows are computed and sent to their places. -/
def prog7 {α : Type} (a0 v0 : BitVec 32) (R : Unit → Prog (TpuEff nD τ sig (Elt F) Λ₀ .tc) α) : Prog (TpuEff nD τ sig (Elt F) Λ₀ .tc) α :=
  if hh : k0_cond7 i v0 = 1#1 then prog7a a0 fun _ => do
    let v38 : Vec F S1x2048 .f32 ← Prog.lift (.load m10 (Rect.unit (s := S1x2048) ![0, 0] S1x2048.size inb_S1x2048_S1x2048_0_0).toLoadRect (View.loadsAt_vmem h_S1x2048))
    let v39 : Vec F S512x2048 .f32 ← Prog.lift (.load accM (Rect.unit (s := S512x2048) ![0, 0] S512x2048.size inb_S512x2048_S512x2048_0_0).toLoadRect (View.loadsAt_vmem h_S512x2048))
    let v43 : Vec F S1x512x16x128 .f32 ← Prog.lift (.load xbM (Rect.unit (s := S2x512x24x128) (k0_off24 i) S1x512x16x128.size (k0_off24_inb i)).toLoadRect (View.loadsAt_vmem h_S1x512x16x128))
    let _ : Vec F S512x16x128 .f32 ← Prog.lift (.load obM (Rect.unit (s := S512x16x128) ![0, 0, 0] S512x16x128.size inb_S512x16x128_S512x16x128_0_0_0).toLoadRect (View.loadsAt_vmem h_S512x16x128))
    Prog.lift (.store obM (Rect.unit (s := S512x16x128) ![0, 0, 0] S512x16x128.size inb_S512x16x128_S512x16x128_0_0_0) (k0_pay1 v38 v39 v43) Finset.univ (View.stores_vmem_bits_univ h_S512x16x128 rfl) (.inl rfl))
    Scf.Loop.for k0_t7_loop k0_t7_ok ⟨⟩ (k0_t7_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 v0 hh)
    prog7d a0 v0 R
  else R ⟨⟩

theorem sec7 (hd : ∀ q < u.val, Function.Injective (dst D q)) (hr : ∀ q < u.val, ∀ j < 512, rowOf D.src q j < 8192) (n : ℕ) {W : Waits sig Unit} {α : Type}
    (R : Unit → Prog (TpuEff nD τ sig (Elt F) Λ₀ .tc) α) (Q : α → sProp 𝕄) :
    iprop(G1 c D.src D.slab u (i 0).val n ∗ C1 D c u (i 0).val ((i 1).val + 1) ∗ Sst D c u (i 0).val ∗ owns (c : Thread nD τ) m10 fullShare D.g2
        ∗ nvPt c D.nv ∗ srcPt c D.src ∗ owes (c : Thread nD τ) 0 W
        ∗ (∀ W', iprop(G1 c D.src D.slab u (i 0).val n ∗ C1 D c u (i 0).val ((i 1).val + 1) ∗ Sst D c u (if (i 1).val = 3 then (i 0).val + 1 else (i 0).val)
            ∗ owns (c : Thread nD τ) m10 fullShare D.g2 ∗ nvPt c D.nv ∗ srcPt c D.src ∗ owes (c : Thread nD τ) 0 W') -∗ wp frame (wpE (defs₀ (F := F)) Variants.none (c : Thread nD τ) none) Set.univ (R ⟨⟩) Q))
      ⊢ wp frame (wpE (defs₀ (F := F)) Variants.none (c : Thread nD τ) none) Set.univ (prog7 i m7 h7 m8 h8 m9 h9 m10 h10 m11 h11 m12 h12 m13 h13 (BitVec.ofNat 32 (i 0).val) (BitVec.ofNat 32 u.val) R) Q := by
  unfold prog7
  by_cases h : (i 0).val < u.val ∧ (i 1).val = 3
  · have hh := (cond7_iff i u).2 h
    obtain ⟨hq, hs⟩ := h
    rw [dif_pos hh, if_pos hs, hs]
    unfold G1 C1
    rw [if_pos hq, if_pos hq]
    unfold Cat slotX
    iintro ⟨⟨⟨Hx, Hg⟩, Hn⟩, ⟨Hh, Ha⟩, HS, H10, Hv, Hs, HO, Hk⟩
    iapply (sec7a D c u i hq hd) $$ [HS HO]
    · isplitl [HS] <;> iassumption
    iintro %W1
    unfold Quiet
    iintro ⟨⟨⟨%fo, Ho⟩, Hc, Hr⟩, HO⟩
    iapply (wp_loadOwns c m10 h10 zero2 inb_S1x2048_S1x2048_0_0 D.g2) $$ H10
    iintro H10
    simp only [ret_then]
    iapply (wp_loadOwns c accM (Memref.isWhole_whole _) zero2 inb_S512x2048_S512x2048_0_0 (ACC D (i 0).val 4)) $$ Ha
    iintro Ha
    simp only [ret_then]
    iapply (wp_loadSlot D c (i 0).val (k0_off24 i) S1x512x16x128.size 0 0 (off24_eq i) rfl (k0_off24_inb i)) $$ Hx
    iintro Hx
    simp only [ret_then]
    iapply (wp_loadOwns c obM (Memref.isWhole_whole _) zero3 inb_S512x16x128_S512x16x128_0_0_0 fo) $$ Ho
    iintro Ho
    simp only [ret_then]
    iapply (wp_storeOwns c obM (Memref.isWhole_whole _) zero3 inb_S512x16x128_S512x16x128_0_0_0 fo) $$ Ho
    iintro Ho
    simp only [ret_then]
    ihave Ho := (Entails.of_eq (ob_owns c _)) $$ Ho
    imod (scatter_alloc c (dst D (i 0).val) (OB D (i 0).val) (OUT D (i 0).val) (hd _ hq)) $$ [Ho Hc Hr] with HB
    · isplitl [Hc]; · iexact Hc
      isplitl [Ho]; · iexact Ho
      iexact Hr
    iapply (scatter_loop D c u i m7 h7 m8 h8 m9 h9 m10 h10 m11 h11 m12 h12 m13 h13 hq hd hr hh) $$ [HB Hv Hs]
    · isplitl [HB]; · iexact HB
      isplitl [Hv] <;> iassumption
    iintro ⟨HB, Hv, Hs⟩
    iapply (sec7d D c u i hq hd) $$ [HB HO]
    · isplitl [HB] <;> iassumption
    iintro %W2 ⟨HS, HO⟩
    iapply Hk
    isplitl [Hx Hg Hn]
    · isplitl [Hx Hg]
      · isplitl [Hx] <;> iassumption
      iexact Hn
    isplitl [Hh Ha]
    · isplitl [Hh] <;> iassumption
    isplitl [HS]; · iexact HS
    isplitl [H10]; · iexact H10
    isplitl [Hv]; · iexact Hv
    isplitl [Hs] <;> iassumption
  · rw [dif_neg (fun h' => h ((cond7_iff i u).1 h'))]
    have e : (Sst D c u (i 0).val : sProp 𝕄) ⊢ Sst D c u (if (i 1).val = 3 then (i 0).val + 1 else (i 0).val) := by
      by_cases hs : (i 1).val = 3
      · have hq : ¬ (i 0).val < u.val := fun hq => h ⟨hq, hs⟩
        unfold Sst
        rw [if_pos hs, if_neg (fun h => hq h.2), if_neg (fun h => hq (by omega)), Nat.min_eq_right (by omega), Nat.min_eq_right (by omega)]
      · rw [if_neg hs]
    iintro ⟨HG, HC, HS, H10, Hv, Hs, HO, Hk⟩
    iapply Hk
    isplitl [HG]; · iexact HG
    isplitl [HC]; · iexact HC
    isplitl [HS]; · iapply e $$ HS
    isplitl [H10]; · iexact H10
    isplitl [Hv]; · iexact Hv
    isplitl [Hs] <;> iassumption

end Cert.Kernel2Ideal.Moe

end
-- ==== Proof.MoeFirst.lean ====
/- The first point's own work, and the body as the sequence of its sections. -/
module

public import proofs.«01_k».proof.Proof.MoeFinish

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (D : Args F) (c : Dev nD) (u : Fin 21) (i : grid0.Coords)
variable (m7 : Memref sig .tc .vmem S1x2048 .f32) (h7 : m7.IsWhole) (m8 : Memref sig .tc .vmem S1x2048 .f32) (h8 : m8.IsWhole)
  (m9 : Memref sig .tc .vmem S1x2048 .f32) (h9 : m9.IsWhole) (m10 : Memref sig .tc .vmem S1x2048 .f32) (h10 : m10.IsWhole)
  (m11 : Memref sig .tc .vmem S1x1x2048x512 .f32) (h11 : m11.IsWhole) (m12 : Memref sig .tc .vmem S1x1x2048x512 .f32) (h12 : m12.IsWhole)
  (m13 : Memref sig .tc .vmem S1x1x512x2048 .f32) (h13 : m13.IsWhole)
/-- The count of chunks in use held. -/
abbrev nuPt (nu : S1.Idx → Elt F .i32) : sProp 𝕄 := nuM.view.loc (c : Thread nD τ) ↦{fullShare.right} nu

theorem nu_word (nu : S1.Idx → Elt F .i32) (x : _) : (nuM.access (Rect.unit (s := S1) ![0] S1.size inb_S1_S1_0)).read (Elt F) nu x = nu (ix1 0) := by
  rw [View.read_apply]
  refine congrArg nu (funext fun a => Fin.ext ?_)
  match a with
  | ⟨0, _⟩ =>
    have hx : (x 0).val < 1 := (x 0).isLt
    show 0 + 1 * (x 0).val = 0
    omega

/-- The count of chunks in use, at the head of a program. -/
theorem wp_nuWord (nu : S1.Idx → Elt F .i32) {α : Type} (K : Elt F .i32 → Prog (TpuEff nD τ sig (Elt F) Λ₀ .tc) α) (Q : α → sProp 𝕄) :
    nuPt c nu
      ⊢ iprop((nuPt c nu -∗ wp frame (wpE (defs₀ (F := F)) Variants.none (c : Thread nD τ) none) Set.univ (K (nu (ix1 0))) Q)
        -∗ wp frame (wpE (defs₀ (F := F)) Variants.none (c : Thread nD τ) none) Set.univ (smemLoad nuM (Rect.unit (s := S1) ![0] S1.size inb_S1_S1_0) numel1_S1 rfl >>= K) Q) := by
  have hw := nu_word (F := F) nu (Shape.Idx.first (numel1_S1.symm ▸ Nat.one_pos))
  rw [← hw]
  exact wp_smemLoadElt (m := nuM) (r := Rect.unit (s := S1) ![0] S1.size inb_S1_S1_0) (hw := View.loads_smem_one rfl numel1_S1)
    (x := Shape.Idx.first (numel1_S1.symm ▸ Nat.one_pos)) (k := K) Variants.none (c : Thread nD τ) none Set.univ (Finset.subset_univ _)

/-- What the first point begins from, and what the others do. -/
def Fst (q s : ℕ) : sProp 𝕄 :=
  if q = 0 ∧ s = 0 then iprop(Idle c D.slab ∗ (∃ f : S512x16x128.Idx → Elt F .f32, owns (c : Thread nD τ) obM fullShare f)
    ∗ semVal ((c : Thread nD τ), SemLoc.dma scell) 0 ∗ (outM.view.loc (c : Thread nD τ) ↦{fullShare} D.V0))
  else iprop(Gst c D.src D.slab u q s ∗ Sst D c u q)

/-- The first point's own work: the first chunk's gather issued, the rows past the tokens zeroed. -/
def prog1 {α : Type} (R : Unit → Prog (TpuEff nD τ sig (Elt F) Λ₀ .tc) α) : Prog (TpuEff nD τ sig (Elt F) Λ₀ .tc) α :=
  if hh : k0_cond1 i = 1#1 then do
    Scf.Loop.for k0_t1_loop (k0_t1_ok i hh) ⟨⟩ (k0_t1_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh)
    Scf.Loop.for k0_t2_loop (k0_t2_ok i hh) ⟨⟩ (k0_t2_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh)
    Scf.Loop.for k0_t3_loop (k0_t3_ok i hh) ⟨⟩ (k0_t3_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh)
    Scf.Loop.for k0_t4_loop (k0_t4_ok i hh) ⟨⟩ (k0_t4_body i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 hh)
    let _ : Vec F S512x16x128 .f32 ← Prog.lift (.load obM (Rect.unit (s := S512x16x128) ![0, 0, 0] S512x16x128.size inb_S512x16x128_S512x16x128_0_0_0).toLoadRect (View.loadsAt_vmem h_S512x16x128))
    Prog.lift (.store obM (Rect.unit (s := S512x16x128) ![0, 0, 0] S512x16x128.size inb_S512x16x128_S512x16x128_0_0_0) (k0_pay6 (F := F)) Finset.univ (View.stores_vmem_bits_univ h_S512x16x128 rfl) (.inl rfl))
    Prog.lift (.enqueueDma obM (.here (outM.slice (Rect.unit (s := S8704x16x128) ![8192, 0, 0] S512x16x128.size inb_S8704x16x128_S512x16x128_8192_0_0) (fun _ => rfl)))
      (.dma ((cc0_scratch6.slice (Rect.unit (s := S1) ![0] S1.size inb_S1_S1_0)).squeeze S_ squeezes_S1_S_).sem) (Memref.isWhole_whole cc0_scratch1).wordExact (View.wordExact_bits rfl) ⟨Or.inl rfl, trivial⟩)
    Prog.lift (.waitDma2 ((cc0_scratch6.slice (Rect.unit (s := S1) ![0] S1.size inb_S1_S1_0)).squeeze S_ squeezes_S1_S_).sem obM
      (outM.slice (Rect.unit (s := S8704x16x128) ![8192, 0, 0] S512x16x128.size inb_S8704x16x128_S512x16x128_8192_0_0) (fun _ => rfl))
      (Memref.isWhole_whole cc0_scratch1).wordExact (View.wordExact_bits rfl))
    R ⟨⟩
  else R ⟨⟩

theorem sec1 (hu : 0 < u.val) (hr : ∀ q < u.val, ∀ j < 512, rowOf D.src q j < 8192) {W : Waits sig Unit} {α : Type}
    (R : Unit → Prog (TpuEff nD τ sig (Elt F) Λ₀ .tc) α) (Q : α → sProp 𝕄) :
    iprop(Fst D c u (i 0).val (i 1).val ∗ srcPt c D.src ∗ owes (c : Thread nD τ) 0 W
        ∗ (∀ W', iprop(Gst c D.src D.slab u (i 0).val (i 1).val ∗ Sst D c u (i 0).val ∗ srcPt c D.src ∗ owes (c : Thread nD τ) 0 W') -∗ wp frame (wpE (defs₀ (F := F)) Variants.none (c : Thread nD τ) none) Set.univ (R ⟨⟩) Q))
      ⊢ wp frame (wpE (defs₀ (F := F)) Variants.none (c : Thread nD τ) none) Set.univ (prog1 i m7 h7 m8 h8 m9 h9 m10 h10 m11 h11 m12 h12 m13 h13 R) Q := by
  unfold prog1
  by_cases h : (i 0).val = 0 ∧ (i 1).val = 0
  · have hh := (cond1_iff i).2 h
    obtain ⟨hq, hs⟩ := h
    rw [dif_pos hh]
    unfold Fst Gst Sst
    rw [hq, hs, if_pos ⟨rfl, rfl⟩, if_pos hu, if_pos rfl, if_neg (fun h => absurd h.1 (by omega)), Nat.min_eq_left (Nat.zero_le _)]
    unfold Idle Free
    iintro ⟨⟨⟨⟨Hx0, Hg0⟩, Hf1, Hsl⟩, ⟨%fo, Ho⟩, Hc, Hout⟩, Hs, HO, Hk⟩
    imod (gather_alloc c D.src D.slab 0) $$ [Hx0 Hg0 Hsl] with HB
    · isplitl [Hg0]; · iexact Hg0
      isplitl [Hx0] <;> iassumption
    iapply (gather_t1 c D.src D.slab i m7 h7 m8 h8 m9 h9 m10 h10 m11 h11 m12 h12 m13 h13 (hr 0 hu) _ Q hh) $$ [HB Hs]
    · isplitl [HB] <;> iassumption
    iintro H
    iapply (gather_t2 c D.src D.slab i m7 h7 m8 h8 m9 h9 m10 h10 m11 h11 m12 h12 m13 h13 (hr 0 hu) _ Q hh) $$ H
    iintro H
    iapply (gather_t3 c D.src D.slab i m7 h7 m8 h8 m9 h9 m10 h10 m11 h11 m12 h12 m13 h13 (hr 0 hu) _ Q hh) $$ H
    iintro H
    iapply (gather_t4 c D.src D.slab i m7 h7 m8 h8 m9 h9 m10 h10 m11 h11 m12 h12 m13 h13 (hr 0 hu) _ Q hh) $$ H
    iintro ⟨HB, Hs⟩
    iapply (wp_loadOwns c obM (Memref.isWhole_whole _) zero3 inb_S512x16x128_S512x16x128_0_0_0 fo) $$ Ho
    iintro Ho
    simp only [ret_then]
    iapply (wp_storeOwns c obM (Memref.isWhole_whole _) zero3 inb_S512x16x128_S512x16x128_0_0_0 fo) $$ Ho
    iintro Ho
    simp only [ret_then]
    ihave Ho := (Entails.of_eq (ob_owns c _)) $$ Ho
    iapply (zero_fill c D.V0) $$ [Ho Hout Hc HO]
    · isplitl [Ho]; · iexact Ho
      isplitl [Hout]; · iexact Hout
      isplitl [Hc] <;> iassumption
    iintro ⟨Ho, Hout, Hc, HO⟩
    simp only [ret_then]
    iapply Hk
    isplitl [HB Hf1]
    · isplitl [HB]; · iexact HB
      iexact Hf1
    isplitl [Ho Hc Hout]
    · unfold Quiet
      isplitl [Ho]
      · iexists _
        iapply (Entails.of_eq (ob_owns c (k0_pay6 (F := F))).symm) $$ Ho
      isplitl [Hc]; · iexact Hc
      iexact Hout
    isplitl [Hs] <;> iassumption
  · rw [dif_neg (fun h' => h ((cond1_iff i).1 h'))]
    unfold Fst
    rw [if_neg h]
    iintro ⟨⟨HG, HS⟩, Hs, HO, Hk⟩
    iapply Hk
    isplitl [HG]; · iexact HG
    isplitl [HS]; · iexact HS
    isplitl [Hs] <;> iassumption

/-- The slot's number and the last part's flag, as the body computes them. -/
def slotNo : BitVec 32 :=
  let arg0 : BitVec 32 := BitVec.ofNat 32 (i 0).val
  let v3 : BitVec 32 := Scalar.select (Scalar.cmpi .eq 2#32 0#32) 1#32 2#32
  let v4 : BitVec 32 := Scalar.remsi arg0 v3
  Scalar.select (Scalar.andi (Scalar.xori (Scalar.cmpi .slt v4 0#32) (Scalar.cmpi .slt v3 0#32)) (Scalar.cmpi .ne v4 0#32)) (Scalar.addi v4 v3) v4
def lastNo (v0 : BitVec 32) : BitVec 32 :=
  Scalar.extui (Scalar.andi (Scalar.cmpi .slt (BitVec.ofNat 32 (i 0).val) v0) (Scalar.cmpi .eq (BitVec.ofNat 32 (i 1).val) 3#32))

set_option maxHeartbeats 4000000 in
set_option maxRecDepth 65536 in
theorem part2_plan : k0_part2_skel (F := F) i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 = (do
    let v0 : Elt F .i32 ← smemLoad nuM (Rect.unit (s := S1) ![0] S1.size inb_S1_S1_0) numel1_S1 rfl
    have hw : k0_chk5 i v0 := (← Prog.lift (TpuEff.assume (k0_chk5 i v0) (k0_chk5.dec i v0))).down
    prog1 i m7 h7 m8 h8 m9 h9 m10 h10 m11 h11 m12 h12 m13 h13 fun _ => prog2 i v0 fun _ => prog3 i m7 h7 m8 h8 m9 h9 m10 h10 m11 h11 m12 h12 m13 h13 v0 hw fun _ => prog4 i m7 h7 m8 h8 m9 h9 m10 h10 m11 h11 m12 h12 m13 h13 v0 fun _ => prog5 i m7 h7 m8 h8 m9 h9 m10 h10 m11 h11 m12 h12 m13 h13 v0 (slotNo i) fun _ =>
      pure ⟨BitVec.ofNat 32 (i 0).val, v0, slotNo i, lastNo i v0⟩) := rfl

theorem top_plan : cc0_moe_experts_skel (F := F) i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6 = (do
    let ⟨a0, v0, _, _⟩ : Σ' (arg0 : BitVec 32) (v0 : Elt F .i32) (v11 : BitVec 32), BitVec 32 ← k0_part2 i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6
    prog7 i m7 h7 m8 h8 m9 h9 m10 h10 m11 h11 m12 h12 m13 h13 a0 v0 fun _ => pure ⟨⟩) := rfl

end Cert.Kernel2Ideal.Moe

end
-- ==== Proof.MoeBody.lean ====
/- One grid point of the call: what it begins from and what it leaves. -/
module

public import proofs.«01_k».proof.Proof.MoeFirst

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (D : Args F) (c : Dev nD) (u : Fin 21) (i : grid0.Coords)
variable (m7 : Memref sig .tc .vmem S1x2048 .f32) (h7 : m7.IsWhole) (m8 : Memref sig .tc .vmem S1x2048 .f32) (h8 : m8.IsWhole)
  (m9 : Memref sig .tc .vmem S1x2048 .f32) (h9 : m9.IsWhole) (m10 : Memref sig .tc .vmem S1x2048 .f32) (h10 : m10.IsWhole)
  (m11 : Memref sig .tc .vmem S1x1x2048x512 .f32) (h11 : m11.IsWhole) (m12 : Memref sig .tc .vmem S1x1x2048x512 .f32) (h12 : m12.IsWhole)
  (m13 : Memref sig .tc .vmem S1x1x512x2048 .f32) (h13 : m13.IsWhole)
/-- What the tables must hold for the call to run as meant: at least one chunk in use, its rows' tokens among the tokens, and no
    two of its rows going to one place. -/
structure Good : Prop where
  pos : 0 < u.val
  tok : ∀ q < u.val, ∀ j < 512, rowOf D.src q j < 8192
  inj : ∀ q < u.val, Function.Injective (dst D q)

theorem chk5_holds : k0_chk5 i (BitVec.ofNat 32 u.val) := by
  intro k h3 a
  have h := (cond3_iff i u).1 h3
  have hk : k.val < 128 := k.isLt
  have hu := u.isLt
  have h4 := i1_lt i
  rw [off16_eq]
  fin_cases a
  show 512 * ((i 0).val + 1) + (128 * (i 1).val + k.val) + 1 ≤ 10240
  omega

/-- The seven windows' blocks at a point. -/
def Wins : sProp 𝕄 :=
  iprop(owns (c : Thread nD τ) m7 fullShare D.g ∗ owns (c : Thread nD τ) m8 fullShare D.sc ∗ owns (c : Thread nD τ) m9 fullShare D.sh ∗ owns (c : Thread nD τ) m10 fullShare D.g2
    ∗ owns (c : Thread nD τ) m11 fullShare (D.Wg (i 0).val (i 1).val) ∗ owns (c : Thread nD τ) m12 fullShare (D.Wu (i 0).val (i 1).val) ∗ owns (c : Thread nD τ) m13 fullShare (D.Wd (i 0).val (i 1).val))
/-- The tables the body reads. -/
def Tabs (nu : S1.Idx → Elt F .i32) : sProp 𝕄 := iprop(nuPt c nu ∗ nvPt c D.nv ∗ srcPt c D.src)
/-- What a point begins from, besides its blocks and the tables. -/
def Inv (n : ℕ) : sProp 𝕄 :=
  iprop(Fst D c u (n / 4) (n % 4) ∗ Cst D c u (n / 4) (n % 4) ∗ ∃ f : Vec F S1x512x512 .bf16, owns (c : Thread nD τ) actM fullShare f)

theorem body_step (nu : S1.Idx → Elt F .i32) (hnu : nu (ix1 0) = BitVec.ofNat 32 u.val) (hG : Good D u) {W : Waits sig Unit} :
    iprop(Fst D c u (i 0).val (i 1).val ∗ Cst D c u (i 0).val (i 1).val ∗ (∃ f : Vec F S1x512x512 .bf16, owns (c : Thread nD τ) actM fullShare f)
        ∗ Tabs D c nu ∗ Wins D c i m7 m8 m9 m10 m11 m12 m13 ∗ owes (c : Thread nD τ) 0 W)
      ⊢ wp frame (wpE (defs₀ (F := F)) Variants.none (c : Thread nD τ) none) Set.univ (cc0_moe_experts (F := F) i gidM (Memref.isWhole_whole _) nuM (Memref.isWhole_whole _) nvM (Memref.isWhole_whole _) srcM (Memref.isWhole_whole _) slabM (Memref.isWhole_whole _) m7 h7 m8 h8 m9 h9 m10 h10 m11 h11 m12 h12 m13 h13 outM (Memref.isWhole_whole _) xbM (Memref.isWhole_whole _) obM (Memref.isWhole_whole _) hM (Memref.isWhole_whole _) accM (Memref.isWhole_whole _) actM (Memref.isWhole_whole _) cc0_scratch5 cc0_scratch6) (fun _ => iprop(G1 c D.src D.slab u (i 0).val (128 * ((i 1).val + 1)) ∗ C1 D c u (i 0).val ((i 1).val + 1)
        ∗ (∃ f : Vec F S1x512x512 .bf16, owns (c : Thread nD τ) actM fullShare f) ∗ Sst D c u (if (i 1).val = 3 then (i 0).val + 1 else (i 0).val)
        ∗ Tabs D c nu ∗ Wins D c i m7 m8 m9 m10 m11 m12 m13 ∗ ∃ W', owes (c : Thread nD τ) 0 W')) := by
  rw [cc0_moe_experts_eq_skeleton, top_plan, k0_part2_eq_skeleton, part2_plan, wp_bind]
  unfold Tabs Wins
  iintro ⟨HF, HC, HA, ⟨Hu, Hv, Hs⟩, ⟨H7, H8, H9, H10, H11, H12, H13⟩, HO⟩
  iapply (wp_nuWord c nu) $$ Hu
  iintro Hu
  rw [hnu]
  iapply (wp_assume Variants.none (c : Thread nD τ) none Set.univ (chk5_holds u i))
  simp only [ret_then]
  iapply (sec1 D c u i m7 h7 m8 h8 m9 h9 m10 h10 m11 h11 m12 h12 m13 h13 hG.pos hG.tok)
  isplitl [HF]; · iexact HF
  isplitl [Hs]; · iexact Hs
  isplitl [HO]; · iexact HO
  iintro %W1 ⟨HG, HS, Hs, HO⟩
  iapply (sec2 c D.src D.slab u i)
  isplitl [HG]; · iexact HG
  isplitl [HO]; · iexact HO
  iintro %W2 ⟨HG, HO⟩
  iapply (sec3 c D.src D.slab u i m7 h7 m8 h8 m9 h9 m10 h10 m11 h11 m12 h12 m13 h13 hG.tok (chk5_holds u i))
  isplitl [HG]; · iexact HG
  isplitl [Hs]; · iexact Hs
  iintro ⟨HG, Hs⟩
  iapply (sec4 D c u i m7 h7 m8 h8 m9 h9 m10 h10 m11 h11 m12 h12 m13 h13 (128 * ((i 1).val + 1)))
  isplitl [HG]; · iexact HG
  isplitl [HC]; · iexact HC
  isplitl [H7]; · iexact H7
  isplitl [H8]; · iexact H8
  isplitl [H9]; · iexact H9
  iintro ⟨HG, HC, H7, H8, H9⟩
  iapply (sec5 D c u i m7 h7 m8 h8 m9 h9 m10 h10 m11 h11 m12 h12 m13 h13 (128 * ((i 1).val + 1)))
  isplitl [HG]; · iexact HG
  isplitl [HC]; · iexact HC
  isplitl [HA]; · iexact HA
  isplitl [H11]; · iexact H11
  isplitl [H12]; · iexact H12
  isplitl [H13]; · iexact H13
  iintro ⟨HG, HC, HA, H11, H12, H13⟩
  sl_step
  iapply (sec7 D c u i m7 h7 m8 h8 m9 h9 m10 h10 m11 h11 m12 h12 m13 h13 hG.inj hG.tok (128 * ((i 1).val + 1)))
  isplitl [HG]; · iexact HG
  isplitl [HC]; · iexact HC
  isplitl [HS]; · iexact HS
  isplitl [H10]; · iexact H10
  isplitl [Hv]; · iexact Hv
  isplitl [Hs]; · iexact Hs
  isplitl [HO]; · iexact HO
  iintro %W3 ⟨HG, HC, HS, H10, Hv, Hs, HO⟩
  sl_step
  isplitl [HG]; · iexact HG
  isplitl [HC]; · iexact HC
  isplitl [HA]; · iexact HA
  isplitl [HS]; · iexact HS
  isplitl [Hu Hv Hs]
  · isplitl [Hu]; · iexact Hu
    isplitl [Hv] <;> iassumption
  isplitr [HO]
  · isplitl [H7]; · iexact H7
    isplitl [H8]; · iexact H8
    isplitl [H9]; · iexact H9
    isplitl [H10]; · iexact H10
    isplitl [H11]; · iexact H11
    isplitl [H12] <;> iassumption
  iexists _
  iexact HO

/-- A point's end is the next point's beginning. -/
theorem Inv_next (q s : ℕ) (hs : s < 4) :
    iprop(G1 c D.src D.slab u q (128 * (s + 1)) ∗ C1 D c u q (s + 1) ∗ (∃ f : Vec F S1x512x512 .bf16, owns (c : Thread nD τ) actM fullShare f)
        ∗ Sst D c u (if s = 3 then q + 1 else q)) ⊢ Inv D c u (4 * q + s + 1) := by
  unfold Inv Fst Cst
  by_cases h3 : s = 3
  · subst h3
    rw [show (4 * q + 3 + 1) / 4 = q + 1 by omega, show (4 * q + 3 + 1) % 4 = 0 by omega, if_pos rfl, if_neg (by omega), if_pos rfl]
    iintro ⟨HG, HC, HA, HS⟩
    isplitl [HG HS]
    · isplitl [HG]
      · iapply (G1_next c D.src D.slab u q) $$ HG
      iexact HS
    isplitl [HC]
    · iapply (C1_any D c u q 4) $$ HC
    iexact HA
  · rw [show (4 * q + s + 1) / 4 = q by omega, show (4 * q + s + 1) % 4 = s + 1 by omega, if_neg h3, if_neg (by omega), if_neg (by omega),
      G1_Gst c D.src D.slab u q s (by omega)]
    iintro ⟨HG, HC, HA, HS⟩
    isplitl [HG HS]
    · isplitl [HG] <;> iassumption
    isplitl [HC] <;> iassumption

/-- What the first point begins from, and what the last one leaves. -/
theorem Inv_first : iprop((Idle c D.slab ∗ (∃ f : S512x16x128.Idx → Elt F .f32, owns (c : Thread nD τ) obM fullShare f)
      ∗ semVal ((c : Thread nD τ), SemLoc.dma scell) 0 ∗ (outM.view.loc (c : Thread nD τ) ↦{fullShare} D.V0))
      ∗ Cany c F ∗ ∃ f : Vec F S1x512x512 .bf16, owns (c : Thread nD τ) actM fullShare f) ⊢ Inv D c u 0 := by
  unfold Inv Fst Cst
  rw [if_pos (by decide), if_pos (by decide)]

theorem Inv_last : Inv D c u 80 ⊢ iprop((Idle c D.slab ∗ (∃ f : S512x16x128.Idx → Elt F .f32, owns (c : Thread nD τ) obM fullShare f)
      ∗ semVal ((c : Thread nD τ), SemLoc.dma scell) 0 ∗ (outM.view.loc (c : Thread nD τ) ↦{fullShare} OUT D u.val))
      ∗ Cany c F ∗ ∃ f : Vec F S1x512x512 .bf16, owns (c : Thread nD τ) actM fullShare f) := by
  have hu := u.isLt
  have e : Inv D c u 80 = iprop(iprop(Idle c D.slab ∗ Quiet D c u.val) ∗ Cany c F ∗ ∃ f : Vec F S1x512x512 .bf16, owns (c : Thread nD τ) actM fullShare f) := by
    unfold Inv Fst Cst
    rw [show 80 / 4 = 20 from rfl, show 80 % 4 = 0 from rfl]
    unfold Gst Sst
    rw [if_neg (by omega), if_neg (by omega), if_neg (by omega), if_pos rfl, Nat.min_eq_right (by omega)]
  rw [e]
  unfold Quiet
  iintro ⟨⟨HI, HO, Hc, Hx⟩, HC, HA⟩
  isplitr [HC HA]
  · isplitl [HI]; · iexact HI
    isplitl [HO]; · iexact HO
    isplitl [Hc] <;> iassumption
  isplitl [HC] <;> iassumption

end Cert.Kernel2Ideal.Moe

end
-- ==== Proof.MoeData.lean ====
/- The experts' call at launch: the tables, the blocks, the proof data. -/
module

public import proofs.«01_k».proof.Proof.MoeBody
public import proofs.«01_k».proof.Proof.Gen.Kernel2Ideal.Launch
public import Idealize.ShloMosaic.Lib.Pipeline.Frame
public import Idealize.ShloMosaic.Lib.Pipeline.FrameValue

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

open Idealize.ShloMosaic.Pipeline (Dat BodyObligation)

/-! ## The rows' buffer as its two slots -/

theorem slot_mem (b : ℕ) (x : S2x512x24x128.Idx) : x ∈ slot b ↔ (x 0).val = b := by unfold slot; simp

theorem slot_rest : (Finset.univ : Finset S2x512x24x128.Idx) \ slot 0 = slot 1 := by
  ext x
  rw [Finset.mem_sdiff, slot_mem, slot_mem]
  have h : (x 0).val < 2 := (x 0).isLt
  simp
  omega

/-- The rows' buffer whole at something is both its slots at something. -/
theorem slots_split (c : Dev nD) (f : S2x512x24x128.Idx → Elt F .f32) : (xbM.view.loc (c : Thread nD τ) ↦{fullShare} f : sProp 𝕄)
    ⊢ (iprop((∃ f : S2x512x24x128.Idx → Elt F .f32, xbM.view.loc (c : Thread nD τ) ↦[slot 0]{fullShare} f)
        ∗ ∃ f : S2x512x24x128.Idx → Elt F .f32, xbM.view.loc (c : Thread nD τ) ↦[slot 1]{fullShare} f) : sProp 𝕄) := by
  iintro H
  ihave H := ((pointsTo_split_subset (Finset.subset_univ (slot 0))).1.trans (by rw [slot_rest])) $$ H
  icases H with ⟨H0, H1⟩
  isplitl [H0]
  · iexists f; iexact H0
  · iexists f; iexact H1

theorem slots_join (c : Dev nD) : (iprop((∃ f : S2x512x24x128.Idx → Elt F .f32, xbM.view.loc (c : Thread nD τ) ↦[slot 0]{fullShare} f)
        ∗ ∃ f : S2x512x24x128.Idx → Elt F .f32, xbM.view.loc (c : Thread nD τ) ↦[slot 1]{fullShare} f) : sProp 𝕄)
    ⊢ iprop(∃ f : S2x512x24x128.Idx → Elt F .f32, xbM.view.loc (c : Thread nD τ) ↦{fullShare} f) := by
  iintro ⟨⟨%f, H0⟩, ⟨%g, H1⟩⟩
  iexists (slot 0).piecewise f g
  iapply (pointsTo_join_subset (Finset.subset_univ (slot 0)))
  isplitl [H0]; · iexact H0
  iapply (Entails.of_eq (by rw [slot_rest])) $$ H1

variable (m : (ℓ : Loc nD τ sig) → Buf (Elt F) ℓ)

/-- The memory at launch, by buffer. -/
abbrev V (c : Dev nD) (b : Ref sig .tc) : Buf (Elt F) ((c : Thread nD τ).loc b) := m ((c : Thread nD τ).loc b)

/-- The tables' contents at launch; what the windows' index maps ask of them; the pipeline at them. -/
def tbl : pre0.Contents (Elt F) := fun j => V m (0 : Dev nD) (pre0.ref j)
theorem V_pre (c : Dev nD) (j : Fin 4) : V m c (pre0.ref j) = tbl m j := by obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The point of part `s` of chunk `q`. -/
def ptN (q s : ℕ) : Fin grid0.N := ⟨(4 * q + s) % 80, by rw [N_0]; exact Nat.mod_lt _ (by decide)⟩

/-- An expert's three matrices at a point. -/
def blk4 (hO : Ok m) (c : Dev nD) (t : Fin grid0.N) : Vec F S1x1x2048x512 .f32 := iblk m hO c 4 t
def blk5 (hO : Ok m) (c : Dev nD) (t : Fin grid0.N) : Vec F S1x1x2048x512 .f32 := iblk m hO c 5 t
def blk6 (hO : Ok m) (c : Dev nD) (t : Fin grid0.N) : Vec F S1x1x512x2048 .f32 := iblk m hO c 6 t

/-- What the body is run at: the tables, the token rows, the rows of the weights, each point's expert, the result at launch. -/
def Dm (hO : Ok m) (c : Dev nD) : Args F where
  nv := tbl m 2
  src := tbl m 3
  slab := V m c main_arg4
  g := iblk m hO c 0 (ptN 0 0)
  sc := iblk m hO c 1 (ptN 0 0)
  sh := iblk m hO c 2 (ptN 0 0)
  g2 := iblk m hO c 3 (ptN 0 0)
  Wg q s := blk4 m hO c (ptN q s)
  Wu q s := blk5 m hO c (ptN q s)
  Wd q s := blk6 m hO c (ptN q s)
  V0 := V m c main_v0

/-- The token table's invariant resource: the groups' table, which the body does not read. -/
abbrev gidPt (c : Dev nD) (gd : S20.Idx → Elt F .i32) : sProp 𝕄 := gidM.view.loc (c : Thread nD τ) ↦{fullShare.right} gd

/-- The invariant at point `n`. -/
def Phi (hO : Ok m) (u : Fin 21) (c : Dev nD) (n : ℕ) : sProp 𝕄 :=
  iprop(Inv (Dm m hO c) c u n ∗ Tabs (Dm m hO c) c (tbl m 1) ∗ gidPt c (tbl m 0) ∗ ∃ r, prngReg c r)

def dats (hO : Ok m) (u : Fin 21) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
  Φ n := Phi m hO u c n.val
  q _ := fullShare
  owed _ := 0

theorem A_eq (hO : Ok m) (u : Fin 21) (c : Dev nD) (w : Fin (cfgM m hO).W) : (dats m hO u 0 c).A w = V m c (Pipeline.arrRef spec0 w) := by dsimp only [dats]

theorem after0_0 (hO : Ok m) (u : Fin 21) (c : Dev nD) (t : Fin (cfgM m hO).N) : (dats m hO u 0 c).after 0 t = iblk m hO c 0 t := rfl
theorem before0_0 (hO : Ok m) (u : Fin 21) (c : Dev nD) (t : Fin (cfgM m hO).N) (d) : (dats m hO u 0 c).before 0 t d = iblk m hO c 0 t :=
  ((dats m hO u 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

theorem after0_1 (hO : Ok m) (u : Fin 21) (c : Dev nD) (t : Fin (cfgM m hO).N) : (dats m hO u 0 c).after 1 t = iblk m hO c 1 t := rfl
theorem before0_1 (hO : Ok m) (u : Fin 21) (c : Dev nD) (t : Fin (cfgM m hO).N) (d) : (dats m hO u 0 c).before 1 t d = iblk m hO c 1 t :=
  ((dats m hO u 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

theorem after0_2 (hO : Ok m) (u : Fin 21) (c : Dev nD) (t : Fin (cfgM m hO).N) : (dats m hO u 0 c).after 2 t = iblk m hO c 2 t := rfl
theorem before0_2 (hO : Ok m) (u : Fin 21) (c : Dev nD) (t : Fin (cfgM m hO).N) (d) : (dats m hO u 0 c).before 2 t d = iblk m hO c 2 t :=
  ((dats m hO u 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

theorem after0_3 (hO : Ok m) (u : Fin 21) (c : Dev nD) (t : Fin (cfgM m hO).N) : (dats m hO u 0 c).after 3 t = iblk m hO c 3 t := rfl
theorem before0_3 (hO : Ok m) (u : Fin 21) (c : Dev nD) (t : Fin (cfgM m hO).N) (d) : (dats m hO u 0 c).before 3 t d = iblk m hO c 3 t :=
  ((dats m hO u 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

theorem after0_4 (hO : Ok m) (u : Fin 21) (c : Dev nD) (t : Fin (cfgM m hO).N) : (dats m hO u 0 c).after 4 t = iblk m hO c 4 t := rfl
theorem before0_4 (hO : Ok m) (u : Fin 21) (c : Dev nD) (t : Fin (cfgM m hO).N) (d) : (dats m hO u 0 c).before 4 t d = iblk m hO c 4 t :=
  ((dats m hO u 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

theorem after0_5 (hO : Ok m) (u : Fin 21) (c : Dev nD) (t : Fin (cfgM m hO).N) : (dats m hO u 0 c).after 5 t = iblk m hO c 5 t := rfl
theorem before0_5 (hO : Ok m) (u : Fin 21) (c : Dev nD) (t : Fin (cfgM m hO).N) (d) : (dats m hO u 0 c).before 5 t d = iblk m hO c 5 t :=
  ((dats m hO u 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

theorem after0_6 (hO : Ok m) (u : Fin 21) (c : Dev nD) (t : Fin (cfgM m hO).N) : (dats m hO u 0 c).after 6 t = iblk m hO c 6 t := rfl
theorem before0_6 (hO : Ok m) (u : Fin 21) (c : Dev nD) (t : Fin (cfgM m hO).N) (d) : (dats m hO u 0 c).before 6 t d = iblk m hO c 6 t :=
  ((dats m hO u 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

/-! ## A point's coordinates, and the blocks of the windows at it -/

theorem coord_pt (t : Fin grid0.N) : ((grid0.coords t) 0).val = t.val / 4 ∧ ((grid0.coords t) 1).val = t.val % 4 := by
  revert t
  decide

theorem ptN_coords (t : Fin grid0.N) : ptN ((grid0.coords t) 0).val ((grid0.coords t) 1).val = t := by
  refine Fin.ext ?_
  show (4 * _ + _) % 80 = _
  rw [(coord_pt t).1, (coord_pt t).2]
  have h : t.val < 80 := t.isLt
  omega

end Cert.Kernel2Ideal.Moe

end
-- ==== Proof.MoeFrame.lean ====
/- The experts' body at every point, against the launch's proof data. -/
module

public import proofs.«01_k».proof.Proof.MoeData

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

/-- What holds before the body at point `t`, and after it. -/
def bodyPre (hO : Ok m) (u : Fin 21) (c : Dev nD) (t : Fin (cfgM m hO).N) : sProp 𝕄 :=
  iprop((dats m hO u 0 c).Φ t.castSucc ∗ (dats m hO u 0 c).owesAt () t.castSucc
    ∗ (∃ d, owns (c : Thread nD τ) (spec0_0.stage ((cfgM m hO).slots t 0)) fullShare ((dats m hO u 0 c).before 0 t d)) ∗ (∃ d, owns (c : Thread nD τ) (spec0_1.stage ((cfgM m hO).slots t 1)) fullShare ((dats m hO u 0 c).before 1 t d)) ∗ (∃ d, owns (c : Thread nD τ) (spec0_2.stage ((cfgM m hO).slots t 2)) fullShare ((dats m hO u 0 c).before 2 t d)) ∗ (∃ d, owns (c : Thread nD τ) (spec0_3.stage ((cfgM m hO).slots t 3)) fullShare ((dats m hO u 0 c).before 3 t d)) ∗ (∃ d, owns (c : Thread nD τ) (spec0_4.stage ((cfgM m hO).slots t 4)) fullShare ((dats m hO u 0 c).before 4 t d)) ∗ (∃ d, owns (c : Thread nD τ) (spec0_5.stage ((cfgM m hO).slots t 5)) fullShare ((dats m hO u 0 c).before 5 t d)) ∗ (∃ d, owns (c : Thread nD τ) (spec0_6.stage ((cfgM m hO).slots t 6)) fullShare ((dats m hO u 0 c).before 6 t d)))
def bodyPost (hO : Ok m) (u : Fin 21) (c : Dev nD) (t : Fin (cfgM m hO).N) : sProp 𝕄 :=
  iprop((dats m hO u 0 c).Φ t.succ ∗ (dats m hO u 0 c).owesAt () t.succ
    ∗ owns (c : Thread nD τ) (spec0_0.stage ((cfgM m hO).slots t 0)) fullShare ((dats m hO u 0 c).after 0 t) ∗ owns (c : Thread nD τ) (spec0_1.stage ((cfgM m hO).slots t 1)) fullShare ((dats m hO u 0 c).after 1 t) ∗ owns (c : Thread nD τ) (spec0_2.stage ((cfgM m hO).slots t 2)) fullShare ((dats m hO u 0 c).after 2 t) ∗ owns (c : Thread nD τ) (spec0_3.stage ((cfgM m hO).slots t 3)) fullShare ((dats m hO u 0 c).after 3 t) ∗ owns (c : Thread nD τ) (spec0_4.stage ((cfgM m hO).slots t 4)) fullShare ((dats m hO u 0 c).after 4 t) ∗ owns (c : Thread nD τ) (spec0_5.stage ((cfgM m hO).slots t 5)) fullShare ((dats m hO u 0 c).after 5 t) ∗ owns (c : Thread nD τ) (spec0_6.stage ((cfgM m hO).slots t 6)) fullShare ((dats m hO u 0 c).after 6 t))

/-- The body at point `t`. -/
def bodyAt (hO : Ok m) (t : Fin (cfgM m hO).N) : Prog (TpuEff nD τ sig (Elt F) Λ₀ .tc) PUnit :=
  cc0_moe_experts (F := F) (grid0.coords t) gidM (Memref.isWhole_whole _) nuM (Memref.isWhole_whole _) nvM (Memref.isWhole_whole _) srcM (Memref.isWhole_whole _) slabM (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) outM (Memref.isWhole_whole _) xbM (Memref.isWhole_whole _) obM (Memref.isWhole_whole _) hM (Memref.isWhole_whole _) accM (Memref.isWhole_whole _) actM (Memref.isWhole_whole _) cc0_scratch5 cc0_scratch6

theorem sound_body (hO : Ok m) (u : Fin 21) (hnu : tbl m 1 (ix1 0) = BitVec.ofNat 32 u.val) (c : Dev nD) (hG : Good (Dm m hO c) u) (t : Fin (cfgM m hO).N) :
    bodyPre m hO u c t ⊢ wp frame (wpE (defs₀ (F := F)) Variants.none (c : Thread nD τ) none) Set.univ (bodyAt m hO t) (fun _ => bodyPost m hO u c t) := by
  unfold bodyPre bodyPost bodyAt
  rw [show (dats m hO u 0 c).Φ t.succ = Phi m hO u c (t.val + 1) from rfl, show (dats m hO u 0 c).Φ t.castSucc = Phi m hO u c t.val from rfl]
  unfold Dat.owesAt Pipeline.owesWithin
  rw [show (dats m hO u 0 c).owed t.castSucc = 0 from rfl, show (dats m hO u 0 c).owed t.succ = 0 from rfl]
  simp only [before0_0, after0_0, before0_1, after0_1, before0_2, after0_2, before0_3, after0_3, before0_4, after0_4, before0_5, after0_5, before0_6, after0_6]
  have e4 : (Dm m hO c).Wg ((grid0.coords t) 0).val ((grid0.coords t) 1).val = blk4 m hO c t := congrArg (blk4 m hO c) (ptN_coords t)
  have e5 : (Dm m hO c).Wu ((grid0.coords t) 0).val ((grid0.coords t) 1).val = blk5 m hO c t := congrArg (blk5 m hO c) (ptN_coords t)
  have e6 : (Dm m hO c).Wd ((grid0.coords t) 0).val ((grid0.coords t) 1).val = blk6 m hO c t := congrArg (blk6 m hO c) (ptN_coords t)
  have b4 : iblk m hO c 4 t = blk4 m hO c t := rfl
  have b5 : iblk m hO c 5 t = blk5 m hO c t := rfl
  have b6 : iblk m hO c 6 t = blk6 m hO c t := rfl
  rw [b4, b5, b6]
  have en : 4 * ((grid0.coords t) 0).val + ((grid0.coords t) 1).val + 1 = t.val + 1 := by
    rw [(coord_pt t).1, (coord_pt t).2]; omega
  have hs : ((grid0.coords t) 1).val < 4 := ((grid0.coords t) 1).isLt
  have key := fun (W : Waits sig Unit) => body_step (W := W) (Dm m hO c) c u (grid0.coords t) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (tbl m 1) hnu hG
  have nxt := Inv_next (Dm m hO c) c u ((grid0.coords t) 0).val ((grid0.coords t) 1).val hs
  rw [en] at nxt
  unfold Phi
  unfold Inv at *
  rw [← (coord_pt t).1, ← (coord_pt t).2]
  unfold Wins at key
  rw [e4, e5, e6] at key
  iintro ⟨⟨⟨HF, HC, HA⟩, HT, Hg, Hp⟩, ⟨%W, %hW, HO⟩, ⟨%d0, H0⟩, ⟨%d1, H1⟩, ⟨%d2, H2⟩, ⟨%d3, H3⟩, ⟨%d4, H4⟩, ⟨%d5, H5⟩, ⟨%d6, H6⟩⟩
  iapply (wp_wand_r _ _ _)
  isplitl [HF HC HA HT HO H0 H1 H2 H3 H4 H5 H6]
  · iapply (key W)
    isplitl [HF]; · iexact HF
    isplitl [HC]; · iexact HC
    isplitl [HA]; · iexact HA
    isplitl [HT]; · iexact HT
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    iexact HO
  iintro %_ ⟨HG, HC, HA, HS, HT, ⟨H0, H1, H2, H3, H4, H5, H6⟩, ⟨%W', HO⟩⟩
  isplitl [HG HC HA HS HT Hg Hp]
  · isplitl [HG HC HA HS]
    · iapply nxt
      isplitl [HG]; · iexact HG
      isplitl [HC]; · iexact HC
      isplitl [HA]; · iexact HA
      iexact HS
    isplitl [HT]; · iexact HT
    isplitl [Hg]; · iexact Hg
    iexact Hp
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iexact H6

theorem defs₀_row (hO : Ok m) (t : Fin (cfgM m hO).N) : defs₀ (F := F) .tc (cfgM m hO).body ((cfgM m hO).bodyArgs t ((cfgM m hO).slots t)) = bodyAt m hO t := by
  unfold defs₀; rw [Defs.onTc_tc]; rfl

theorem body_obligation (hO : Ok m) (u : Fin 21) (hnu : tbl m 1 (ix1 0) = BitVec.ofNat 32 u.val) (c : Dev nD) (hG : Good (Dm m hO c) u) :
    BodyObligation (dats m hO u 0 c) (defs₀ (F := F)) Variants.none () Set.univ := fun t => by
  rw [bigSep_W0, bigSep_W0, defs₀_row]
  exact triple_restated (sound_body m hO u hnu c hG t) rfl .rfl fun _ => .rfl

end Cert.Kernel2Ideal.Moe

end
-- ==== Proof.MoeRun.lean ====
/- The experts' call run from its launch. -/
module

public import proofs.«01_k».proof.Proof.MoeFrame

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

/-! ## What the call keeps of its own -/

abbrev osem0 : Fin 3 → SemLoc sig := fun j => (![SemLoc.dma (gcell 0), SemLoc.dma (gcell 1), SemLoc.dma scell] : Fin 3 → SemLoc sig) j
theorem ownSemFacts0 : Pipeline.OwnSemFacts spec0 osem0 := by decide
theorem ownSems0_cells (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (gcell 0)) 0 ∗ semVal ((c : Thread nD τ), SemLoc.dma (gcell 1)) 0 ∗ semVal ((c : Thread nD τ), SemLoc.dma scell) 0) := by
  rw [Pipeline.ownSems0_eq_of_list c osem0 [0, 1, 2] (by decide) (by decide)]; rfl

/-- The token rows, read; the result, written. -/
def H0 : Finset (Ref sig .tc) := {main_arg4}
def R0 : Finset (Ref sig .tc) := {main_v0}
theorem H0_sub : H0 ⊆ Pipeline.restRefsP sig pre0 spec0 := by decide
theorem R0_sub : R0 ⊆ Pipeline.restRefsP sig pre0 spec0 \ H0 := by decide
theorem hbm0_rows (c : Dev nD) :
    (bigSep H0 (fun b => ((c : Thread nD τ).loc b) ↦{fullShare} V m c b) : sProp 𝕄) = iprop(slabF c (V m c main_arg4)) := by
  rw [BI.bigSep_eq_bigSepL_of_eq [main_arg4] (by decide) (by decide)]; rfl
theorem routed0_rows (c : Dev nD) (G : (b : Ref sig .tc) → Buf (Elt F) ((c : Thread nD τ).loc b)) :
    (Pipeline.routed R0 c G : sProp 𝕄) = iprop(outM.view.loc (c : Thread nD τ) ↦{fullShare} G main_v0) := by
  unfold Pipeline.routed
  rw [BI.bigSep_eq_bigSepL_of_eq [main_v0] (by decide) (by decide)]; rfl
theorem PhiT0_tabs (c : Dev nD) : (Pipeline.ΦT pre0 (tbl m) c : sProp 𝕄)
    = iprop(gidPt c (tbl m 0) ∗ nuPt c (tbl m 1) ∗ nvPt c (tbl m 2) ∗ srcPt c (tbl m 3)) := by
  unfold Pipeline.ΦT Pipeline.prefHeld
  rw [show (Finset.univ : Finset (Fin 4)) = insert 0 (insert 1 (insert 2 {3})) from by decide, bigSep_insert (by decide), bigSep_insert (by decide), bigSep_insert (by decide), bigSep_singleton]
  rfl

/-- What the result holds after the call. -/
def Gout (hO : Ok m) (u : Fin 21) (c : Dev nD) (b : Ref sig .tc) : Buf (Elt F) ((c : Thread nD τ).loc b) :=
  if h : b = main_v0 then h ▸ (OUT (Dm m hO c) u.val : Buf (Elt F) ((c : Thread nD τ).loc main_v0)) else V m c b
theorem Gout_v0 (hO : Ok m) (u : Fin 21) (c : Dev nD) : Gout m hO u c main_v0 = (OUT (Dm m hO c) u.val : Buf (Elt F) ((c : Thread nD τ).loc main_v0)) := by
  unfold Gout
  rw [dif_pos rfl]

theorem phi_in (hO : Ok m) (u : Fin 21) (c : Dev nD) :
    iprop(Pipeline.ΦDRG osem0 spec0 H0 R0 (V m) (V m) c ∗ Pipeline.ΦT pre0 (tbl m) c) ⊢ (Phi m hO u c 0 : sProp 𝕄) := by
  rw [Pipeline.ΦDRG_eq, scopedRest0_eq, ownSems0_cells, hbm0_rows, routed0_rows, PhiT0_tabs]
  unfold Phi Tabs
  iintro ⟨⟨⟨⟨%f0, X0⟩, ⟨%f1, X1⟩, ⟨%f2, X2⟩, ⟨%f3, X3⟩, ⟨%f4, X4⟩⟩, Hp, ⟨Hg0, Hg1, Hs⟩, Hrow, Hout⟩, ⟨T0, T1, T2, T3⟩⟩
  ihave X0 := (slots_split c f0) $$ X0
  icases X0 with ⟨Y0, Y1⟩
  isplitl [Y0 Y1 X1 X2 X3 X4 Hg0 Hg1 Hs Hrow Hout]
  · iapply (Inv_first (Dm m hO c) c u)
    isplitl [Y0 Y1 X1 Hg0 Hg1 Hs Hrow Hout]
    · isplitl [Y0 Y1 Hg0 Hg1 Hrow]
      · unfold Idle Free
        isplitl [Y0 Hg0]
        · isplitl [Y0]; · iexact Y0
          iexact Hg0
        isplitl [Y1 Hg1]
        · isplitl [Y1]; · iexact Y1
          iexact Hg1
        iexact Hrow
      isplitl [X1]
      · iexists f1; iapply (Entails.of_eq (owns_whole (c : Thread nD τ) cc0_scratch1 fullShare f1).symm) $$ X1
      isplitl [Hs]; · iexact Hs
      iexact Hout
    isplitl [X2 X3]
    · unfold Cany
      isplitl [X2]
      · iexists f2; iapply (Entails.of_eq (owns_whole (c : Thread nD τ) cc0_scratch2 fullShare f2).symm) $$ X2
      iexists f3; iapply (Entails.of_eq (owns_whole (c : Thread nD τ) cc0_scratch3 fullShare f3).symm) $$ X3
    iexists f4; iapply (Entails.of_eq (owns_whole (c : Thread nD τ) cc0_scratch4 fullShare f4).symm) $$ X4
  isplitl [T1 T2 T3]
  · isplitl [T1]; · iexact T1
    isplitl [T2]; · iexact T2
    iexact T3
  isplitl [T0]; · iexact T0
  iexact Hp

theorem phi_out (hO : Ok m) (u : Fin 21) (c : Dev nD) :
    (Phi m hO u c 80 : sProp 𝕄) ⊢ Pipeline.ΦDRG osem0 spec0 H0 R0 (V m) (Gout m hO u) c := by
  rw [Pipeline.ΦDRG_eq, scopedRest0_eq, ownSems0_cells, hbm0_rows, routed0_rows, Gout_v0]
  unfold Phi Tabs
  iintro ⟨HI, -, -, Hp⟩
  ihave HI := (Inv_last (Dm m hO c) c u) $$ HI
  unfold Idle Free Cany
  icases HI with ⟨⟨⟨⟨Y0, Hg0⟩, ⟨Y1, Hg1⟩, Hrow⟩, ⟨%f1, X1⟩, Hs, Hout⟩, ⟨⟨%f2, X2⟩, ⟨%f3, X3⟩⟩, ⟨%f4, X4⟩⟩
  isplitl [Y0 Y1 X1 X2 X3 X4]
  · isplitl [Y0 Y1]
    · iapply (slots_join c)
      isplitl [Y0]; · iexact Y0
      iexact Y1
    isplitl [X1]
    · iexists f1; iapply (Entails.of_eq (owns_whole (c : Thread nD τ) cc0_scratch1 fullShare f1)) $$ X1
    isplitl [X2]
    · iexists f2; iapply (Entails.of_eq (owns_whole (c : Thread nD τ) cc0_scratch2 fullShare f2)) $$ X2
    isplitl [X3]
    · iexists f3; iapply (Entails.of_eq (owns_whole (c : Thread nD τ) cc0_scratch3 fullShare f3)) $$ X3
    iexists f4; iapply (Entails.of_eq (owns_whole (c : Thread nD τ) cc0_scratch4 fullShare f4)) $$ X4
  isplitl [Hp]; · iexact Hp
  isplitl [Hg0 Hg1 Hs]
  · isplitl [Hg0]; · iexact Hg0
    isplitl [Hg1]; · iexact Hg1
    iexact Hs
  isplitl [Hrow]; · iexact Hrow
  iexact Hout

theorem hmainD (𝒱₀ : Variants) :
    Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

-- the library's launch theorem unifies with this statement only when definitions in a metavariable's type may unfold
set_option backward.isDefEq.respectTransparency.types false in
/-- The call, run from any memory with its counters at zero: it ends, with every counter at zero again. -/
theorem run_main (hO : Ok m) (u : Fin 21) (hnu : tbl m 1 (ix1 0) = BitVec.ofNat 32 u.val) (hG : ∀ c, Good (Dm m hO c) u) :
    θ_run defs (onTc (τ := τ) (main (F := F))) (s₀ m ρ)
      (fun r => Pipeline.FramePostRG (Pipeline.pin pcfgs (fun _ => adm m hO)) (dats m hO u) 0 R0 (V m) (Gout m hO u) r ∧ r.2.sem = fun _ => 0) :=
  Pipeline.θ_run_frameP_dmaRG (Q' := _) pcfgs (fun _ => adm m hO) (dats m hO u) (0 : Fin 1) launch0 osem0 defs₀ Variants.none ownSemFacts0 H0 R0 H0_sub R0_sub m ρ main
    (hbody := fun c => (body_obligation m hO u hnu c (hG c)).loose) (hshare := fun c => (dats m hO u 0 c).share_full fun _ => rfl)
    (howed := fun _ _ => rfl) (V := V m) (hmain := hmainD m Variants.none) (hA := A_eq m hO u) (hpf := V_pre m) (G := Gout m hO u)
    (hin := fun c => phi_in m hO u c) (hout := fun c => phi_out m hO u c)

end Cert.Kernel2Ideal.Moe

end
-- ==== Proof.MoeRoute.lean ====
/- What `dispatched_tokens` says of the tables' words. -/
module

public import proofs.«01_k».proof.Proof.Gen.Pre_dispatched_tokens
public import Idealize.ShloMosaic.Lib.Pointwise
public import Idealize.ShloMosaic.Lib.StableHlo.Predicate

@[expose] public section

set_option maxRecDepth 16384

noncomputable section

namespace Cert.Pre_dispatched_tokens

open Idealize.ShloMosaic

/-- The tables dispatch every token once: the used chunks' count, the words' ranges, and that a token's place
    names it back, in a used chunk of its group, among the chunk's valid rows, and is the only one that does. -/
structure Routed (gd : IVec S20 32) (nu : IVec S1 32) (nv : IVec S20 32) (src : IVec S10240 32) (dest grp : IVec S8192 32) : Prop where
  nu_pos : 1 ≤ (nu (ix1 0)).toNat
  nu_le : (nu (ix1 0)).toNat ≤ 20
  gd_lt : ∀ c : Fin 20, (gd (ix1 c)).toNat < 4
  src_lt : ∀ p : Fin 10240, (src (ix1 p)).toNat < 8192
  dest_lt : ∀ t : Fin 8192, (dest (ix1 t)).toNat < 10240
  here : ∀ (t : Fin 8192) (c : Fin 20) (r : Fin 512) (p : Fin 10240), p.val = 512 * c.val + r.val → (dest (ix1 t)).toNat = p.val →
    (src (ix1 p)).toNat = t.val ∧ (BitVec.ofNat 32 r.val).slt (nv (ix1 c)) = true ∧ c.val < (nu (ix1 0)).toNat ∧ gd (ix1 c) = grp (ix1 t)
  named : ∀ (t : Fin 8192) (c : Fin 20) (r : Fin 512) (p : Fin 10240), p.val = 512 * c.val + r.val → (src (ix1 p)).toNat = t.val →
    (BitVec.ofNat 32 r.val).slt (nv (ix1 c)) = true → c.val < (nu (ix1 0)).toNat → (dest (ix1 t)).toNat = p.val

theorem cmp_eq (a b : BitVec 32) : IntOp.cmpi .eq a b = 1#1 ↔ a = b := StableHlo.Predicate.cmpi_eq_iff
theorem cmp_slt (a b : BitVec 32) : IntOp.cmpi .slt a b = 1#1 ↔ a.slt b = true := StableHlo.Predicate.ofBool_eq_one_iff _
theorem or_one (a b : BitVec 1) : IntOp.ori a b = 1#1 ↔ a = 1#1 ∨ b = 1#1 := by unfold IntOp.ori; revert a b; decide
theorem and_one (a b : BitVec 1) : IntOp.andi a b = 1#1 ↔ a = 1#1 ∧ b = 1#1 := by unfold IntOp.andi; revert a b; decide
theorem not_one (a : BitVec 1) : (~~~a) = 1#1 ↔ ¬ a = 1#1 := by revert a; decide

theorem range (a n : BitVec 32) (hn : n.toNat < 2147483648) (h0 : IntOp.cmpi .sge a 0#32 = 1#1) (h1 : IntOp.cmpi .slt a n = 1#1) :
    a.toNat < n.toNat := by
  have h0' : (0#32).sle a = true := (StableHlo.Predicate.ofBool_eq_one_iff _).1 h0
  have h1' := (cmp_slt _ _).1 h1
  simp only [BitVec.slt, BitVec.sle, BitVec.toInt_eq_toNat_cond, decide_eq_true_eq, BitVec.toNat_ofNat] at h0' h1'
  have := a.isLt
  omega

theorem range_le (a : BitVec 32) (h0 : IntOp.cmpi .sge a 1#32 = 1#1) (h1 : IntOp.cmpi .sle a 20#32 = 1#1) :
    1 ≤ a.toNat ∧ a.toNat ≤ 20 := by
  have h0' : (1#32).sle a = true := (StableHlo.Predicate.ofBool_eq_one_iff _).1 h0
  have h1' : a.sle 20#32 = true := (StableHlo.Predicate.ofBool_eq_one_iff _).1 h1
  simp only [BitVec.sle, BitVec.toInt_eq_toNat_cond, decide_eq_true_eq, BitVec.toNat_ofNat] at h0' h1'
  have := a.isLt
  omega

theorem slt_small (n : ℕ) (a : BitVec 32) (hn : n < 32) (ha : a.toNat < 32) : (BitVec.ofNat 32 n).slt a = true ↔ n < a.toNat := by
  simp only [BitVec.slt, BitVec.toInt_eq_toNat_cond, decide_eq_true_eq, BitVec.toNat_ofNat]
  omega

theorem place (c : Fin 20) (r : Fin 512) : (IntOp.addi (IntOp.muli (BitVec.ofNat 32 c.val) 512#32) (BitVec.ofNat 32 r.val)) = BitVec.ofNat 32 (512 * c.val + r.val) := by
  unfold IntOp.addi IntOp.muli
  apply BitVec.eq_of_toNat_eq
  have := c.isLt
  have := r.isLt
  simp only [BitVec.toNat_add, BitVec.toNat_mul, BitVec.toNat_ofNat]
  omega

theorem eq_word (a : BitVec 32) (n : ℕ) (hn : n < 4294967296) : a = BitVec.ofNat 32 n ↔ a.toNat = n := by
  rw [BitVec.toNat_eq, BitVec.toNat_ofNat, Nat.mod_eq_of_lt hn]

variable {F : FTy → Type} [FloatOps F] [Facts]
variable (a0 : IVec S20 32) (a1 : IVec S1 32) (a2 : IVec S20 32) (a3 : IVec S10240 32) (a4 : FVec F S8192x24x128 .f32)
  (a5 a6 a7 a8 : FVec F S1x2048 .f32) (a9 a10 : FVec F S4x16x2048x512 .f32) (a11 : FVec F S4x16x512x2048 .f32) (a12 a13 : IVec S8192 32)

theorem at_here (hp : (fn (F := F) a0 a1 a2 a3 a4 a5 a6 a7 a8 a9 a10 a11 a12 a13).1 = fun _ => 1#1) (t : Fin 8192) (c : Fin 20) (r : Fin 512)
    (p : Fin 10240) (hpv : p.val = 512 * c.val + r.val) (h : (a12 (ix1 t)).toNat = p.val) :
    (a3 (ix1 p)).toNat = t.val ∧ (BitVec.ofNat 32 r.val).slt (a2 (ix1 c)) = true ∧ (BitVec.ofNat 32 c.val).slt (a1 (ix1 0)) = true ∧ a0 (ix1 c) = a13 (ix1 t) := by
  have := congrFun hp (ix3 t c r)
  revert this
  pointwise [fn, fn_part1, fn_part2]
  rw [or_one, and_one, and_one, and_one, not_one, cmp_eq, cmp_eq, cmp_eq, cmp_slt, cmp_slt, place]
  have hr := r.isLt
  have hc := c.isLt
  have ht := t.isLt
  have e : (⟨c.val * 512 + r.val, by show _ < 10240; omega⟩ : Fin 10240) = p := Fin.ext (by show c.val * 512 + r.val = p.val; omega)
  rintro (h' | ⟨⟨⟨h1, h2⟩, h3⟩, h4⟩)
  · exact absurd ((eq_word _ _ (by omega)).2 (h.trans hpv)) h'
  · rw [eq_word _ _ (by omega)] at h1
    exact ⟨e ▸ h1, h2, h3, h4⟩

theorem at_named (hp : (fn (F := F) a0 a1 a2 a3 a4 a5 a6 a7 a8 a9 a10 a11 a12 a13).2.1 = fun _ => 1#1) (t : Fin 8192) (c : Fin 20) (r : Fin 512)
    (p : Fin 10240) (hpv : p.val = 512 * c.val + r.val) (h1 : (a3 (ix1 p)).toNat = t.val) (h2 : (BitVec.ofNat 32 r.val).slt (a2 (ix1 c)) = true)
    (h3 : (BitVec.ofNat 32 c.val).slt (a1 (ix1 0)) = true) : (a12 (ix1 t)).toNat = p.val := by
  have := congrFun hp (ix3 t c r)
  revert this
  pointwise [fn, fn_part1, fn_part2]
  rw [or_one, not_one, and_one, and_one, cmp_eq, cmp_eq, cmp_slt, cmp_slt, place]
  have hr := r.isLt
  have hc := c.isLt
  have ht := t.isLt
  have e : (⟨c.val * 512 + r.val, by show _ < 10240; omega⟩ : Fin 10240) = p := Fin.ext (by show c.val * 512 + r.val = p.val; omega)
  rintro (h' | h')
  · refine absurd ⟨⟨?_, h2⟩, h3⟩ h'
    rw [eq_word _ _ (by omega)]
    exact e.symm ▸ h1
  · rw [eq_word _ _ (by omega)] at h'
    exact h'.trans hpv.symm

theorem at_dest (hp : (fn (F := F) a0 a1 a2 a3 a4 a5 a6 a7 a8 a9 a10 a11 a12 a13).2.2.1 = fun _ => 1#1)
    (hq : (fn (F := F) a0 a1 a2 a3 a4 a5 a6 a7 a8 a9 a10 a11 a12 a13).2.2.2.1 = fun _ => 1#1) (t : Fin 8192) : (a12 (ix1 t)).toNat < 10240 := by
  have h := congrFun hp (ix1 t)
  have h' := congrFun hq (ix1 t)
  revert h h'
  pointwise [fn, fn_part1, fn_part2]
  exact fun h h' => range _ 10240#32 (by decide) h h'

theorem at_src (hp : (fn (F := F) a0 a1 a2 a3 a4 a5 a6 a7 a8 a9 a10 a11 a12 a13).2.2.2.2.1 = fun _ => 1#1)
    (hq : (fn (F := F) a0 a1 a2 a3 a4 a5 a6 a7 a8 a9 a10 a11 a12 a13).2.2.2.2.2.1 = fun _ => 1#1) (p : Fin 10240) : (a3 (ix1 p)).toNat < 8192 := by
  have h := congrFun hp (ix1 p)
  have h' := congrFun hq (ix1 p)
  revert h h'
  pointwise [fn, fn_part1, fn_part2]
  exact fun h h' => range _ 8192#32 (by decide) h h'

theorem at_gid (hp : (fn (F := F) a0 a1 a2 a3 a4 a5 a6 a7 a8 a9 a10 a11 a12 a13).2.2.2.2.2.2.1 = fun _ => 1#1)
    (hq : (fn (F := F) a0 a1 a2 a3 a4 a5 a6 a7 a8 a9 a10 a11 a12 a13).2.2.2.2.2.2.2.1 = fun _ => 1#1) (c : Fin 20) : (a0 (ix1 c)).toNat < 4 := by
  have h := congrFun hp (ix1 c)
  have h' := congrFun hq (ix1 c)
  revert h h'
  pointwise [fn, fn_part1, fn_part2]
  exact fun h h' => range _ 4#32 (by decide) h h'

theorem at_used (hp : (fn (F := F) a0 a1 a2 a3 a4 a5 a6 a7 a8 a9 a10 a11 a12 a13).2.2.2.2.2.2.2.2.1 = fun _ => 1#1)
    (hq : (fn (F := F) a0 a1 a2 a3 a4 a5 a6 a7 a8 a9 a10 a11 a12 a13).2.2.2.2.2.2.2.2.2 = fun _ => 1#1) : 1 ≤ (a1 (ix1 0)).toNat ∧ (a1 (ix1 0)).toNat ≤ 20 := by
  have h := congrFun hp (ix1 0)
  have h' := congrFun hq (ix1 0)
  revert h h'
  pointwise [fn, fn_part1, fn_part2]
  exact fun h h' => range_le _ h h'

/-- The precondition, decoded. -/
theorem routed (h : (fn (F := F) a0 a1 a2 a3 a4 a5 a6 a7 a8 a9 a10 a11 a12 a13).1 = (fun _ => 1#1)
    ∧ (fn (F := F) a0 a1 a2 a3 a4 a5 a6 a7 a8 a9 a10 a11 a12 a13).2.1 = (fun _ => 1#1)
    ∧ (fn (F := F) a0 a1 a2 a3 a4 a5 a6 a7 a8 a9 a10 a11 a12 a13).2.2.1 = (fun _ => 1#1)
    ∧ (fn (F := F) a0 a1 a2 a3 a4 a5 a6 a7 a8 a9 a10 a11 a12 a13).2.2.2.1 = (fun _ => 1#1)
    ∧ (fn (F := F) a0 a1 a2 a3 a4 a5 a6 a7 a8 a9 a10 a11 a12 a13).2.2.2.2.1 = (fun _ => 1#1)
    ∧ (fn (F := F) a0 a1 a2 a3 a4 a5 a6 a7 a8 a9 a10 a11 a12 a13).2.2.2.2.2.1 = (fun _ => 1#1)
    ∧ (fn (F := F) a0 a1 a2 a3 a4 a5 a6 a7 a8 a9 a10 a11 a12 a13).2.2.2.2.2.2.1 = (fun _ => 1#1)
    ∧ (fn (F := F) a0 a1 a2 a3 a4 a5 a6 a7 a8 a9 a10 a11 a12 a13).2.2.2.2.2.2.2.1 = (fun _ => 1#1)
    ∧ (fn (F := F) a0 a1 a2 a3 a4 a5 a6 a7 a8 a9 a10 a11 a12 a13).2.2.2.2.2.2.2.2.1 = (fun _ => 1#1)
    ∧ (fn (F := F) a0 a1 a2 a3 a4 a5 a6 a7 a8 a9 a10 a11 a12 a13).2.2.2.2.2.2.2.2.2 = (fun _ => 1#1)) :
    Routed a0 a1 a2 a3 a12 a13 := by
  obtain ⟨h0, h1, h2, h3, h4, h5, h6, h7, h8, h9⟩ := h
  have hu := at_used _ _ _ _ _ _ _ _ _ _ _ _ _ _ h8 h9
  have hs : ∀ c : Fin 20, (BitVec.ofNat 32 c.val).slt (a1 (ix1 0)) = true ↔ c.val < (a1 (ix1 0)).toNat := fun c =>
    slt_small _ _ (by have := c.isLt; omega) (by omega)
  refine ⟨hu.1, hu.2, at_gid _ _ _ _ _ _ _ _ _ _ _ _ _ _ h6 h7, at_src _ _ _ _ _ _ _ _ _ _ _ _ _ _ h4 h5,
    at_dest _ _ _ _ _ _ _ _ _ _ _ _ _ _ h2 h3, fun t c r p hp hd => ?_, fun t c r p hp e1 e2 e3 => ?_⟩
  · obtain ⟨g1, g2, g3, g4⟩ := at_here _ _ _ _ _ _ _ _ _ _ _ _ _ _ h0 t c r p hp hd
    exact ⟨g1, g2, (hs c).1 g3, g4⟩
  · exact at_named _ _ _ _ _ _ _ _ _ _ _ _ _ _ h1 t c r p hp e1 e2 ((hs c).2 e3)

end Cert.Pre_dispatched_tokens

end
-- ==== Proof.MoeAdm.lean ====
/- What the dispatch tables give: the experts' blocks lie in their arrays, no two rows go to one place, and each token's row is written once. -/
module

public import proofs.«01_k».proof.Proof.MoeRun
public import proofs.«01_k».proof.Proof.MoeRoute

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-! ## The experts' blocks, by the tables' words -/

/-- An expert's place among the experts: its group's first, and in a chunk in use the part's own. -/
def wsel (g : BitVec 32) (b : BitVec 1) (s : ℕ) : ℕ := (4#32 * g + (if b = 1#1 then BitVec.ofNat 32 s else 3#32)).toNat

/-- Whether chunk `q` is in use. -/
def used (nu : BitVec 32) (q : ℕ) : BitVec 1 := Scalar.cmpi .sle (BitVec.ofNat 32 q) (nu - 1#32)

variable (pf : pre0.Contents (Elt F)) (i : grid0.Coords)

theorem at0 (h1) : pf.at 0 (Rect.unit (s := S20) ![(Scalar.indexCast (BitVec.ofNat 32 (i 0).val)).toNat] S1.size (k0_off1_inb i)) h1 = (pf 0 : S20.Idx → BitVec 32) (ix1 (i 0)) := by
  refine congrArg (pf 0 : S20.Idx → BitVec 32) (funext fun a => ?_)
  match a with
  | ⟨0, _⟩ =>
    refine Fin.ext ?_
    have h := i0_lt i
    show (BitVec.ofNat 32 (i 0).val).toNat + _ = (i 0).val
    rw [BitVec.toNat_ofNat, Nat.mod_eq_of_lt (by omega)]
    exact Nat.add_eq_left.2 ((Nat.one_mul _).trans (Nat.lt_one_iff.1 (Fin.isLt _)))

theorem at1 (h1) : pf.at 1 (Rect.unit (s := S1) ![0] S1.size inb_S1_S1_0) h1 = (pf 1 : S1.Idx → BitVec 32) (ix1 0) := by
  refine congrArg (pf 1 : S1.Idx → BitVec 32) (funext fun a => ?_)
  match a with
  | ⟨0, _⟩ => exact Subsingleton.elim (α := Fin 1) _ _

/-- The experts' axis' index, and the hidden columns', as the index maps compute them. -/
def eidx (s g : BitVec 32) (b : BitVec 1) : ℕ := (Scalar.addi (Scalar.muli 4#32 g) (Scalar.select b (colOf s) 3#32)).toNat
def cidx (s : BitVec 32) (b : BitVec 1) : ℕ :=
    (Scalar.select b (Scalar.select (Scalar.andi (Scalar.xori (Scalar.cmpi .slt (Scalar.remsi s (Scalar.select (Scalar.cmpi .eq 1#32 0#32) 1#32 1#32)) 0#32)
          (Scalar.cmpi .slt (Scalar.select (Scalar.cmpi .eq 1#32 0#32) 1#32 1#32) 0#32))
        (Scalar.cmpi .ne (Scalar.remsi s (Scalar.select (Scalar.cmpi .eq 1#32 0#32) 1#32 1#32)) 0#32))
      (Scalar.addi (Scalar.remsi s (Scalar.select (Scalar.cmpi .eq 1#32 0#32) 1#32 1#32)) (Scalar.select (Scalar.cmpi .eq 1#32 0#32) 1#32 1#32))
      (Scalar.remsi s (Scalar.select (Scalar.cmpi .eq 1#32 0#32) 1#32 1#32))) 0#32).toNat

theorem eidx_eq (s : ℕ) (hs : s < 4) (g : BitVec 32) (b : BitVec 1) : eidx (BitVec.ofNat 32 s) g b = wsel g b s := by
  unfold eidx wsel
  have hc : colOf (BitVec.ofNat 32 s) = BitVec.ofNat 32 s := by
    rcases (by omega : s = 0 ∨ s = 1 ∨ s = 2 ∨ s = 3) with rfl | rfl | rfl | rfl <;> decide
  rw [hc]
  rfl

theorem cidx_eq (s : ℕ) (hs : s < 4) (b : BitVec 1) : cidx (BitVec.ofNat 32 s) b = 0 := by
  unfold cidx
  rcases (by omega : s = 0 ∨ s = 1 ∨ s = 2 ∨ s = 3) with rfl | rfl | rfl | rfl <;> (revert b; decide)

theorem tr5 : cc0_transform_5 inb_S1_S1_0 numel1_S1 k0_off1_inb pf i = ![0, wsel ((pf 0 : S20.Idx → BitVec 32) (ix1 (i 0))) (used ((pf 1 : S1.Idx → BitVec 32) (ix1 0)) (i 0).val) (i 1).val, 0, 0] := by
  refine (congrArg₂ (fun (g n : BitVec 32) => (![0, eidx (BitVec.ofNat 32 (i 1).val) g (Scalar.cmpi .sle (BitVec.ofNat 32 (i 0).val) (n - 1#32)), 0, cidx (BitVec.ofNat 32 (i 1).val) (Scalar.cmpi .sle (BitVec.ofNat 32 (i 0).val) (n - 1#32))] : Fin 4 → ℕ))
    (at0 pf i numel1_S1) (at1 pf numel1_S1)).trans ?_
  exact congrArg₂ (fun e x : ℕ => (![0, e, 0, x] : Fin 4 → ℕ)) (eidx_eq _ (i1_lt i) _ _) (cidx_eq _ (i1_lt i) _)

theorem tr6 : cc0_transform_6 inb_S1_S1_0 numel1_S1 k0_off1_inb pf i = ![0, wsel ((pf 0 : S20.Idx → BitVec 32) (ix1 (i 0))) (used ((pf 1 : S1.Idx → BitVec 32) (ix1 0)) (i 0).val) (i 1).val, 0, 0] := by
  refine (congrArg₂ (fun (g n : BitVec 32) => (![0, eidx (BitVec.ofNat 32 (i 1).val) g (Scalar.cmpi .sle (BitVec.ofNat 32 (i 0).val) (n - 1#32)), 0, cidx (BitVec.ofNat 32 (i 1).val) (Scalar.cmpi .sle (BitVec.ofNat 32 (i 0).val) (n - 1#32))] : Fin 4 → ℕ))
    (at0 pf i numel1_S1) (at1 pf numel1_S1)).trans ?_
  exact congrArg₂ (fun e x : ℕ => (![0, e, 0, x] : Fin 4 → ℕ)) (eidx_eq _ (i1_lt i) _ _) (cidx_eq _ (i1_lt i) _)

theorem tr7 : cc0_transform_7 inb_S1_S1_0 numel1_S1 k0_off1_inb pf i = ![0, wsel ((pf 0 : S20.Idx → BitVec 32) (ix1 (i 0))) (used ((pf 1 : S1.Idx → BitVec 32) (ix1 0)) (i 0).val) (i 1).val, 0, 0] := by
  refine (congrArg₂ (fun (g n : BitVec 32) => (![0, eidx (BitVec.ofNat 32 (i 1).val) g (Scalar.cmpi .sle (BitVec.ofNat 32 (i 0).val) (n - 1#32)), 0, 0] : Fin 4 → ℕ))
    (at0 pf i numel1_S1) (at1 pf numel1_S1)).trans ?_
  exact congrArg (fun e : ℕ => (![0, e, 0, 0] : Fin 4 → ℕ)) (eidx_eq _ (i1_lt i) _ _)

theorem wsel_lt (g : BitVec 32) (hg : g.toNat < 4) (b : BitVec 1) (s : ℕ) (hs : s < 4) : wsel g b s < 16 := by
  unfold wsel
  split <;> simp only [BitVec.toNat_add, BitVec.toNat_mul, BitVec.toNat_ofNat] <;> omega

theorem wsel_used (g : BitVec 32) (hg : g.toNat < 4) (s : ℕ) (hs : s < 4) : wsel g 1#1 s = 4 * g.toNat + s := by
  unfold wsel
  rw [if_pos rfl]
  simp only [BitVec.toNat_add, BitVec.toNat_mul, BitVec.toNat_ofNat]
  omega

theorem used_eq (nu : BitVec 32) (h1 : 1 ≤ nu.toNat) (h2 : nu.toNat ≤ 20) (q : ℕ) (hq : q < nu.toNat) : used nu q = 1#1 := by
  unfold used
  refine (Idealize.ShloMosaic.StableHlo.Predicate.ofBool_eq_one_iff _).2 ?_
  have e : (nu - 1#32).toNat = nu.toNat - 1 := by
    simp only [BitVec.toNat_sub, BitVec.toNat_ofNat]
    omega
  simp only [BitVec.sle, BitVec.toInt_eq_toNat_cond, decide_eq_true_eq, BitVec.toNat_ofNat, e]
  omega

/-- The experts' blocks lie in their arrays when every chunk's group is one of the four. -/
theorem ok_of (hg : ∀ c : Fin 20, ((pf 0 : S20.Idx → BitVec 32) (ix1 c)).toNat < 4) : ok0 pf := by
  have hb : ∀ i : grid0.Coords, wsel ((pf 0 : S20.Idx → BitVec 32) (ix1 (i 0))) (used ((pf 1 : S1.Idx → BitVec 32) (ix1 0)) (i 0).val) (i 1).val < 16 :=
    fun i => wsel_lt _ (hg _) _ _ (i1_lt i)
  refine ⟨fun i => ⟨fun a => ?_, .inl rfl⟩, fun i => ⟨fun a => ?_, .inl rfl⟩, fun i => ⟨fun a => ?_, .inl rfl⟩⟩
  · rw [tr5]
    match a with
    | ⟨0, _⟩ => show (0 + 1) * 1 ≤ 4; omega
    | ⟨1, _⟩ => exact (Nat.mul_one _).le.trans (hb i)
    | ⟨2, _⟩ => show (0 + 1) * 2048 ≤ 2048; omega
    | ⟨3, _⟩ => show (0 + 1) * 512 ≤ 512; omega
  · rw [tr6]
    match a with
    | ⟨0, _⟩ => show (0 + 1) * 1 ≤ 4; omega
    | ⟨1, _⟩ => exact (Nat.mul_one _).le.trans (hb i)
    | ⟨2, _⟩ => show (0 + 1) * 2048 ≤ 2048; omega
    | ⟨3, _⟩ => show (0 + 1) * 512 ≤ 512; omega
  · rw [tr7]
    match a with
    | ⟨0, _⟩ => show (0 + 1) * 1 ≤ 4; omega
    | ⟨1, _⟩ => exact (Nat.mul_one _).le.trans (hb i)
    | ⟨2, _⟩ => show (0 + 1) * 512 ≤ 512; omega
    | ⟨3, _⟩ => show (0 + 1) * 2048 ≤ 2048; omega

/-! ## What the tables' words give the run -/

section
variable (D : Args F) (gd : IVec S20 32) (nu : IVec S1 32) (dest grp : IVec S8192 32)
  (R : Cert.Pre_dispatched_tokens.Routed gd nu D.nv D.src dest grp)

/-- The number of chunks in use. -/
def chunks : Fin 21 := ⟨(nu (ix1 0)).toNat, by have := R.nu_le; omega⟩

include R in
/-- A row's place is a token's only if the row is the token's. -/
theorem dst_token (q : ℕ) (hq : q < (nu (ix1 0)).toNat) (j : Fin 512) (t : Fin 8192) (h : dst D q j = t.val) : (dest (ix1 t)).toNat = 512 * q + j.val := by
  have hj := j.isLt
  have ht := t.isLt
  have hu := R.nu_le
  unfold dst dstRow at h
  split at h
  · rename_i hv
    refine R.named t (Fin.ofNat 20 q) j (Fin.ofNat 10240 (512 * q + j.val)) ?_ h hv ?_ |>.trans ?_
    · show (512 * q + j.val) % 10240 = 512 * (q % 20) + j.val
      omega
    · show q % 20 < _
      omega
    · show (512 * q + j.val) % 10240 = _
      omega
  · omega

include R in
theorem dst_inj (q : ℕ) (hq : q < (nu (ix1 0)).toNat) : Function.Injective (dst D q) := by
  have key : ∀ j : Fin 512, (dst D q j < 8192 ∧ ∃ t : Fin 8192, dst D q j = t.val) ∨ dst D q j = 8192 + j.val := by
    intro j
    by_cases hv : (BitVec.ofNat 32 j.val).slt (D.nv (ix1 (Fin.ofNat 20 q))) = true
    · have e : dst D q j = (D.src (ix1 (Fin.ofNat 10240 (512 * q + j.val)))).toNat := by unfold dst dstRow; rw [if_pos hv]
      have h := R.src_lt (Fin.ofNat 10240 (512 * q + j.val))
      exact .inl ⟨e ▸ h, ⟨_, h⟩, e⟩
    · exact .inr (by unfold dst dstRow; rw [if_neg hv])
  intro j j' h
  rcases key j with ⟨_, t, e⟩ | e
  · have h1 := dst_token D gd nu dest grp R q hq j t e
    have h2 := dst_token D gd nu dest grp R q hq j' t (h.symm.trans e)
    exact Fin.ext (by omega)
  · rcases key j' with ⟨l, t, e'⟩ | e'
    · omega
    · exact Fin.ext (by omega)

theorem good : Good D (chunks D gd nu dest grp R) :=
  ⟨R.nu_pos, fun _ _ _ _ => R.src_lt _, fun q hq => dst_inj D gd nu dest grp R q hq⟩

theorem chunks_word : nu (ix1 0) = BitVec.ofNat 32 (chunks D gd nu dest grp R).val :=
  BitVec.eq_of_toNat_eq (by show _ = (BitVec.ofNat 32 (nu (ix1 0)).toNat).toNat; rw [BitVec.toNat_ofNat]; have := R.nu_le; omega)

include R in
/-- What a token's row of the result holds in the end: its row of its chunk. -/
theorem OUT_token (t : Fin 8192) (a : Fin 16) (b : Fin 128) (q : ℕ) (j : Fin 512) (hd : (dest (ix1 t)).toNat = 512 * q + j.val) :
    OUT D (nu (ix1 0)).toNat (ix3 (⟨t.val, by have := t.isLt; omega⟩ : Fin 8704) a b) = OB D q (ix3 j a b) := by
  have hj := j.isLt
  have hl := R.dest_lt t
  have hu := R.nu_le
  have hq20 : q < 20 := by omega
  have hh := R.here t (Fin.ofNat 20 q) j (Fin.ofNat 10240 (512 * q + j.val))
    (by show (512 * q + j.val) % 10240 = 512 * (q % 20) + j.val; omega) (by show _ = (512 * q + j.val) % 10240; omega)
  have hqu : q < (nu (ix1 0)).toNat := by
    have := hh.2.2.1
    have e : (Fin.ofNat 20 q).val = q := by show q % 20 = q; omega
    omega
  have hdst : dst D q j = t.val := by unfold dst dstRow; rw [if_pos hh.2.1]; exact hh.1
  have key : ∀ n, n ≤ (nu (ix1 0)).toNat → q < n → OUT D n (ix3 (⟨t.val, by have := t.isLt; omega⟩ : Fin 8704) a b) = OB D q (ix3 j a b) := by
    intro n
    induction n with
    | zero => intro _ h; omega
    | succ n ih =>
      intro hn hqn
      by_cases e : q = n
      · subst e
        exact outNext_row _ _ _ (dst_inj D gd nu dest grp R q hqu) j _ (by
          simp only [drow, Finset.mem_filter, Finset.mem_univ, _root_.true_and]
          exact hdst.symm)
      · refine (outNext_off _ _ _ _ fun j' h => ?_).trans (ih (by omega) (by omega))
        have := dst_token D gd nu dest grp R n (by omega) j' t h
        have := j'.isLt
        omega
  exact key _ le_rfl hqu

end

end Cert.Kernel2Ideal.Moe

end
-- ==== Proof.MoeOut.lean ====
/- The experts' call from tables that dispatch the tokens: its result and its unchanged arguments. -/
module

public import proofs.«01_k».proof.Proof.MoeAdm

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

open Idealize.ShloMosaic.Pipeline (Dat)

variable (m : (ℓ : Loc nD τ sig) → Buf (Elt F) ℓ) (ρ : Dev nD → PrngReg)

/-- The tables at launch dispatch the tokens. -/
abbrev Routes : Prop := Cert.Pre_dispatched_tokens.Routed (V m (0 : Dev nD) main_arg0) (V m (0 : Dev nD) main_arg1) (V m (0 : Dev nD) main_arg2)
  (V m (0 : Dev nD) main_arg3) (V m (0 : Dev nD) main_arg12) (V m (0 : Dev nD) main_arg13)

theorem ok_routes (R : Routes m) : Ok m := ok_of (tbl m) fun c => R.gd_lt c

/-- The call, from tables that dispatch the tokens: its result, and its arguments as they were. -/
theorem run_out (R : Routes m) : θ_run defs (onTc (τ := τ) (main (F := F))) ⟨m, fun _ => 0, ρ⟩ (fun r => (∀ c : Dev nD,
      r.2.mem ((c.tc : Thread nD τ).loc main_v0) = (OUT (Dm m (ok_routes m R) c) ((V m (0 : Dev nD) main_arg1 : S1.Idx → BitVec 32) (ix1 0)).toNat : Buf (Elt F) ((c.tc : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  have hO := ok_routes m R
  have hG : ∀ c : Dev nD, Good (Dm m hO c) (chunks (Dm m hO c) _ _ _ _ R) := fun c => good (Dm m hO c) _ _ _ _ R
  have hw := chunks_word (Dm m hO 0) _ _ _ _ R
  obtain ⟨u, hu⟩ : ∃ u : Fin 21, u = chunks (Dm m hO 0) _ _ _ _ R := ⟨_, rfl⟩
  refine (θ_run defs _ _).mono (fun r h => ⟨fun c => ⟨?_, ?_, ?_, ?_, ?_, ?_, ?_, ?_, ?_, ?_, ?_, ?_, ?_, ?_, ?_⟩, h.2⟩)
    (run_main m ρ hO u (by rw [hu]; exact hw) (fun c => by rw [hu]; exact hG c))
  · refine (h.1.2 c main_v0 (by decide)).trans ((Gout_v0 m hO u c).trans ?_)
    rw [hu]; rfl
  · exact (h.1.1 c).2 main_arg0 (Finset.mem_sdiff.2 ⟨Pipeline.mem_restRefs_of main_arg0 (by decide) (show ∀ w : Fin 7, (spec0 w).arr.view.ref ≠ main_arg0 from by decide), by decide⟩)
  · exact (h.1.1 c).2 main_arg1 (Finset.mem_sdiff.2 ⟨Pipeline.mem_restRefs_of main_arg1 (by decide) (show ∀ w : Fin 7, (spec0 w).arr.view.ref ≠ main_arg1 from by decide), by decide⟩)
  · exact (h.1.1 c).2 main_arg2 (Finset.mem_sdiff.2 ⟨Pipeline.mem_restRefs_of main_arg2 (by decide) (show ∀ w : Fin 7, (spec0 w).arr.view.ref ≠ main_arg2 from by decide), by decide⟩)
  · exact (h.1.1 c).2 main_arg3 (Finset.mem_sdiff.2 ⟨Pipeline.mem_restRefs_of main_arg3 (by decide) (show ∀ w : Fin 7, (spec0 w).arr.view.ref ≠ main_arg3 from by decide), by decide⟩)
  · exact (h.1.1 c).2 main_arg4 (Finset.mem_sdiff.2 ⟨Pipeline.mem_restRefs_of main_arg4 (by decide) (show ∀ w : Fin 7, (spec0 w).arr.view.ref ≠ main_arg4 from by decide), by decide⟩)
  · exact ((h.1.1 c).1 0).trans (((dats m hO u 0 c).arrAt_in 0 rfl _).trans (A_eq m hO u c 0))
  · exact ((h.1.1 c).1 1).trans (((dats m hO u 0 c).arrAt_in 1 rfl _).trans (A_eq m hO u c 1))
  · exact ((h.1.1 c).1 2).trans (((dats m hO u 0 c).arrAt_in 2 rfl _).trans (A_eq m hO u c 2))
  · exact ((h.1.1 c).1 3).trans (((dats m hO u 0 c).arrAt_in 3 rfl _).trans (A_eq m hO u c 3))
  · exact ((h.1.1 c).1 4).trans (((dats m hO u 0 c).arrAt_in 4 rfl _).trans (A_eq m hO u c 4))
  · exact ((h.1.1 c).1 5).trans (((dats m hO u 0 c).arrAt_in 5 rfl _).trans (A_eq m hO u c 5))
  · exact ((h.1.1 c).1 6).trans (((dats m hO u 0 c).arrAt_in 6 rfl _).trans (A_eq m hO u c 6))
  · exact (h.1.1 c).2 main_arg12 (Finset.mem_sdiff.2 ⟨Pipeline.mem_restRefs_of main_arg12 (by decide) (show ∀ w : Fin 7, (spec0 w).arr.view.ref ≠ main_arg12 from by decide), by decide⟩)
  · exact (h.1.1 c).2 main_arg13 (Finset.mem_sdiff.2 ⟨Pipeline.mem_restRefs_of main_arg13 (by decide) (show ∀ w : Fin 7, (spec0 w).arr.view.ref ≠ main_arg13 from by decide), by decide⟩)

end Cert.Kernel2Ideal.Moe

end
-- ==== Proof.MoeBlocks.lean ====
/- The blocks the experts' call reads: the four rows whole, and an expert's matrices in use. -/
module

public import proofs.«01_k».proof.Proof.MoeOut
public import Idealize.ShloMosaic.Lib.Pipeline.FrameBody

@[expose] public section

set_option maxRecDepth 16384

noncomputable section

namespace Cert.Kernel2Ideal.Moe

open Cert.Kernel2Ideal Cert.Kernel2Ideal.Gen Idealize.ShloMosaic Idealize.ShloMosaic.TcCoe

variable {F : FTy → Type} [FloatOps F] [∀ e, Nonempty (Elt F e)]
variable (m : (ℓ : Loc nD τ sig) → Buf (Elt F) ℓ)

theorem row0 (hO : Ok m) (c : Dev nD) (k : Fin 2048) : (Dm m hO c).g (ix2 0 k) = V m c main_arg5 (ix2 0 k) := by
  refine congrArg (V m c main_arg5) ?_
  funext a
  refine Fin.ext ?_
  match a with
  | ⟨0, _⟩ => rfl
  | ⟨1, _⟩ => change 0 * 2048 + 1 * k.val = k.val; omega

theorem row1 (hO : Ok m) (c : Dev nD) (k : Fin 2048) : (Dm m hO c).sc (ix2 0 k) = V m c main_arg6 (ix2 0 k) := by
  refine congrArg (V m c main_arg6) ?_
  funext a
  refine Fin.ext ?_
  match a with
  | ⟨0, _⟩ => rfl
  | ⟨1, _⟩ => change 0 * 2048 + 1 * k.val = k.val; omega

theorem row2 (hO : Ok m) (c : Dev nD) (k : Fin 2048) : (Dm m hO c).sh (ix2 0 k) = V m c main_arg7 (ix2 0 k) := by
  refine congrArg (V m c main_arg7) ?_
  funext a
  refine Fin.ext ?_
  match a with
  | ⟨0, _⟩ => rfl
  | ⟨1, _⟩ => change 0 * 2048 + 1 * k.val = k.val; omega

theorem row3 (hO : Ok m) (c : Dev nD) (k : Fin 2048) : (Dm m hO c).g2 (ix2 0 k) = V m c main_arg8 (ix2 0 k) := by
  refine congrArg (V m c main_arg8) ?_
  funext a
  refine Fin.ext ?_
  match a with
  | ⟨0, _⟩ => rfl
  | ⟨1, _⟩ => change 0 * 2048 + 1 * k.val = k.val; omega

/-- The expert whose matrices a point reads. -/
def expertAt (t : Fin grid0.N) : ℕ :=
  wsel ((tbl m 0 : S20.Idx → BitVec 32) (ix1 (grid0.coords t 0))) (used ((tbl m 1 : S1.Idx → BitVec 32) (ix1 0)) (grid0.coords t 0).val) (grid0.coords t 1).val

theorem gate_block (hO : Ok m) (c : Dev nD) (t : Fin grid0.N) (e : Fin 16) (he : expertAt m t = e.val) (k : Fin 2048) (f : Fin 512) :
    blk4 m hO c t (ix4 0 0 k f) = V m c main_arg9 (ix4 0 e k f) := by
  refine congrArg (V m c main_arg9) ?_
  have T := tr5 (tbl m) (grid0.coords t)
  funext a
  refine Fin.ext ?_
  match a with
  | ⟨0, _⟩ => change cc0_transform_5 inb_S1_S1_0 numel1_S1 k0_off1_inb (tbl m) (grid0.coords t) 0 * 1 + 1 * 0 = 0; rw [T]; rfl
  | ⟨1, _⟩ => change cc0_transform_5 inb_S1_S1_0 numel1_S1 k0_off1_inb (tbl m) (grid0.coords t) 1 * 1 + 1 * 0 = e.val; rw [T]; change expertAt m t * 1 + 1 * 0 = e.val; omega
  | ⟨2, _⟩ => change cc0_transform_5 inb_S1_S1_0 numel1_S1 k0_off1_inb (tbl m) (grid0.coords t) 2 * 2048 + 1 * k.val = k.val; rw [T]; change 0 * 2048 + 1 * k.val = k.val; omega
  | ⟨3, _⟩ => change cc0_transform_5 inb_S1_S1_0 numel1_S1 k0_off1_inb (tbl m) (grid0.coords t) 3 * 512 + 1 * f.val = f.val; rw [T]; change 0 * 512 + 1 * f.val = f.val; omega

theorem up_block (hO : Ok m) (c : Dev nD) (t : Fin grid0.N) (e : Fin 16) (he : expertAt m t = e.val) (k : Fin 2048) (f : Fin 512) :
    blk5 m hO c t (ix4 0 0 k f) = V m c main_arg10 (ix4 0 e k f) := by
  refine congrArg (V m c main_arg10) ?_
  have T := tr6 (tbl m) (grid0.coords t)
  funext a
  refine Fin.ext ?_
  match a with
  | ⟨0, _⟩ => change cc0_transform_6 inb_S1_S1_0 numel1_S1 k0_off1_inb (tbl m) (grid0.coords t) 0 * 1 + 1 * 0 = 0; rw [T]; rfl
  | ⟨1, _⟩ => change cc0_transform_6 inb_S1_S1_0 numel1_S1 k0_off1_inb (tbl m) (grid0.coords t) 1 * 1 + 1 * 0 = e.val; rw [T]; change expertAt m t * 1 + 1 * 0 = e.val; omega
  | ⟨2, _⟩ => change cc0_transform_6 inb_S1_S1_0 numel1_S1 k0_off1_inb (tbl m) (grid0.coords t) 2 * 2048 + 1 * k.val = k.val; rw [T]; change 0 * 2048 + 1 * k.val = k.val; omega
  | ⟨3, _⟩ => change cc0_transform_6 inb_S1_S1_0 numel1_S1 k0_off1_inb (tbl m) (grid0.coords t) 3 * 512 + 1 * f.val = f.val; rw [T]; change 0 * 512 + 1 * f.val = f.val; omega

theorem down_block (hO : Ok m) (c : Dev nD) (t : Fin grid0.N) (e : Fin 16) (he : expertAt m t = e.val) (f : Fin 512) (k : Fin 2048) :
    blk6 m hO c t (ix4 0 0 f k) = V m c main_arg11 (ix4 0 e f k) := by
  refine congrArg (V m c main_arg11) ?_
  have T := tr7 (tbl m) (grid0.coords t)
  funext a
  refine Fin.ext ?_
  match a with
  | ⟨0, _⟩ => change cc0_transform_7 inb_S1_S1_0 numel1_S1 k0_off1_inb (tbl m) (grid0.coords t) 0 * 1 + 1 * 0 = 0; rw [T]; rfl
  | ⟨1, _⟩ => change cc0_transform_7 inb_S1_S1_0 numel1_S1 k0_off1_inb (tbl m) (grid0.coords t) 1 * 1 + 1 * 0 = e.val; rw [T]; change expertAt m t * 1 + 1 * 0 = e.val; omega
  | ⟨2, _⟩ => change cc0_transform_7 inb_S1_S1_0 numel1_S1 k0_off1_inb (tbl m) (grid0.coords t) 2 * 512 + 1 * f.val = f.val; rw [T]; change 0 * 512 + 1 * f.val = f.val; omega
  | ⟨3, _⟩ => change cc0_transform_7 inb_S1_S1_0 numel1_S1 k0_off1_inb (tbl m) (grid0.coords t) 3 * 2048 + 1 * k.val = k.val; rw [T]; change 0 * 2048 + 1 * k.val = k.val; omega

/-- At a part of a chunk in use, that is one of the chunk's group. -/
theorem expertAt_used (R : Routes m) (q : ℕ) (hq : q < ((V m (0 : Dev nD) main_arg1 : S1.Idx → BitVec 32) (ix1 0)).toNat) (s : Fin 4) (γ : BitVec 32)
    (hγ : (V m (0 : Dev nD) main_arg0 : S20.Idx → BitVec 32) (ix1 (Fin.ofNat 20 q)) = γ) : expertAt m (ptN q s.val) = 4 * γ.toNat + s.val := by
  have hn := R.nu_le
  have hv : (ptN q s.val).val = 4 * q + s.val := Nat.mod_eq_of_lt (by have := s.isLt; omega)
  obtain ⟨h0, h1⟩ := coord_pt (ptN q s.val)
  rw [hv] at h0 h1
  have h0' : ((grid0.coords (ptN q s.val)) 0).val = q := by have := s.isLt; omega
  have h1' : ((grid0.coords (ptN q s.val)) 1).val = s.val := by have := s.isLt; omega
  have e0 : (grid0.coords (ptN q s.val)) 0 = (Fin.ofNat 20 q : Fin 20) := Fin.ext (h0'.trans (Nat.mod_eq_of_lt (by omega)).symm)
  unfold expertAt
  rw [h0', h1']
  have hu : used ((tbl m 1 : S1.Idx → BitVec 32) (ix1 0)) q = 1#1 := used_eq _ R.nu_pos hn q hq
  have hg : (tbl m 0 : S20.Idx → BitVec 32) (ix1 ((grid0.coords (ptN q s.val)) 0)) = γ := (congrArg (fun x => (tbl m 0 : S20.Idx → BitVec 32) (ix1 x)) e0).trans hγ
  rw [hu, hg]
  exact wsel_used γ (by rw [← hγ]; exact R.gd_lt _) s.val s.isLt

end Cert.Kernel2Ideal.Moe

end
-- ==== Proof.MoePay.lean ====
/- What each vector value of the experts' body is at one element. -/
module

public import proofs.«01_k».proof.Proof.MoeCompute
public import Idealize.ShloMosaic.Lib.Pointwise
public import Idealize.ShloMosaic.Lib.StableHlo.Predicate

@[expose] public section

set_option maxRecDepth 16384

noncomputable section

namespace Cert.Kernel2Ideal.Moe

open Cert.Kernel2Ideal Cert.Kernel2Ideal.Gen Idealize.ShloMosaic Idealize.ShloMosaic.TcCoe

/-- The head and the lane of a column. -/
abbrev hd (n : Fin 2048) : Fin 16 := ⟨n.val / 128, by omega⟩
abbrev ln (n : Fin 2048) : Fin 128 := ⟨n.val % 128, by omega⟩

/-- The scale of a row: one over the root of its mean square, a small number added. -/
def rowScale (x : Fin 2048 → EReal) : EReal :=
  Ideal.rsqrt (Ideal.div (∑ k : Fin 2048, x k * x k) (Ideal.ofBits .f32 0x45000000#32) + Ideal.ofBits .f32 0x358637BD#32)

/-- A row normalized, scaled and shifted, at a column. -/
def normed (x g sc sh : Fin 2048 → EReal) (n : Fin 2048) : EReal :=
  x n * rowScale x * g n * (Ideal.ofBits .f32 0x3F800000#32 + sc n) + sh n

/-- A gated, weighted activation. -/
def gated (g u w : EReal) : EReal := g * Ideal.logistic g * u * w

/-- A token's row of the result: the row, and the gate times the four experts' weighted outputs. -/
def tokenOut (x g sc sh g2 : Fin 2048 → EReal) (Wg Wu : Fin 4 → Fin 2048 → Fin 512 → EReal) (Wd : Fin 4 → Fin 512 → Fin 2048 → EReal) (w : Fin 4 → EReal)
    (n : Fin 2048) : EReal :=
  x n + g2 n * ∑ s : Fin 4, ∑ f : Fin 512, gated (∑ k : Fin 2048, normed x g sc sh k * Wg s k f) (∑ k : Fin 2048, normed x g sc sh k * Wu s k f) (w s) * Wd s f n

theorem pay7_apply (g sc sh : Vec Ideal S1x2048 .f32) (xt : Vec Ideal S1x32x16x128 .f32) (r : Fin 32) (n : Fin 2048) :
    k0_pay7 g sc sh xt (ix2 r n) = normed (fun k => xt (ix4 0 r (hd k) (ln k))) (fun k => g (ix2 0 k)) (fun k => sc (ix2 0 k)) (fun k => sh (ix2 0 k)) n := by
  unfold normed rowScale
  pointwise [k0_pay7]

theorem pay2_apply (h : Vec Ideal S512x2048 .bf16) (W : Vec Ideal S1x1x2048x512 .f32) (j f : Fin 512) :
    k0_pay2 h W (ix2 j f) = ∑ k : Fin 2048, h (ix2 j k) * W (ix4 0 0 k f) := by
  pointwise [k0_pay2]

theorem pay3_apply (h : Vec Ideal S512x2048 .bf16) (W : Vec Ideal S1x1x2048x512 .f32) (j f : Fin 512) :
    k0_pay3 h W (ix2 j f) = ∑ k : Fin 2048, h (ix2 j k) * W (ix4 0 0 k f) := by
  pointwise [k0_pay3]

theorem pay4_apply (xc : Vec Ideal S1x512x8x128 .f32) (j : Fin 512) (l : Fin 128) :
    k0_pay4 xc (ix2 j l) = xc (ix4 0 j 0 l) := by
  pointwise [k0_pay4]
  exact congrArg₂ (fun a b => xc (ix4 0 j a b)) (Fin.ext (Nat.div_eq_of_lt l.isLt)) (Fin.ext (Nat.mod_eq_of_lt l.isLt))

theorem pay8_apply (j : Fin 512) (n : Fin 2048) : k0_pay8 (F := Ideal) (ix2 j n) = 0 := by
  pointwise [k0_pay8]

theorem pay10_apply (act : Vec Ideal S1x512x512 .bf16) (acc : Vec Ideal S512x2048 .f32) (W : Vec Ideal S1x1x512x2048 .f32) (j : Fin 512) (n : Fin 2048) :
    k0_pay10 act acc W (ix2 j n) = acc (ix2 j n) + ∑ f : Fin 512, act (ix3 0 j f) * W (ix4 0 0 f n) := by
  pointwise [k0_pay10]

theorem pay1_apply (g2 : Vec Ideal S1x2048 .f32) (acc : Vec Ideal S512x2048 .f32) (xr : Vec Ideal S1x512x16x128 .f32) (j : Fin 512) (a : Fin 16) (b : Fin 128) :
    k0_pay1 g2 acc xr (ix3 j a b) = xr (ix4 0 j a b) + g2 (ix2 0 ⟨a.val * 128 + b.val, by omega⟩) * acc (ix2 j ⟨a.val * 128 + b.val, by omega⟩) := by
  pointwise [k0_pay1]

theorem pay9_apply (g u : FVec Ideal S512x512 .f32) (c : BitVec 32) (w : FVec Ideal S512x128 .f32) (w0 : FVec Ideal S512x1 .f32) (j f : Fin 512) :
    k0_pay9 g u c w w0 1#32 (ix3 0 j f) = gated (g (ix2 j f)) (u (ix2 j f))
      (if c = 3#32 then w (ix2 j 3) else if c = 2#32 then w (ix2 j 2) else if c = 1#32 then w (ix2 j 1) else w0 (ix2 j 0)) := by
  have hs : ∀ (n : BitVec 32) (x y : EReal), Scalar.select (Scalar.cmpi .eq c n) x y = if c = n then x else y := fun n x y =>
    if h : c = n then (if_pos (StableHlo.Predicate.cmpi_eq_iff.mpr h)).trans (if_pos h).symm
    else (if_neg (fun k => h (StableHlo.Predicate.cmpi_eq_iff.mp k))).trans (if_neg h).symm
  unfold gated
  pointwise [k0_pay9]
  simp only [hs]

theorem pay5_zero (xc : Vec Ideal S1x512x8x128 .f32) (j : Fin 512) : k0_pay5 (BitVec.ofNat 32 0) xc (ix2 j 0) = xc (ix4 0 j 0 0) := by
  have h : k0_pay5 (BitVec.ofNat 32 0) xc = extractStridedSlice S512x1 ![0, 0] (k0_pay4 xc) slices_S512x128_o0_0_S512x1 := rfl
  rw [h]
  pointwise [k0_pay4]

/-- The weight column of an expert. -/
theorem act_weight (xc : Vec Ideal S1x512x8x128 .f32) (j : Fin 512) (s : Fin 4) :
    (if colOf (BitVec.ofNat 32 s.val) = 3#32 then k0_pay4 xc (ix2 j 3) else if colOf (BitVec.ofNat 32 s.val) = 2#32 then k0_pay4 xc (ix2 j 2)
      else if colOf (BitVec.ofNat 32 s.val) = 1#32 then k0_pay4 xc (ix2 j 1) else k0_pay5 (BitVec.ofNat 32 s.val) xc (ix2 j 0))
      = xc (ix4 0 j 0 ⟨s.val, by omega⟩) := by
  have e0 : colOf (BitVec.ofNat 32 0) = 0#32 := by decide
  have e1 : colOf (BitVec.ofNat 32 1) = 1#32 := by decide
  have e2 : colOf (BitVec.ofNat 32 2) = 2#32 := by decide
  have e3 : colOf (BitVec.ofNat 32 3) = 3#32 := by decide
  match s with
  | ⟨0, _⟩ => exact (if_neg (by rw [e0]; decide)).trans ((if_neg (by rw [e0]; decide)).trans ((if_neg (by rw [e0]; decide)).trans (pay5_zero xc j)))
  | ⟨1, _⟩ => exact (if_neg (by rw [e1]; decide)).trans ((if_neg (by rw [e1]; decide)).trans ((if_pos e1).trans (pay4_apply xc j 1)))
  | ⟨2, _⟩ => exact (if_neg (by rw [e2]; decide)).trans ((if_pos e2).trans (pay4_apply xc j 2))
  | ⟨3, _⟩ => exact (if_pos e3).trans (pay4_apply xc j 3)

end Cert.Kernel2Ideal.Moe

end
-- ==== Proof.MoeValue.lean ====
/- What a chunk's row of the result is: the token's row and the chunk's four experts' outputs. -/
module

public import proofs.«01_k».proof.Proof.MoePay

@[expose] public section

set_option maxRecDepth 16384

noncomputable section

namespace Cert.Kernel2Ideal.Moe

open Cert.Kernel2Ideal Cert.Kernel2Ideal.Gen Idealize.ShloMosaic Idealize.ShloMosaic.TcCoe

theorem XB_apply (src : S10240.Idx → BitVec 32) (slab : S8192x24x128.Idx → EReal) (q j : ℕ) (t : Fin 8192) (ht : rowOf src q j = t.val)
    (a' b' : ℕ) (a : Fin 24) (b : Fin 128) (ha : a' = a.val) (hb : b' = b.val) : XB (F := Ideal) src slab q j a' b' = slab (ix3 t a b) := by
  subst ha hb
  unfold XB
  have e1 : Fin.ofNat 8192 t.val = t := Fin.ext (Nat.mod_eq_of_lt t.isLt)
  have e2 : Fin.ofNat 24 a.val = a := Fin.ext (Nat.mod_eq_of_lt a.isLt)
  have e3 : Fin.ofNat 128 b.val = b := Fin.ext (Nat.mod_eq_of_lt b.isLt)
  rw [ht, e1, e2, e3]

/-- The token's row. -/
abbrev xrowOf (slab : S8192x24x128.Idx → EReal) (t : Fin 8192) : Fin 2048 → EReal := fun k => slab (ix3 t ⟨k.val / 128, by omega⟩ (ln k))

variable (D : Args Ideal) (q : ℕ) (j : Fin 512) (t : Fin 8192) (ht : rowOf D.src q j.val = t.val)

include ht in
/-- A row of the chunk, normalized. -/
theorem Hv_apply (n : Fin 2048) : Hv D q (ix2 j n) = normed (xrowOf D.slab t) (fun k => D.g (ix2 0 k)) (fun k => D.sc (ix2 0 k)) (fun k => D.sh (ix2 0 k)) n := by
  have hx : (fun k => XT D q (j.val / 32) (ix4 0 (Fin.ofNat 32 (j.val % 32)) (hd k) (ln k))) = xrowOf D.slab t := by
    funext k
    have hj : 32 * (j.val / 32) + (Fin.ofNat 32 (j.val % 32)).val = j.val := by
      change 32 * (j.val / 32) + j.val % 32 % 32 = j.val
      omega
    refine XB_apply D.src D.slab q _ t ?_ _ _ _ _ (Nat.zero_add _) (Nat.zero_add _)
    exact (congrArg (rowOf D.src q) hj).trans ht
  refine (pay7_apply D.g D.sc D.sh (XT D q (j.val / 32)) (Fin.ofNat 32 (j.val % 32)) n).trans ?_
  rw [hx]

include ht in
/-- An expert's weighted activation of a row. -/
theorem ACTv_apply (s : Fin 4) (f : Fin 512) : ACTv D q s.val (ix3 0 j f)
    = gated (∑ k : Fin 2048, normed (xrowOf D.slab t) (fun k => D.g (ix2 0 k)) (fun k => D.sc (ix2 0 k)) (fun k => D.sh (ix2 0 k)) k * D.Wg q s.val (ix4 0 0 k f))
      (∑ k : Fin 2048, normed (xrowOf D.slab t) (fun k => D.g (ix2 0 k)) (fun k => D.sc (ix2 0 k)) (fun k => D.sh (ix2 0 k)) k * D.Wu q s.val (ix4 0 0 k f))
      (D.slab (ix3 t 16 ⟨s.val, by omega⟩)) := by
  unfold ACTv
  rw [pay9_apply, act_weight, pay2_apply, pay3_apply]
  simp only [Hv_apply D q j t ht]
  congr 1
  exact XB_apply D.src D.slab q _ t ((congrArg (rowOf D.src q) (Nat.zero_add _)).trans ht) _ _ 16 ⟨s.val, by omega⟩ rfl (Nat.zero_add _)

include ht in
/-- A chunk's row of the result. -/
theorem OB_apply (a : Fin 16) (b : Fin 128) : OB D q (ix3 j a b)
    = tokenOut (xrowOf D.slab t) (fun k => D.g (ix2 0 k)) (fun k => D.sc (ix2 0 k)) (fun k => D.sh (ix2 0 k)) (fun k => D.g2 (ix2 0 k))
      (fun s k f => D.Wg q s.val (ix4 0 0 k f)) (fun s k f => D.Wu q s.val (ix4 0 0 k f)) (fun s f n => D.Wd q s.val (ix4 0 0 f n))
      (fun s => D.slab (ix3 t 16 ⟨s.val, by omega⟩)) ⟨a.val * 128 + b.val, by omega⟩ := by
  unfold OB tokenOut
  rw [pay1_apply]
  congr 1
  · refine XB_apply D.src D.slab q _ t ((congrArg (rowOf D.src q) (Nat.zero_add _)).trans ht) _ _ _ _ ?_ ?_
    · change 0 + a.val = (a.val * 128 + b.val) / 128
      omega
    · change 0 + b.val = (a.val * 128 + b.val) % 128
      omega
  · congr 1
    rw [Fin.sum_univ_four]
    simp only [ACC, pay10_apply, pay8_apply, zero_add]
    have h0 := ACTv_apply D q j t ht 0
    have h1 := ACTv_apply D q j t ht 1
    have h2 := ACTv_apply D q j t ht 2
    have h3 := ACTv_apply D q j t ht 3
    refine congrArg₂ (· + ·) (congrArg₂ (· + ·) (congrArg₂ (· + ·) ?_ ?_) ?_) ?_
    · exact Finset.sum_congr rfl fun f _ => congrArg (· * _) (h0 f)
    · exact Finset.sum_congr rfl fun f _ => congrArg (· * _) (h1 f)
    · exact Finset.sum_congr rfl fun f _ => congrArg (· * _) (h2 f)
    · exact Finset.sum_congr rfl fun f _ => congrArg (· * _) (h3 f)

end Cert.Kernel2Ideal.Moe

end
-- ==== Proof.MoeRefParts.lean ====
/- The experts' reference, part by part: its composed term, and each part at one element. -/
module

public import proofs.«01_k».proof.Proof.Gen.Reference2Ideal.Run
public import Idealize.ShloMosaic.Lib.Pointwise

@[expose] public section

set_option maxRecDepth 16384

noncomputable section

namespace Cert.Reference2Ideal.Moe

open Cert.Reference2Ideal Cert.Reference2Ideal.Gen Idealize.ShloMosaic Idealize.ShloMosaic.TcCoe

/-- The tokens' rows. -/
def rows (slab : Vec Ideal S8192x24x128 .f32) : FVec Ideal S8192x2048 .f32 :=
  shapeCast _ (extractStridedSlice S8192x16x128 ![0, 0, 0] slab slices_S8192x24x128_S8192x16x128_0_0_0) shapeCasts_S8192x16x128_S8192x2048

/-- The rows normalized, scaled and shifted. -/
def normRows (x : FVec Ideal S8192x2048 .f32) (g sc sh : Vec Ideal S1x2048 .f32) : FVec Ideal S8192x2048 .f32 :=
  addf (mulf (mulf (mulf x (broadcastInDim S8192x2048 ![0, 1] bcast_S8192x1_S8192x2048_0_1 (Host.rsqrt (addf (Host.divf
    (broadcastInDim S8192x1 ![0] bcast_S8192_S8192x1_0 (Host.reduceAdd (mulf x x) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 g)) (broadcastInDim S8192x2048 ![0, 1] bcast_S1x2048_S8192x2048_0_1
    (addf (broadcastInDim S1x2048 ![] bcast_S_S1x2048 (constant S_ .f32 0x3F800000#32)) sc))) (broadcastInDim S8192x2048 ![0, 1] bcast_S1x2048_S8192x2048_0_1 sh)

/-- Every token's products with every expert's first matrix, or second. -/
def products (h : FVec Ideal S8192x2048 .f32) (W : Vec Ideal S4x16x2048x512 .f32) : FVec Ideal S8192x16x512 .f32 :=
  Host.dotGeneral (F := Ideal) (φ₁ := .f32) (φ₂ := .f32) dot_S8192x2048_S16x2048x512_S8192x16x512_1_1_0_02_n_n none h
    (shapeCast _ (extractStridedSlice S1x16x2048x512 ![0, 0, 0, 0] W slices_S4x16x2048x512_S1x16x2048x512_0_0_0_0) shapeCasts_S1x16x2048x512_S16x2048x512)

/-- A product times its logistic. -/
def silus (g : FVec Ideal S8192x16x512 .f32) : FVec Ideal S8192x16x512 .f32 :=
  mulf g (Host.divf (broadcastInDim S8192x16x512 ![] bcast_S_S8192x16x512 (constant S_ .f32 0x3F800000#32))
    (addf (broadcastInDim S8192x16x512 ![] bcast_S_S8192x16x512 (constant S_ .f32 0x3F800000#32)) (Host.exp (Host.negf g))))

/-- Which expert each of a token's four weights is for. -/
def onExpert (grp : Vec Ideal S8192 .i32) : FVec Ideal S8192x4x16 .f32 :=
  uitofp .f32 (cmpi .eq (broadcastInDim S8192x4x16 ![0, 1, 2] bcast_S8192x4x1_S8192x4x16_0_1_2 (broadcastInDim S8192x4x1 ![0, 1] bcast_S8192x4_S8192x4x1_0_1
    (addi (broadcastInDim S8192x4 ![0, 1] bcast_S8192x1_S8192x4_0_1 (muli (broadcastInDim S8192x1 ![0] bcast_S8192_S8192x1_0 grp)
    (broadcastInDim S8192x1 ![] bcast_S_S8192x1 (constantI S_ 32 4#32)))) (broadcastInDim S8192x4 ![0, 1] bcast_S1x4_S8192x4_0_1
    (broadcastInDim S1x4 ![1] bcast_S4_S1x4_1 (iotaInDim S4 32 0)))))) (broadcastInDim S8192x4x16 ![0, 1, 2] bcast_S1x1x16_S8192x4x16_0_1_2 (iotaInDim S1x1x16 32 2)))

/-- Each token's weight for each expert. -/
def combine (slab : Vec Ideal S8192x24x128 .f32) (oh : FVec Ideal S8192x4x16 .f32) : FVec Ideal S8192x16 .f32 :=
  Host.dotGeneral (F := Ideal) (φ₁ := .f32) (φ₂ := .f32) dot_S8192x4_S8192x4x16_S8192x16_1_1_n_2_0_0 none
    (shapeCast _ (extractStridedSlice S8192x1x4 ![0, 16, 0] slab slices_S8192x24x128_S8192x1x4_0_16_0) shapeCasts_S8192x1x4_S8192x4) oh

/-- The weighted activations. -/
def acts (g u : FVec Ideal S8192x16x512 .f32) (w : FVec Ideal S8192x16 .f32) : FVec Ideal S8192x16x512 .f32 :=
  mulf (mulf g u) (broadcastInDim S8192x16x512 ![0, 1, 2] bcast_S8192x16x1_S8192x16x512_0_1_2 (broadcastInDim S8192x16x1 ![0, 1] bcast_S8192x16_S8192x16x1_0_1 w))

/-- The result's token rows, and zero rows after them. -/
def result (x : FVec Ideal S8192x2048 .f32) (g2 : Vec Ideal S1x2048 .f32) (a : FVec Ideal S8192x16x512 .f32) (W : Vec Ideal S4x16x512x2048 .f32) :
    FVec Ideal S8192x2048 .f32 :=
  addf x (mulf (broadcastInDim S8192x2048 ![0, 1] bcast_S1x2048_S8192x2048_0_1 g2)
    (Host.dotGeneral (F := Ideal) (φ₁ := .f32) (φ₂ := .f32) dot_S8192x16x512_S16x512x2048_S8192x2048_12_01_0_2_n_n none a
    (shapeCast _ (extractStridedSlice S1x16x512x2048 ![0, 0, 0, 0] W slices_S4x16x512x2048_S1x16x512x2048_0_0_0_0) shapeCasts_S1x16x512x2048_S16x512x2048)))
def padded (y : FVec Ideal S8192x2048 .f32) : FVec Ideal S8704x16x128 .f32 :=
  concatenate S8704x16x128 0 [⟨S8192x16x128, (shapeCast _ y shapeCasts_S8192x2048_S8192x16x128)⟩,
    ⟨S512x16x128, (broadcastInDim S512x16x128 ![] bcast_S_S512x16x128 (constant S_ .f32 0x00000000#32))⟩] concatenates_S8192x16x128_S512x16x128_S8704x16x128_d0

/-- The reference's result, of its arguments. -/
def refOut (slab : Vec Ideal S8192x24x128 .f32) (g sc sh g2 : Vec Ideal S1x2048 .f32) (Wg Wu : Vec Ideal S4x16x2048x512 .f32)
    (Wd : Vec Ideal S4x16x512x2048 .f32) (grp : Vec Ideal S8192 .i32) : FVec Ideal S8704x16x128 .f32 :=
  padded (result (rows slab) g2 (acts (silus (products (normRows (rows slab) g sc sh) Wg)) (products (normRows (rows slab) g sc sh) Wu)
    (combine slab (onExpert grp))) Wd)

theorem res_eq (m : (ℓ : Loc nD τ sig) → Buf (Elt Ideal) ℓ) (c : Dev nD) : Cert.Reference2Ideal.Value.res_main_v51 (F := Ideal) m c
    = refOut (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) (m ((c.tc : Thread nD τ).loc main_arg13)) := by
  unfold Cert.Reference2Ideal.Value.res_main_v51
  rfl

end Cert.Reference2Ideal.Moe

end
-- ==== Proof.MoeRefValue.lean ====
/- The experts' reference at one element: the sum over all experts, each with its weight for the token. -/
module

public import proofs.«01_k».proof.Proof.MoeRefParts
public import proofs.«01_k».proof.Proof.MoePay
public import Idealize.ShloMosaic.Lib.IdealHost

@[expose] public section

set_option maxRecDepth 16384

noncomputable section

namespace Cert.Reference2Ideal.Moe

open Cert.Reference2Ideal Cert.Reference2Ideal.Gen Idealize.ShloMosaic Idealize.ShloMosaic.TcCoe
open Cert.Kernel2Ideal.Moe (hd ln rowScale normed gated tokenOut)

theorem rows_apply (slab : Vec Ideal S8192x24x128 .f32) (t : Fin 8192) (n : Fin 2048) :
    rows slab (ix2 t n) = slab (ix3 t ⟨n.val / 128, by omega⟩ (ln n)) := by
  pointwise [rows]

theorem normRows_apply (x : FVec Ideal S8192x2048 .f32) (g sc sh : Vec Ideal S1x2048 .f32) (t : Fin 8192) (n : Fin 2048) :
    normRows x g sc sh (ix2 t n) = normed (fun k => x (ix2 t k)) (fun k => g (ix2 0 k)) (fun k => sc (ix2 0 k)) (fun k => sh (ix2 0 k)) n := by
  unfold normed rowScale
  pointwise [normRows]

theorem products_apply (h : FVec Ideal S8192x2048 .f32) (W : Vec Ideal S4x16x2048x512 .f32) (t : Fin 8192) (e : Fin 16) (f : Fin 512) :
    products h W (ix3 t e f) = ∑ k : Fin 2048, h (ix2 t k) * W (ix4 0 e k f) := by
  pointwise [products]

theorem silus_apply (g : FVec Ideal S8192x16x512 .f32) (t : Fin 8192) (e : Fin 16) (f : Fin 512) :
    silus g (ix3 t e f) = g (ix3 t e f) * Ideal.logistic (g (ix3 t e f)) := by
  have h1 : Ideal.ofBits .f32 0x3F800000#32 = 1 := Ideal.ofBits_one_f32
  unfold Ideal.logistic
  rw [← h1]
  pointwise [silus]

theorem acts_apply (g u : FVec Ideal S8192x16x512 .f32) (w : FVec Ideal S8192x16 .f32) (t : Fin 8192) (e : Fin 16) (f : Fin 512) :
    acts g u w (ix3 t e f) = g (ix3 t e f) * u (ix3 t e f) * w (ix2 t e) := by
  pointwise [acts]

theorem combine_apply (slab : Vec Ideal S8192x24x128 .f32) (oh : FVec Ideal S8192x4x16 .f32) (t : Fin 8192) (e : Fin 16) :
    combine slab oh (ix2 t e) = ∑ k : Fin 4, slab (ix3 t 16 ⟨k.val, by omega⟩) * oh (ix3 t k e) := by
  pointwise [combine]

theorem onExpert_apply (grp : Vec Ideal S8192 .i32) (t : Fin 8192) (k : Fin 4) (e : Fin 16) :
    onExpert grp (ix3 t k e) = if grp (ix1 t) * 4#32 + BitVec.ofNat 32 k.val = BitVec.ofNat 32 e.val then 1 else 0 := by
  pointwise [onExpert]
  by_cases h : grp (ix1 t) * 4#32 + BitVec.ofNat 32 k.val = BitVec.ofNat 32 e.val
  · rw [if_pos h]
    have h1 : IntOp.cmpi .eq (IntOp.addi (IntOp.muli (grp (ix1 t)) 4#32) (BitVec.ofNat 32 k.val)) (BitVec.ofNat 32 e.val) = 1#1 := StableHlo.Predicate.cmpi_eq_iff.mpr h
    rw [h1]
    show (((1#1 : BitVec 1).toNat : ℝ) : EReal) = 1
    simp
  · rw [if_neg h]
    have h1 : IntOp.cmpi .eq (IntOp.addi (IntOp.muli (grp (ix1 t)) 4#32) (BitVec.ofNat 32 k.val)) (BitVec.ofNat 32 e.val) = 0#1 :=
      (BitVec.eq_zero_or_eq_one _).resolve_right (fun k => h (StableHlo.Predicate.cmpi_eq_iff.mp k))
    rw [h1]
    show (((0#1 : BitVec 1).toNat : ℝ) : EReal) = 0
    simp

theorem result_apply (x : FVec Ideal S8192x2048 .f32) (g2 : Vec Ideal S1x2048 .f32) (a : FVec Ideal S8192x16x512 .f32) (W : Vec Ideal S4x16x512x2048 .f32)
    (t : Fin 8192) (n : Fin 2048) :
    result x g2 a W (ix2 t n) = x (ix2 t n) + g2 (ix2 0 n) * ∑ e : Fin 16, ∑ f : Fin 512, a (ix3 t e f) * W (ix4 0 e f n) := by
  pointwise [result]

theorem padded_apply (y : FVec Ideal S8192x2048 .f32) (t : Fin 8704) (ht : t.val < 8192) (a : Fin 16) (b : Fin 128) :
    padded y (ix3 t a b) = y (ix2 ⟨t.val, ht⟩ ⟨a.val * 128 + b.val, by omega⟩) := by
  pointwise [padded]
  exact dif_pos ht

/-- A token's weight for an expert: one of its four weights if the expert is of the token's group, else nothing. -/
theorem combine_on (slab : Vec Ideal S8192x24x128 .f32) (grp : Vec Ideal S8192 .i32) (t : Fin 8192) (hg : (grp (ix1 t)).toNat < 4) (s : Fin 4)
    (e : Fin 16) (he : e.val = 4 * (grp (ix1 t)).toNat + s.val) :
    combine slab (onExpert grp) (ix2 t e) = slab (ix3 t 16 ⟨s.val, by omega⟩) := by
  rw [combine_apply]
  refine (Finset.sum_eq_single s ?_ (fun h => absurd (Finset.mem_univ _) h)).trans ?_
  · intro k _ hk
    rw [onExpert_apply, if_neg, mul_zero]
    intro h
    have := congrArg BitVec.toNat h
    rw [BitVec.toNat_add, BitVec.toNat_mul, BitVec.toNat_ofNat, BitVec.toNat_ofNat, BitVec.toNat_ofNat] at this
    exact hk (Fin.ext (by omega))
  · rw [onExpert_apply, if_pos, mul_one]
    apply BitVec.eq_of_toNat_eq
    rw [BitVec.toNat_add, BitVec.toNat_mul, BitVec.toNat_ofNat, BitVec.toNat_ofNat, BitVec.toNat_ofNat]
    omega

theorem combine_off (slab : Vec Ideal S8192x24x128 .f32) (grp : Vec Ideal S8192 .i32) (t : Fin 8192) (hg : (grp (ix1 t)).toNat < 4)
    (e : Fin 16) (he : ∀ s : Fin 4, e.val ≠ 4 * (grp (ix1 t)).toNat + s.val) :
    combine slab (onExpert grp) (ix2 t e) = 0 := by
  rw [combine_apply]
  refine Finset.sum_eq_zero fun k _ => ?_
  rw [onExpert_apply, if_neg, mul_zero]
  intro h
  have := congrArg BitVec.toNat h
  rw [BitVec.toNat_add, BitVec.toNat_mul, BitVec.toNat_ofNat, BitVec.toNat_ofNat, BitVec.toNat_ofNat] at this
  exact he k (by omega)

/-- An expert of a group. -/
abbrev ofGroup (γ : BitVec 32) (hg : γ.toNat < 4) (s : Fin 4) : Fin 16 := ⟨4 * γ.toNat + s.val, by omega⟩

/-- A sum over the sixteen experts whose terms vanish off a group is the sum over the group's four. -/
theorem sum_group (X : Fin 16 → EReal) (γ : BitVec 32) (hg : γ.toNat < 4) (h0 : ∀ e : Fin 16, (∀ s : Fin 4, e.val ≠ 4 * γ.toNat + s.val) → X e = 0) :
    ∑ e : Fin 16, X e = ∑ s : Fin 4, X (ofGroup γ hg s) := by
  refine (Finset.sum_of_injOn (ofGroup γ hg) ?_ (fun _ _ => Finset.mem_coe.mpr (Finset.mem_univ _)) ?_ (fun _ _ => rfl)).symm
  · intro s _ s' _ h
    have := congrArg Fin.val h
    exact Fin.ext (by change 4 * γ.toNat + s.val = 4 * γ.toNat + s'.val at this; omega)
  · intro e _ he
    refine h0 e fun s hs => he ⟨s, Finset.mem_coe.mpr (Finset.mem_univ _), Fin.ext hs.symm⟩

/-- The reference's result at a token's row: what the token's own group of experts gives. -/
theorem refOut_apply (slab : Vec Ideal S8192x24x128 .f32) (g sc sh g2 : Vec Ideal S1x2048 .f32) (Wg Wu : Vec Ideal S4x16x2048x512 .f32)
    (Wd : Vec Ideal S4x16x512x2048 .f32) (grp : Vec Ideal S8192 .i32) (t : Fin 8704) (ht : t.val < 8192) (a : Fin 16) (b : Fin 128)
    (hg : (grp (ix1 ⟨t.val, ht⟩)).toNat < 4) :
    refOut slab g sc sh g2 Wg Wu Wd grp (ix3 t a b)
      = tokenOut (fun k => slab (ix3 ⟨t.val, ht⟩ ⟨k.val / 128, by omega⟩ (ln k))) (fun k => g (ix2 0 k)) (fun k => sc (ix2 0 k)) (fun k => sh (ix2 0 k))
        (fun k => g2 (ix2 0 k)) (fun s k f => Wg (ix4 0 (ofGroup _ hg s) k f)) (fun s k f => Wu (ix4 0 (ofGroup _ hg s) k f))
        (fun s f n => Wd (ix4 0 (ofGroup _ hg s) f n)) (fun s => slab (ix3 ⟨t.val, ht⟩ 16 ⟨s.val, by omega⟩)) ⟨a.val * 128 + b.val, by omega⟩ := by
  unfold refOut tokenOut
  rw [padded_apply _ t ht, result_apply, sum_group _ _ hg]
  · simp only [acts_apply, silus_apply, products_apply, normRows_apply, rows_apply]
    simp only [combine_on slab grp ⟨t.val, ht⟩ hg _ (ofGroup _ hg _) rfl]
    rfl
  · intro e he
    refine Finset.sum_eq_zero fun f _ => ?_
    rw [acts_apply, combine_off slab grp _ hg e he, mul_zero, zero_mul]

end Cert.Reference2Ideal.Moe

end
-- ==== Proof.MoeFinal.lean ====
/- The experts' call and its reference agree at every token's row. -/
module

public import proofs.«01_k».proof.Proof.MoeBlocks
public import proofs.«01_k».proof.Proof.MoeValue
public import proofs.«01_k».proof.Proof.MoeRefValue
public import proofs.«01_k».proof.Proof.Gen.On_token_rows

@[expose] public section

set_option maxRecDepth 16384

noncomputable section

namespace Cert.Kernel2Ideal.Moe

open Cert.Kernel2Ideal Cert.Kernel2Ideal.Gen Idealize.ShloMosaic Idealize.ShloMosaic.TcCoe
open Cert.Reference2Ideal.Moe (refOut refOut_apply ofGroup)

variable (m : (ℓ : Loc nD τ sig) → Buf (Elt Ideal) ℓ)

/-- The result at a token's row is the reference's. -/
theorem final (R : Routes m) (c : Dev nD) (t : Fin 8704) (ht : t.val < 8192) (a : Fin 16) (b : Fin 128) :
    OUT (Dm m (ok_routes m R) c) ((V m (0 : Dev nD) main_arg1 : S1.Idx → BitVec 32) (ix1 0)).toNat (ix3 t a b)
      = refOut (V m c main_arg4) (V m c main_arg5) (V m c main_arg6) (V m c main_arg7) (V m c main_arg8) (V m c main_arg9) (V m c main_arg10)
        (V m c main_arg11) (V m c main_arg13) (ix3 t a b) := by
  obtain rfl : c = 0 := Subsingleton.elim _ _
  have hO := ok_routes m R
  have hd := R.dest_lt ⟨t.val, ht⟩
  obtain ⟨p, hp⟩ : ∃ p : Fin 10240, p.val = ((V m (0 : Dev nD) main_arg12 : S8192.Idx → BitVec 32) (ix1 ⟨t.val, ht⟩)).toNat := ⟨⟨_, hd⟩, rfl⟩
  obtain ⟨q, hq⟩ : ∃ q : Fin 20, q.val = p.val / 512 := ⟨⟨p.val / 512, by have := p.isLt; omega⟩, rfl⟩
  obtain ⟨j, hj⟩ : ∃ j : Fin 512, j.val = p.val % 512 := ⟨⟨p.val % 512, by omega⟩, rfl⟩
  have hpqj : p.val = 512 * q.val + j.val := by omega
  obtain ⟨h1, h2, h3, h4⟩ := R.here ⟨t.val, ht⟩ q j p hpqj hp.symm
  have hg : ((V m (0 : Dev nD) main_arg13 : S8192.Idx → BitVec 32) (ix1 ⟨t.val, ht⟩)).toNat < 4 := by rw [← h4]; exact R.gd_lt q
  have hsrc : rowOf (Dm m (ok_routes m R) 0).src q.val j.val = (⟨t.val, ht⟩ : Fin 8192).val := by
    have e : (Fin.ofNat 10240 (512 * q.val + j.val) : Fin 10240) = p := Fin.ext ((Nat.mod_eq_of_lt (by have := p.isLt; omega)).trans hpqj.symm)
    unfold rowOf
    rw [e]
    exact h1
  have hγ : (V m (0 : Dev nD) main_arg0 : S20.Idx → BitVec 32) (ix1 (Fin.ofNat 20 q.val)) = (V m (0 : Dev nD) main_arg13 : S8192.Idx → BitVec 32) (ix1 ⟨t.val, ht⟩) := by
    have e : (Fin.ofNat 20 q.val : Fin 20) = q := Fin.ext (Nat.mod_eq_of_lt q.isLt)
    rw [e]
    exact h4
  have he := fun s : Fin 4 => expertAt_used m R q.val h3 s _ hγ
  refine (OUT_token (Dm m (ok_routes m R) 0) _ _ _ _ R ⟨t.val, ht⟩ a b q.val j (hp.symm.trans hpqj)).trans ?_
  rw [OB_apply (Dm m (ok_routes m R) 0) q.val j ⟨t.val, ht⟩ hsrc a b, refOut_apply _ _ _ _ _ _ _ _ _ t ht a b hg]
  have r0 : (fun k : Fin 2048 => (Dm m (ok_routes m R) 0).g (ix2 0 k)) = fun k => V m (0 : Dev nD) main_arg5 (ix2 0 k) := funext fun k => row0 m _ 0 k
  have r1 : (fun k : Fin 2048 => (Dm m (ok_routes m R) 0).sc (ix2 0 k)) = fun k => V m (0 : Dev nD) main_arg6 (ix2 0 k) := funext fun k => row1 m _ 0 k
  have r2 : (fun k : Fin 2048 => (Dm m (ok_routes m R) 0).sh (ix2 0 k)) = fun k => V m (0 : Dev nD) main_arg7 (ix2 0 k) := funext fun k => row2 m _ 0 k
  have r3 : (fun k : Fin 2048 => (Dm m (ok_routes m R) 0).g2 (ix2 0 k)) = fun k => V m (0 : Dev nD) main_arg8 (ix2 0 k) := funext fun k => row3 m _ 0 k
  have r4 : (fun (s : Fin 4) (k : Fin 2048) (f : Fin 512) => (Dm m (ok_routes m R) 0).Wg q.val s.val (ix4 0 0 k f))
      = fun s k f => V m (0 : Dev nD) main_arg9 (ix4 0 (ofGroup _ hg s) k f) :=
    funext fun s => funext fun k => funext fun f => gate_block m (ok_routes m R) 0 (ptN q.val s.val) (ofGroup _ hg s) (he s) k f
  have r5 : (fun (s : Fin 4) (k : Fin 2048) (f : Fin 512) => (Dm m (ok_routes m R) 0).Wu q.val s.val (ix4 0 0 k f))
      = fun s k f => V m (0 : Dev nD) main_arg10 (ix4 0 (ofGroup _ hg s) k f) :=
    funext fun s => funext fun k => funext fun f => up_block m (ok_routes m R) 0 (ptN q.val s.val) (ofGroup _ hg s) (he s) k f
  have r6 : (fun (s : Fin 4) (f : Fin 512) (n : Fin 2048) => (Dm m (ok_routes m R) 0).Wd q.val s.val (ix4 0 0 f n))
      = fun s f n => V m (0 : Dev nD) main_arg11 (ix4 0 (ofGroup _ hg s) f n) :=
    funext fun s => funext fun f => funext fun n => down_block m (ok_routes m R) 0 (ptN q.val s.val) (ofGroup _ hg s) (he s) f n
  rw [r0, r1, r2, r3, r4, r5, r6]
  rfl

/-- The rows the claim selects are the tokens'. -/
theorem selected (a0 : IVec S20 32) (a1 : IVec S1 32) (a2 : IVec S20 32) (a3 : IVec S10240 32) (a4 : FVec Ideal S8192x24x128 .f32)
    (a5 a6 a7 a8 : FVec Ideal S1x2048 .f32) (a9 a10 : FVec Ideal S4x16x2048x512 .f32) (a11 : FVec Ideal S4x16x512x2048 .f32) (a12 a13 : IVec S8192 32)
    (t : Fin 8704) (a : Fin 16) (b : Fin 128)
    (h : Cert.On_token_rows.fn (F := Ideal) a0 a1 a2 a3 a4 a5 a6 a7 a8 a9 a10 a11 a12 a13 (ix3 t a b) = 1#1) : t.val < 8192 := by
  have h' : IntOp.cmpi .slt (BitVec.ofNat 32 t.val) 8192#32 = 1#1 := h
  have h2 := (Idealize.ShloMosaic.StableHlo.Predicate.ofBool_eq_one_iff _).1 h'
  simp only [BitVec.slt, BitVec.toInt_eq_toNat_cond, decide_eq_true_eq, BitVec.toNat_ofNat] at h2
  omega

end Cert.Kernel2Ideal.Moe

end
-- ==== Proof.MoeBits.lean ====
/- The experts' call printed for bit patterns is the program its proof is about. -/
module

public import proofs.«01_k».proof.Kernel2
public import proofs.«01_k».proof.Proof.Gen.Kernel2
public import proofs.«01_k».proof.Proof.MoeOut

@[expose] public section

set_option maxRecDepth 16384

noncomputable section

namespace Cert.Kernel2.Moe

open Idealize.ShloMosaic Idealize.ShloMosaic.TcCoe Idealize.SL.Sem

variable {F : FTy → Type} [FloatOps F] [∀ e, Nonempty (Elt F e)]

attribute [local instance] Cert.Kernel2.Gen.facts Cert.Kernel2Ideal.Gen.facts

theorem body_same : @Cert.Kernel2.cc0_moe_experts F _ _ = @Cert.Kernel2Ideal.cc0_moe_experts F _ _ := by rfl

theorem bodies_same : (Cert.Kernel2.defs₀ (F := F)) = Cert.Kernel2Ideal.defs₀ (F := F) := by
  unfold Cert.Kernel2.defs₀ Cert.Kernel2Ideal.defs₀
  refine congrArg Defs.onTc ?_
  funext l a
  match l, a with
  | ⟨0, _⟩, (t, s) => rfl

theorem defs_same : (Cert.Kernel2.defs (F := F)) = Cert.Kernel2Ideal.defs (F := F) := by
  unfold Cert.Kernel2.defs Cert.Kernel2Ideal.defs
  exact congrArg (Pipeline.defs Cert.Kernel2Ideal.pcfgs) bodies_same

theorem main_same : (Cert.Kernel2.main (F := F)) = Cert.Kernel2Ideal.main (F := F) := by rfl

/-- So a run of the one is a run of the other. -/
theorem run_same (m : (ℓ : Loc Cert.Kernel2.nD Cert.Kernel2.τ Cert.Kernel2.sig) → Buf (Elt F) ℓ) (ρ : Dev Cert.Kernel2.nD → PrngReg)
    (Q : _ → Prop)
    (h : θ_run (Cert.Kernel2Ideal.defs (F := F)) (onTc (τ := Cert.Kernel2Ideal.τ) (Cert.Kernel2Ideal.main (F := F))) ⟨m, fun _ => 0, ρ⟩ Q) :
    θ_run (Cert.Kernel2.defs (F := F)) (onTc (τ := Cert.Kernel2.τ) (Cert.Kernel2.main (F := F))) ⟨m, fun _ => 0, ρ⟩ Q := by
  rw [defs_same, main_same]
  exact h

end Cert.Kernel2.Moe

end
-- ==== Proof.ResidualRef.lean ====
/- The reference of a layer's last projection: the row, and the gate times the projected row with its bias. -/
module

public import proofs.«01_k».proof.Proof.Gen.Reference3Ideal.Run
public import Idealize.ShloMosaic.Lib.Pointwise

@[expose] public section

set_option maxRecDepth 16384

noncomputable section

namespace Cert.Reference3Ideal.Res

open Cert.Reference3Ideal Cert.Reference3Ideal.Gen Idealize.ShloMosaic

/-- What the reference returns. -/
def refOut (a : FVec Ideal S8192x2048 .f32) (w : FVec Ideal S2048x2048 .f32) (b : FVec Ideal S2048 .f32) (x : FVec Ideal S8192x2048 .f32)
    (g : FVec Ideal S1x2048 .f32) : FVec Ideal S8192x2048 .f32 :=
  addf x (mulf (broadcastInDim S8192x2048 ![0, 1] bcast_S1x2048_S8192x2048_0_1 g)
    (addf (Host.dotGeneral dot_S8192x2048_S2048x2048_S8192x2048_1_0_0_1_n_n none a w)
      (broadcastInDim S8192x2048 ![0, 1] bcast_S1x2048_S8192x2048_0_1 (broadcastInDim S1x2048 ![1] bcast_S2048_S1x2048_1 b))))

theorem refOut_apply (a : FVec Ideal S8192x2048 .f32) (w : FVec Ideal S2048x2048 .f32) (b : FVec Ideal S2048 .f32) (x : FVec Ideal S8192x2048 .f32)
    (g : FVec Ideal S1x2048 .f32) (i : Fin 8192) (n : Fin 2048) :
    refOut a w b x g (ix2 i n) = x (ix2 i n) + g (ix2 0 n) * (∑ k : Fin 2048, a (ix2 i k) * w (ix2 k n) + b (ix1 n)) := by
  pointwise [refOut]

end Cert.Reference3Ideal.Res

end
-- ==== Proof.ResidualValue.lean ====
/- A layer's last projection: the kernel's final array is the row plus the gate times the projected row with its bias. -/
module

public import proofs.«01_k».proof.Proof.Gen.Kernel3Ideal.Value
public import proofs.«01_k».proof.Proof.ResidualRef
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Kernel3Ideal.Res

open Cert.Kernel3Ideal Cert.Kernel3Ideal.Gen Idealize.ShloMosaic Idealize.ShloMosaic.TcCoe Idealize.SL.Sem Idealize.ShloMosaic.StableHlo

/-- What a grid point stores, at an element. -/
theorem pay1_apply (a : Vec Ideal S1024x2048 .bf16) (w : Vec Ideal S2048x512 .f32) (b : Vec Ideal S1x512 .f32) (x : Vec Ideal S1024x512 .f32)
    (g : Vec Ideal S1x512 .f32) (r : Fin 1024) (n : Fin 512) :
    k0_pay1 a w b x g (ix2 r n) = x (ix2 r n) + g (ix2 0 n) * (∑ k : Fin 2048, a (ix2 r k) * w (ix2 k n) + b (ix2 0 n)) := by
  pointwise [k0_pay1]

/-- The grid point's store covers its block. -/
theorem out_eq (a : Vec Ideal S1024x2048 .bf16) (w : Vec Ideal S2048x512 .f32) (b : Vec Ideal S1x512 .f32) (x : Vec Ideal S1024x512 .f32)
    (g : Vec Ideal S1x512 .f32) : out0_5 a w b x g = k0_pay1 a w b x g := by
  have h : ∀ d : Fin 2, (![0, 0] : Fin 2 → ℕ) d = 0 := by decide
  unfold out0_5
  refine (View.canon_cons_unit_lit' _ _ _ h).trans ?_
  rw [View.ld_unit_lit' _ a h, View.ld_unit_lit' _ w h, View.ld_unit_lit' _ b h, View.ld_unit_lit' _ x h, View.ld_unit_lit' _ g h]

/-- The projected rows as the kernel reads them. -/
def short (a : FVec Ideal S8192x2048 .f32) : FVec Ideal S8192x2048 .bf16 := truncf (s := S8192x2048) .bf16 a bitsLt_bf16_f32

theorem short_apply (a : FVec Ideal S8192x2048 .f32) (i : Fin 8192) (k : Fin 2048) : short a (ix2 i k) = a (ix2 i k) := by
  pointwise [short]

variable (m : (ℓ : Loc nD τ sig) → Buf (Elt Ideal) ℓ)

theorem V_a (c : Dev nD) : V m c main_v0 = short (m ((c : Thread nD τ).loc main_arg0)) := by
  unfold V hostOps0
  after_reads_simp
  rfl

theorem V_b (c : Dev nD) : V m c main_v1 = shapeCast S1x2048 (m ((c : Thread nD τ).loc main_arg2)) shapeCasts_S2048_S1x2048 := by
  unfold V hostOps0
  after_reads_simp
  rfl

theorem V_b_apply (c : Dev nD) (n : Fin 2048) :
    (V m c main_v1 : Vec Ideal S1x2048 .f32) (ix2 0 n) = (m ((c : Thread nD τ).loc main_arg2) : Vec Ideal S2048 .f32) (ix1 n) := by
  rw [V_b]
  pointwise

theorem index0 : ∀ t : Fin cfg0.N, win0_0.index t = ![(grid0.coords t 0).val, 0] :=
  (by decide +kernel : ∀ t : Fin grid0.N, _)
theorem index1 : ∀ t : Fin cfg0.N, win0_1.index t = ![0, (grid0.coords t 1).val] :=
  (by decide +kernel : ∀ t : Fin grid0.N, _)
theorem index2 : ∀ t : Fin cfg0.N, win0_2.index t = ![0, (grid0.coords t 1).val] :=
  (by decide +kernel : ∀ t : Fin grid0.N, _)
theorem index3 : ∀ t : Fin cfg0.N, win0_3.index t = ![(grid0.coords t 0).val, (grid0.coords t 1).val] :=
  (by decide +kernel : ∀ t : Fin grid0.N, _)
theorem index4 : ∀ t : Fin cfg0.N, win0_4.index t = ![0, (grid0.coords t 1).val] :=
  (by decide +kernel : ∀ t : Fin grid0.N, _)
theorem index5 : ∀ t : Fin cfg0.N, win0_5.index t = ![(grid0.coords t 0).val, (grid0.coords t 1).val] :=
  (by decide +kernel : ∀ t : Fin grid0.N, _)

/-- The row of the array at a row of a grid point's block. -/
def rowOf (t : Fin cfg0.N) (r : Fin 1024) : Fin 8192 :=
  ⟨(grid0.coords t 0).val * 1024 + r.val, by have : (grid0.coords t 0).val < 8 := (grid0.coords t 0).isLt; omega⟩

/-- The column of the array at a column of a grid point's block. -/
def colOf (t : Fin cfg0.N) (n : Fin 512) : Fin 2048 :=
  ⟨(grid0.coords t 1).val * 512 + n.val, by have : (grid0.coords t 1).val < 4 := (grid0.coords t 1).isLt; omega⟩

theorem block0 (c : Dev nD) (t : Fin cfg0.N) (r : Fin 1024) (k : Fin 2048) :
    (iblk m c 0 t : Vec Ideal S1024x2048 .bf16) (ix2 r k) = (m ((c : Thread nD τ).loc main_arg0) : Vec Ideal S8192x2048 .f32) (ix2 (rowOf t r) k) := by
  refine Eq.trans ?_ ((congrFun (V_a m c) (ix2 (rowOf t r) k)).trans (short_apply _ _ _))
  blk_simp [iblk]
  refine congrArg (V m c main_v0) ?_
  funext a
  refine Fin.ext ?_
  match a with
  | ⟨0, _⟩ => blk_simp [index0]; rfl
  | ⟨1, _⟩ => blk_simp [index0]

theorem block1 (c : Dev nD) (t : Fin cfg0.N) (k : Fin 2048) (n : Fin 512) :
    (iblk m c 1 t : Vec Ideal S2048x512 .f32) (ix2 k n) = (m ((c : Thread nD τ).loc main_arg1) : Vec Ideal S2048x2048 .f32) (ix2 k (colOf t n)) := by
  rw [← V_main_arg1 m c]
  blk_simp [iblk]
  refine congrArg (V m c main_arg1) ?_
  funext a
  refine Fin.ext ?_
  match a with
  | ⟨0, _⟩ => blk_simp [index1]
  | ⟨1, _⟩ => blk_simp [index1]; rfl

theorem block2 (c : Dev nD) (t : Fin cfg0.N) (n : Fin 512) :
    (iblk m c 2 t : Vec Ideal S1x512 .f32) (ix2 0 n) = (m ((c : Thread nD τ).loc main_arg2) : Vec Ideal S2048 .f32) (ix1 (colOf t n)) := by
  rw [← V_b_apply m c]
  blk_simp [iblk]
  refine congrArg (V m c main_v1) ?_
  funext a
  refine Fin.ext ?_
  match a with
  | ⟨0, _⟩ => blk_simp [index2]
  | ⟨1, _⟩ => blk_simp [index2]; rfl

theorem block3 (c : Dev nD) (t : Fin cfg0.N) (r : Fin 1024) (n : Fin 512) :
    (iblk m c 3 t : Vec Ideal S1024x512 .f32) (ix2 r n) = (m ((c : Thread nD τ).loc main_arg3) : Vec Ideal S8192x2048 .f32) (ix2 (rowOf t r) (colOf t n)) := by
  rw [← V_main_arg3 m c]
  blk_simp [iblk]
  refine congrArg (V m c main_arg3) ?_
  funext a
  refine Fin.ext ?_
  match a with
  | ⟨0, _⟩ => blk_simp [index3]; rfl
  | ⟨1, _⟩ => blk_simp [index3]; rfl

theorem block4 (c : Dev nD) (t : Fin cfg0.N) (n : Fin 512) :
    (iblk m c 4 t : Vec Ideal S1x512 .f32) (ix2 0 n) = (m ((c : Thread nD τ).loc main_arg4) : Vec Ideal S1x2048 .f32) (ix2 0 (colOf t n)) := by
  rw [← V_main_arg4 m c]
  blk_simp [iblk]
  refine congrArg (V m c main_arg4) ?_
  funext a
  refine Fin.ext ?_
  match a with
  | ⟨0, _⟩ => blk_simp [index4]
  | ⟨1, _⟩ => blk_simp [index4]; rfl

/-- The kernel's final array is the reference's result. -/
theorem final (c : Dev nD) :
    (dats m 0 c).arrAt 5 cfg0.N = Cert.Reference3Ideal.Res.refOut (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out_eq]
  obtain ⟨r, n, rfl⟩ : ∃ (r : Fin 1024) (n : Fin 512), y = ix2 r n := ⟨y 0, y 1, eq_ix2 y⟩
  rw [pay1_apply]
  simp only [block0, block1, block2, block3, block4]
  refine (Cert.Reference3Ideal.Res.refOut_apply _ _ _ _ _ (rowOf t r) (colOf t n)).symm.trans ?_
  refine congrArg (Cert.Reference3Ideal.Res.refOut _ _ _ _ _) ?_
  funext a
  refine Fin.ext ?_
  match a with
  | ⟨0, _⟩ => blk_simp [index5]; rfl
  | ⟨1, _⟩ => blk_simp [index5]; rfl

end Cert.Kernel3Ideal.Res

end
-- ==== Proof.LastNormRef.lean ====
/- The reference of the layer's last step: the first rows of the array, laid out flat, normalized and scaled. -/
module

public import proofs.«01_k».proof.Proof.Gen.Reference4Ideal.Run
public import proofs.«01_k».proof.Proof.MoePay
public import Idealize.ShloMosaic.Lib.Pointwise

@[expose] public section

set_option maxRecDepth 16384

noncomputable section

namespace Cert.Reference4Ideal.Last

open Cert.Reference4Ideal Cert.Reference4Ideal.Gen Idealize.ShloMosaic Cert.Kernel2Ideal.Moe

/-- The rows, laid out flat. -/
def rows (x : FVec Ideal S8704x16x128 .f32) : FVec Ideal S8192x2048 .f32 :=
  shapeCast S8192x2048 (extractStridedSlice S8192x16x128 ![0, 0, 0] x slices_S8704x16x128_S8192x16x128_0_0_0) shapeCasts_S8192x16x128_S8192x2048

/-- Rows normalized and scaled. -/
def scaled (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- What the reference returns. -/
def refOut (x : FVec Ideal S8704x16x128 .f32) (g : FVec Ideal S2048 .f32) : FVec Ideal S8192x2048 .f32 := scaled (rows x) g

theorem rows_apply (x : FVec Ideal S8704x16x128 .f32) (i : Fin 8192) (n : Fin 2048) :
    rows x (ix2 i n) = x (ix3 ⟨i.val, by omega⟩ (hd n) (ln n)) := by
  pointwise [rows]

theorem scaled_apply (x : FVec Ideal S8192x2048 .f32) (g : FVec Ideal S2048 .f32) (i : Fin 8192) (n : Fin 2048) :
    scaled x g (ix2 i n) = x (ix2 i n) * rowScale (fun k => x (ix2 i k)) * g (ix1 n) := by
  unfold rowScale
  pointwise [scaled]

theorem refOut_apply (x : FVec Ideal S8704x16x128 .f32) (g : FVec Ideal S2048 .f32) (i : Fin 8192) (n : Fin 2048) :
    refOut x g (ix2 i n) = x (ix3 ⟨i.val, by omega⟩ (hd n) (ln n)) * rowScale (fun k => x (ix3 ⟨i.val, by omega⟩ (hd k) (ln k))) * g (ix1 n) := by
  unfold refOut
  rw [scaled_apply]
  simp only [rows_apply]

end Cert.Reference4Ideal.Last

end
-- ==== Proof.LastNormValue.lean ====
/- The layer's last step: the kernel's final array is the rows laid out flat, normalized and scaled. -/
module

public import proofs.«01_k».proof.Proof.Gen.Kernel4Ideal.Value
public import proofs.«01_k».proof.Proof.LastNormRef
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Kernel4Ideal.Last

open Cert.Kernel4Ideal Cert.Kernel4Ideal.Gen Idealize.ShloMosaic Idealize.ShloMosaic.TcCoe Idealize.SL.Sem Idealize.ShloMosaic.StableHlo
open Cert.Kernel2Ideal.Moe (hd ln rowScale)

/-- What a grid point stores, at an element. -/
theorem pay1_apply (x : Vec Ideal S512x16x128 .f32) (g : Vec Ideal S1x2048 .f32) (r : Fin 512) (n : Fin 2048) :
    k0_pay1 x g (ix2 r n) = x (ix3 r (hd n) (ln n)) * rowScale (fun k => x (ix3 r (hd k) (ln k))) * g (ix2 0 n) := by
  unfold rowScale
  pointwise [k0_pay1]

/-- The grid point's store covers its block. -/
theorem out_eq (x : Vec Ideal S512x16x128 .f32) (g : Vec Ideal S1x2048 .f32) : out0_2 x g = k0_pay1 x g := by
  have h : ∀ d : Fin 2, (![0, 0] : Fin 2 → ℕ) d = 0 := by decide
  have h3 : ∀ d : Fin 3, (![0, 0, 0] : Fin 3 → ℕ) d = 0 := by decide
  unfold out0_2
  refine (View.canon_cons_unit_lit' _ _ _ h).trans ?_
  rw [View.ld_unit_lit' _ x h3, View.ld_unit_lit' _ g h]

variable (m : (ℓ : Loc nD τ sig) → Buf (Elt Ideal) ℓ)

theorem V_g (c : Dev nD) : V m c main_v0 = shapeCast S1x2048 (m ((c : Thread nD τ).loc main_arg1)) shapeCasts_S2048_S1x2048 := by
  unfold V hostOps0
  after_reads_simp
  rfl

theorem V_g_apply (c : Dev nD) (n : Fin 2048) :
    (V m c main_v0 : Vec Ideal S1x2048 .f32) (ix2 0 n) = (m ((c : Thread nD τ).loc main_arg1) : Vec Ideal S2048 .f32) (ix1 n) := by
  rw [V_g]
  pointwise

theorem index0 : ∀ t : Fin cfg0.N, win0_0.index t = ![(grid0.coords t 0).val, 0, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![(grid0.coords t 0).val, 0] :=
  (by decide +kernel : ∀ t : Fin grid0.N, _)

/-- The row of the array at a row of a grid point's block. -/
def rowOf (t : Fin cfg0.N) (r : Fin 512) : Fin 8192 :=
  ⟨(grid0.coords t 0).val * 512 + r.val, by have : (grid0.coords t 0).val < 16 := (grid0.coords t 0).isLt; omega⟩

theorem block0 (c : Dev nD) (t : Fin cfg0.N) (r : Fin 512) (a : Fin 16) (b : Fin 128) :
    (iblk m c 0 t : Vec Ideal S512x16x128 .f32) (ix3 r a b)
      = (m ((c : Thread nD τ).loc main_arg0) : Vec Ideal S8704x16x128 .f32) (ix3 ⟨(rowOf t r).val, by omega⟩ a b) := by
  rw [← V_main_arg0 m c]
  blk_simp [iblk]
  refine congrArg (V m c main_arg0) ?_
  funext a
  refine Fin.ext ?_
  match a with
  | ⟨0, _⟩ => blk_simp [index0]; rfl
  | ⟨1, _⟩ => blk_simp [index0]
  | ⟨2, _⟩ => blk_simp [index0]

theorem block1 (c : Dev nD) (t : Fin cfg0.N) (n : Fin 2048) :
    (iblk m c 1 t : Vec Ideal S1x2048 .f32) (ix2 0 n) = (m ((c : Thread nD τ).loc main_arg1) : Vec Ideal S2048 .f32) (ix1 n) := by
  rw [← V_g_apply m c]
  blk_simp [iblk]
  refine congrArg (V m c main_v0) ?_
  funext a
  refine Fin.ext ?_
  match a with
  | ⟨0, _⟩ => blk_simp [index1]
  | ⟨1, _⟩ => blk_simp [index1]

/-- The kernel's final array is the reference's result. -/
theorem final (c : Dev nD) :
    (dats m 0 c).arrAt 2 cfg0.N = Cert.Reference4Ideal.Last.refOut (m ((c : Thread nD τ).loc main_arg0)) (m ((c : Thread nD τ).loc main_arg1)) := by
  refine (dats m 0 c).arrAt_eq_of_covers 2 _ (by decide +kernel) fun t hf y => ?_
  blk_simp
  rw [after0_2, out_eq]
  obtain ⟨r, n, rfl⟩ : ∃ (r : Fin 512) (n : Fin 2048), y = ix2 r n := ⟨y 0, y 1, eq_ix2 y⟩
  rw [pay1_apply]
  simp only [block0, block1]
  refine (Cert.Reference4Ideal.Last.refOut_apply _ _ (rowOf t r) n).symm.trans ?_
  refine congrArg (Cert.Reference4Ideal.Last.refOut _ _) ?_
  funext a
  refine Fin.ext ?_
  match a with
  | ⟨0, _⟩ => blk_simp [index2]; rfl
  | ⟨1, _⟩ => blk_simp [index2]

end Cert.Kernel4Ideal.Last

end
-- ==== Proof.GluLoop.lean ====
/- The first half of the convolution's mixer: what the loop over slices of rows leaves in the scratch. -/
module

public import proofs.«01_k».proof.Proof.Gen.Kernel5Ideal.Frame
public import proofs.«01_k».proof.Proof.MoePay
public import Idealize.ShloMosaic.Lib.Pointwise

@[expose] public section

set_option maxRecDepth 16384

noncomputable section

namespace Cert.Kernel5Ideal.Glu

open Idealize.ShloMosaic Cert.Kernel5Ideal Cert.Kernel5Ideal.Gen
open Cert.Kernel2Ideal.Moe (normed rowScale)

/-- What a trip stores, at an element. -/
theorem pay1_apply (g sc sh : Vec Ideal S1x2048 .f32) (x : Vec Ideal S32x2048 .f32) (r : Fin 32) (n : Fin 2048) :
    k0_pay1 g sc sh x (ix2 r n) = normed (fun k => x (ix2 r k)) (fun k => g (ix2 0 k)) (fun k => sc (ix2 0 k)) (fun k => sh (ix2 0 k)) n := by
  unfold normed rowScale
  pointwise [k0_pay1]

/-- What a grid point stores, at an element. -/
theorem pay2_apply (h : Vec Ideal S1024x2048 .bf16) (wa : Vec Ideal S2048x512 .f32) (ba : Vec Ideal S1x512 .f32) (wb : Vec Ideal S2048x512 .f32)
    (bb : Vec Ideal S1x512 .f32) (r : Fin 1024) (n : Fin 512) :
    k0_pay2 h wa ba wb bb (ix2 r n) = (∑ k : Fin 2048, h (ix2 r k) * wa (ix2 k n) + ba (ix2 0 n))
      * Ideal.logistic (∑ k : Fin 2048, h (ix2 r k) * wb (ix2 k n) + bb (ix2 0 n)) := by
  pointwise [k0_pay2]

theorem trips_eq : k0_t1_loop.trips = 32 := by decide +kernel

/-- A trip's slice starts at row `32 k`. -/
theorem off1_eq : ∀ k : Fin k0_t1_loop.trips, k0_off1 k = ![32 * k.val, 0] := by decide +kernel

/-- The block of rows normalized, scaled and shifted. -/
def hblk (x : Vec Ideal S1024x2048 .f32) (g sc sh : Vec Ideal S1x2048 .f32) : Vec Ideal S1024x2048 .bf16 := fun y =>
  normed (fun k => x (ix2 (y 0) k)) (fun k => g (ix2 0 k)) (fun k => sc (ix2 0 k)) (fun k => sh (ix2 0 k)) (y 1)

section
variable (𝒱 : Variants) (c : Dev nD) (bd : Option 𝒱.V) (i : grid0.Coords) (arg2 : Memref sig .tc .vmem S1024x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S1x2048 .f32) (harg5 : arg5.IsWhole) (arg6 : Memref sig .tc .vmem S2048x512 .f32) (harg6 : arg6.IsWhole)
  (arg7 : Memref sig .tc .vmem S2048x512 .f32) (harg7 : arg7.IsWhole) (arg8 : Memref sig .tc .vmem S1x512 .f32) (harg8 : arg8.IsWhole)
  (arg9 : Memref sig .tc .vmem S1x512 .f32) (harg9 : arg9.IsWhole) (arg10 : Memref sig .tc .vmem S1024x512 .f32) (harg10 : arg10.IsWhole)
  (arg11 : Memref sig .tc .vmem S1024x2048 .bf16) (harg11 : arg11.IsWhole) (h1 : k0_cond1 i = 1#1) (g sc sh : Vec Ideal S1x2048 .f32)
  (X : BufTy.Contents (Elt Ideal) arg2.view.ty)

/-- A trip's piece holds the block's rows at its place. -/
theorem piece_eq (k : Fin k0_t1_loop.trips) (inb inb') (x : S32x2048.Idx) :
    k0_pay1 g sc sh (arg2.view.readAt (Elt Ideal) (Rect.unit (s := S1024x2048) (k0_off1 k) ![32, 2048] inb).toLoadRect X) x
      = hblk (arg2.view.read (Elt Ideal) X) g sc sh ((Rect.unit (s := S1024x2048) (k0_off1 k) ![32, 2048] inb').emb x) := by
  obtain ⟨r, n, rfl⟩ : ∃ (r : Fin 32) (n : Fin 2048), x = ix2 r n := ⟨x 0, x 1, eq_ix2 x⟩
  have hk : k.val < 32 := Nat.lt_of_lt_of_eq k.isLt trips_eq
  have e : ∀ (n : Fin 2048), (Rect.unit (s := S1024x2048) (k0_off1 k) ![32, 2048] inb').emb (ix2 r n) = ix2 ⟨32 * k.val + r.val, by omega⟩ n := by
    intro n
    funext a
    apply Fin.ext
    refine (congrArg (· + 1 * (ix2 r n a).val) (congrFun (off1_eq k) a)).trans ?_
    match a with
    | ⟨0, _⟩ => change 32 * k.val + 1 * r.val = 32 * k.val + r.val; omega
    | ⟨1, _⟩ => change 0 + 1 * n.val = n.val; omega
  rw [pay1_apply, e]
  unfold hblk
  have hr : ∀ j : Fin 2048, arg2.view.readAt (Elt Ideal) (Rect.unit (s := S1024x2048) (k0_off1 k) ![32, 2048] inb).toLoadRect X (ix2 r j)
      = arg2.view.read (Elt Ideal) X (ix2 ⟨32 * k.val + r.val, by omega⟩ j) := by
    intro j
    rw [View.readAt_apply]
    exact congrArg _ (e j)
  simp only [hr]
  rfl

/-- Every piece of the loop holds the block's rows at its place. -/
theorem pieces (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 arg10 harg10 arg11 harg11
      h1 g sc sh X n, ∀ x : p.1.shape.Idx, p.2 x = hblk (arg2.view.read (Elt Ideal) X) g sc sh (p.1.emb x) := by
  induction n with
  | zero =>
    intro p hp
    rw [pb_k0_t1.eq_1] at hp
    exact absurd hp List.not_mem_nil
  | succ n ih =>
    have hk := pb_k0_t1_succ (F := Ideal) 𝒱 c bd i arg2 harg2 arg3 harg3 arg4 harg4 arg5 harg5 arg6 harg6 arg7 harg7 arg8 harg8 arg9 harg9 arg10 harg10
      arg11 harg11 h1 g sc sh X ⟨n, by omega⟩
    dsimp only at hk
    intro p hp
    rw [hk, List.mem_append] at hp
    rcases hp with hp | hp
    · unfold tripL_k0_t1 trip_k0_t1 at hp
      dsimp only at hp
      simp only [List.mem_cons, List.not_mem_nil, or_false] at hp
      subst hp
      intro x
      exact piece_eq arg2 g sc sh X ⟨n, by omega⟩ (k0_off1_inb i ⟨n, by omega⟩ h1) (k0_off1_inb i ⟨n, by omega⟩ h1) x
    · exact ih (by omega) p hp

/-- The loop's pieces cover the scratch. -/
theorem covers (y : S1024x2048.Idx) :
    ∃ p ∈ pb_k0_t1 (F := Ideal) 𝒱 c bd i arg2 harg2 arg3 harg3 arg4 harg4 arg5 harg5 arg6 harg6 arg7 harg7 arg8 harg8 arg9 harg9 arg10 harg10 arg11 harg11
      h1 g sc sh X k0_t1_loop.trips, y ∈ p.1.set :=
  View.cover_of_tiledL (pb_k0_t1 (F := Ideal) 𝒱 c bd i arg2 harg2 arg3 harg3 arg4 harg4 arg5 harg5 arg6 harg6 arg7 harg7 arg8 harg8 arg9 harg9 arg10 harg10
    arg11 harg11 h1 g sc sh X k0_t1_loop.trips) S32x2048.size (by sl_kernel_rfl) y

/-- What is read of any view after the loop's stores. -/
theorem loop_read {κ : Kind} {sp : Space} (v : View sig κ sp S1024x2048 .bf16) (f : BufTy.Contents (Elt Ideal) v.ty) (y : S1024x2048.Idx) :
    v.read (Elt Ideal) (v.writes (Elt Ideal) f (pb_k0_t1 (F := Ideal) 𝒱 c bd i arg2 harg2 arg3 harg3 arg4 harg4 arg5 harg5 arg6 harg6 arg7 harg7 arg8 harg8
      arg9 harg9 arg10 harg10 arg11 harg11 h1 g sc sh X k0_t1_loop.trips)) y = hblk (arg2.view.read (Elt Ideal) X) g sc sh y :=
  View.read_writes_apply_of_pieces v f _ _ (pieces 𝒱 c bd i arg2 harg2 arg3 harg3 arg4 harg4 arg5 harg5 arg6 harg6 arg7 harg7 arg8 harg8
    arg9 harg9 arg10 harg10 arg11 harg11 h1 g sc sh X _ le_rfl) y (covers 𝒱 c bd i arg2 harg2 arg3 harg3 arg4 harg4 arg5 harg5 arg6 harg6 arg7 harg7 arg8 harg8
    arg9 harg9 arg10 harg10 arg11 harg11 h1 g sc sh X y)

end

end Cert.Kernel5Ideal.Glu

end
-- ==== Proof.GluBlock.lean ====
/- The first half of the convolution's mixer: what one grid point stores and what it leaves in the scratch. -/
module

public import proofs.«01_k».proof.Proof.GluLoop
public import Idealize.ShloMosaic.Lib.Pipeline.FrameBody

@[expose] public section

set_option maxRecDepth 16384

noncomputable section

namespace Cert.Kernel5Ideal.Glu

open Idealize.ShloMosaic Idealize.ShloMosaic.TcCoe Cert.Kernel5Ideal Cert.Kernel5Ideal.Gen

/-- A store at offset zero of the whole shape puts every element at its own place. -/
theorem zero_coords {n k : ℕ} {inb} (r : Fin n) (u : Fin k) : ∀ a : Fin 2, (ix2 r u a).val
    = (Rect.unit (s := (⟨2, ![n, k]⟩ : Shape)) ![0, 0] ![n, k] inb).off a
      + (Rect.unit (s := (⟨2, ![n, k]⟩ : Shape)) ![0, 0] ![n, k] inb).stride a * (ix2 r u a).val := by
  intro a
  match a with
  | ⟨0, _⟩ => change r.val = 0 + 1 * r.val; omega
  | ⟨1, _⟩ => change u.val = 0 + 1 * u.val; omega

/-- A load of a whole buffer at offset zero. -/
theorem load_whole {n k : ℕ} {e : EltTy} (M : Memref sig .tc .vmem (⟨2, ![n, k]⟩ : Shape) e) (hM : M.IsWhole) (x : Vec Ideal (⟨2, ![n, k]⟩ : Shape) e) (inb) :
    M.view.readAt (Elt Ideal) (Rect.unit (s := (⟨2, ![n, k]⟩ : Shape)) ![0, 0] ![n, k] inb).toLoadRect (hM.unread x) = x := by
  funext y
  obtain ⟨r, u, rfl⟩ : ∃ (r : Fin n) (u : Fin k), y = ix2 r u := ⟨y 0, y 1, eq_ix2 y⟩
  rw [View.readAt_apply, hM.read_unread]
  congr 1
  funext a
  exact Fin.ext (zero_coords (inb := inb) r u a).symm

section
variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S1x2048 .f32) (harg5 : arg5.IsWhole) (arg6 : Memref sig .tc .vmem S2048x512 .f32) (harg6 : arg6.IsWhole)
  (arg7 : Memref sig .tc .vmem S2048x512 .f32) (harg7 : arg7.IsWhole) (arg8 : Memref sig .tc .vmem S1x512 .f32) (harg8 : arg8.IsWhole)
  (arg9 : Memref sig .tc .vmem S1x512 .f32) (harg9 : arg9.IsWhole) (arg10 : Memref sig .tc .vmem S1024x512 .f32) (harg10 : arg10.IsWhole)
  (arg11 : Memref sig .tc .vmem S1024x2048 .bf16) (harg11 : arg11.IsWhole)
  (x0 : Vec Ideal S1024x2048 .f32) (x1 x2 x3 : Vec Ideal S1x2048 .f32) (x4 x5 : Vec Ideal S2048x512 .f32) (x6 x7 : Vec Ideal S1x512 .f32)

/-- The first point of a block of rows leaves the normalized rows in the scratch. -/
theorem scratch_A (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 x6 x7 = hblk x0 x1 x2 x3 := by
  unfold sout0_A_0
  unfold kernelRun0_A
  dsimp only
  sl_unfold_words
  rw [load_whole arg3 harg3, load_whole arg4 harg4, load_whole arg5 harg5]
  funext y
  refine (loop_read Variants.none c none i arg2 harg2 arg3 harg3 arg4 harg4 arg5 harg5 arg6 harg6 arg7 harg7 arg8 harg8 arg9 harg9 arg10 harg10 arg11 harg11 hc0 x1 x2 x3 (harg2.unread x0) VS0_0 _ y).trans ?_
  rw [harg2.read_unread]

/-- What the first point of a block of rows stores. -/
theorem out_A (hc0 : cond0_0 i) :
    out0_A_8 c i arg2 harg2 arg3 harg3 arg4 harg4 arg5 harg5 arg6 harg6 arg7 harg7 arg8 harg8 arg9 harg9 arg10 harg10 arg11 harg11 hc0 x0 x1 x2 x3 x4 x5 x6 x7 = k0_pay2 (hblk x0 x1 x2 x3) x4 x6 x5 x7 := by
  unfold out0_A_8
  unfold kernelRun0_A
  dsimp only
  sl_unfold_words
  funext y
  obtain ⟨r, n, rfl⟩ : ∃ (r : Fin 1024) (n : Fin 512), y = ix2 r n := ⟨y 0, y 1, eq_ix2 y⟩
  refine (View.read_writes_cons_hit_of_coords VO0_8 _ _ _ [] (ix2 r n) (ix2 r n) (zero_coords r n)).trans ?_
  rw [load_whole arg3 harg3, load_whole arg4 harg4, load_whole arg5 harg5, load_whole arg6 harg6, load_whole arg7 harg7, load_whole arg8 harg8,
    load_whole arg9 harg9]
  refine congrArg (fun h => k0_pay2 h x4 x6 x5 x7 (ix2 r n)) ?_
  funext y
  obtain ⟨r, u, rfl⟩ : ∃ (r : Fin 1024) (u : Fin 2048), y = ix2 r u := ⟨y 0, y 1, eq_ix2 y⟩
  unfold View.readCov
  rw [View.readAt_apply]
  refine (loop_read Variants.none c none i arg2 harg2 arg3 harg3 arg4 harg4 arg5 harg5 arg6 harg6 arg7 harg7 arg8 harg8 arg9 harg9 arg10 harg10 arg11 harg11 hc0 x1 x2 x3 (harg2.unread x0) arg11.view _ _).trans ?_
  rw [harg2.read_unread]
  congr 1
  funext a
  exact Fin.ext (zero_coords (n := 1024) (k := 2048) (inb := inb_S1024x2048_S1024x2048_0_0) r u a).symm

/-- What a later point of a block of rows stores, over the scratch it finds. -/
theorem out_B (hc0 : ¬cond0_0 i) (h : Vec Ideal S1024x2048 .bf16) :
    out0_B_8 c i arg2 harg2 arg3 harg3 arg4 harg4 arg5 harg5 arg6 harg6 arg7 harg7 arg8 harg8 arg9 harg9 arg10 harg10 arg11 harg11 hc0 x0 x1 x2 x3 x4 x5 x6 x7 h = k0_pay2 h x4 x6 x5 x7 := by
  unfold out0_B_8
  unfold kernelRun0_B
  dsimp only
  funext y
  obtain ⟨r, n, rfl⟩ : ∃ (r : Fin 1024) (n : Fin 512), y = ix2 r n := ⟨y 0, y 1, eq_ix2 y⟩
  refine (View.read_writes_cons_hit_of_coords VO0_8 _ _ _ [] (ix2 r n) (ix2 r n) (zero_coords r n)).trans ?_
  rw [load_whole arg11 harg11, load_whole arg6 harg6, load_whole arg7 harg7, load_whole arg8 harg8, load_whole arg9 harg9]

end

end Cert.Kernel5Ideal.Glu

end
-- ==== Proof.GluRef.lean ====
/- The reference of the first half of the convolution's mixer: rows normalized, scaled and shifted, projected with a
   bias, the first half of the columns gated by the second half. -/
module

public import proofs.«01_k».proof.Proof.Gen.Reference5Ideal.Run
public import proofs.«01_k».proof.Proof.MoePay
public import Idealize.ShloMosaic.Lib.Pointwise

@[expose] public section

set_option maxRecDepth 16384

noncomputable section

namespace Cert.Reference5Ideal.Glu

open Cert.Reference5Ideal Cert.Reference5Ideal.Gen Idealize.ShloMosaic Cert.Kernel2Ideal.Moe

/-- Rows normalized, scaled and shifted. -/
def normRows (x : FVec Ideal S8192x2048 .f32) (g : FVec Ideal S2048 .f32) (sc sh : FVec Ideal S1x2048 .f32) : FVec Ideal S8192x2048 .f32 :=
  addf (mulf (mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (addf (broadcastInDim S1x2048 ![] bcast_S_S1x2048 (constant S_ .f32 0x3F800000#32)) sc)))
    (broadcastInDim S8192x2048 ![0, 1] bcast_S1x2048_S8192x2048_0_1 sh)

/-- Rows projected, with a bias. -/
def proj (h : FVec Ideal S8192x2048 .f32) (w : FVec Ideal S2048x4096 .f32) (b : FVec Ideal S4096 .f32) : FVec Ideal S8192x4096 .f32 :=
  addf (Host.dotGeneral dot_S8192x2048_S2048x4096_S8192x4096_1_0_0_1_n_n none h w)
    (broadcastInDim S8192x4096 ![0, 1] bcast_S1x4096_S8192x4096_0_1 (broadcastInDim S1x4096 ![1] bcast_S4096_S1x4096_1 b))

/-- The first half of the columns gated by the second half. -/
def glu (a : FVec Ideal S8192x4096 .f32) : FVec Ideal S8192x2048 .f32 :=
  mulf (extractStridedSlice S8192x2048 ![0, 0] a slices_S8192x4096_S8192x2048_0_0)
    (Host.divf (broadcastInDim S8192x2048 ![] bcast_S_S8192x2048 (constant S_ .f32 0x3F800000#32))
      (addf (broadcastInDim S8192x2048 ![] bcast_S_S8192x2048 (constant S_ .f32 0x3F800000#32))
        (Host.exp (Host.negf (extractStridedSlice S8192x2048 ![0, 2048] a slices_S8192x4096_S8192x2048_0_2048)))))

/-- What the reference returns. -/
def refOut (x : FVec Ideal S8192x2048 .f32) (g : FVec Ideal S2048 .f32) (sc sh : FVec Ideal S1x2048 .f32) (w : FVec Ideal S2048x4096 .f32)
    (b : FVec Ideal S4096 .f32) : FVec Ideal S8192x2048 .f32 := glu (proj (normRows x g sc sh) w b)

theorem normRows_apply (x : FVec Ideal S8192x2048 .f32) (g : FVec Ideal S2048 .f32) (sc sh : FVec Ideal S1x2048 .f32) (i : Fin 8192) (n : Fin 2048) :
    normRows x g sc sh (ix2 i n) = normed (fun k => x (ix2 i k)) (fun k => g (ix1 k)) (fun k => sc (ix2 0 k)) (fun k => sh (ix2 0 k)) n := by
  unfold normed rowScale
  pointwise [normRows]

theorem proj_apply (h : FVec Ideal S8192x2048 .f32) (w : FVec Ideal S2048x4096 .f32) (b : FVec Ideal S4096 .f32) (i : Fin 8192) (n : Fin 4096) :
    proj h w b (ix2 i n) = ∑ k : Fin 2048, h (ix2 i k) * w (ix2 k n) + b (ix1 n) := by
  pointwise [proj]

theorem glu_apply (a : FVec Ideal S8192x4096 .f32) (i : Fin 8192) (n : Fin 2048) :
    glu a (ix2 i n) = a (ix2 i ⟨n.val, by omega⟩) * Ideal.logistic (a (ix2 i ⟨2048 + n.val, by omega⟩)) := by
  have h1 : Ideal.ofBits .f32 0x3F800000#32 = 1 := Ideal.ofBits_one_f32
  unfold Ideal.logistic
  rw [← h1]
  pointwise [glu]

theorem refOut_apply (x : FVec Ideal S8192x2048 .f32) (g : FVec Ideal S2048 .f32) (sc sh : FVec Ideal S1x2048 .f32) (w : FVec Ideal S2048x4096 .f32)
    (b : FVec Ideal S4096 .f32) (i : Fin 8192) (n : Fin 2048) :
    refOut x g sc sh w b (ix2 i n)
      = (∑ k : Fin 2048, normRows x g sc sh (ix2 i k) * w (ix2 k ⟨n.val, by omega⟩) + b (ix1 ⟨n.val, by omega⟩))
        * Ideal.logistic (∑ k : Fin 2048, normRows x g sc sh (ix2 i k) * w (ix2 k ⟨2048 + n.val, by omega⟩) + b (ix1 ⟨2048 + n.val, by omega⟩)) := by
  unfold refOut
  rw [glu_apply, proj_apply, proj_apply]

end Cert.Reference5Ideal.Glu

end
-- ==== Proof.GluFinal.lean ====
/- The first half of the convolution's mixer: the kernel's final array is the reference's result. -/
module

public import proofs.«01_k».proof.Proof.Gen.Kernel5Ideal.Value
public import proofs.«01_k».proof.Proof.GluBlock
public import proofs.«01_k».proof.Proof.GluRef
public import Idealize.ShloMosaic.Lib.StableHlo.RunRead
public import Idealize.ShloMosaic.Lib.Pipeline.ValueKit.Geometry

@[expose] public section

set_option maxRecDepth 16384

noncomputable section

namespace Cert.Kernel5Ideal.Glu

open Cert.Kernel5Ideal Cert.Kernel5Ideal.Gen Idealize.ShloMosaic Idealize.ShloMosaic.TcCoe Idealize.SL.Sem Idealize.ShloMosaic.StableHlo
open Cert.Kernel2Ideal.Moe (normed)

variable (m : (ℓ : Loc nD τ sig) → Buf (Elt Ideal) ℓ)

theorem V_g (c : Dev nD) : V m c main_v0 = shapeCast S1x2048 (m ((c : Thread nD τ).loc main_arg1)) shapeCasts_S2048_S1x2048 := by
  unfold V hostOps0
  after_reads_simp
  rfl

theorem V_g_apply (c : Dev nD) (n : Fin 2048) :
    (V m c main_v0 : Vec Ideal S1x2048 .f32) (ix2 0 n) = (m ((c : Thread nD τ).loc main_arg1) : Vec Ideal S2048 .f32) (ix1 n) := by
  rw [V_g]
  pointwise

theorem V_b (c : Dev nD) : V m c main_v1 = shapeCast S1x4096 (m ((c : Thread nD τ).loc main_arg5)) shapeCasts_S4096_S1x4096 := by
  unfold V hostOps0
  after_reads_simp
  rfl

set_option maxRecDepth 65536 in
theorem V_b_apply (c : Dev nD) (n : Fin 4096) :
    (V m c main_v1 : Vec Ideal S1x4096 .f32) (ix2 0 n) = (m ((c : Thread nD τ).loc main_arg5) : Vec Ideal S4096 .f32) (ix1 n) := by
  rw [V_b]
  pointwise

theorem index0 : ∀ t : Fin cfg0.N, win0_0.index t = ![t.val / 4, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, t.val % 4] :=
  (by decide +kernel : ∀ t : Fin grid0.N, _)
theorem index5 : ∀ t : Fin cfg0.N, win0_5.index t = ![0, t.val % 4 + 4] :=
  (by decide +kernel : ∀ t : Fin grid0.N, _)
theorem index6 : ∀ t : Fin cfg0.N, win0_6.index t = ![0, t.val % 4] :=
  (by decide +kernel : ∀ t : Fin grid0.N, _)
theorem index7 : ∀ t : Fin cfg0.N, win0_7.index t = ![0, t.val % 4 + 4] :=
  (by decide +kernel : ∀ t : Fin grid0.N, _)
theorem index8 : ∀ t : Fin cfg0.N, win0_8.index t = ![t.val / 4, t.val % 4] :=
  (by decide +kernel : ∀ t : Fin grid0.N, _)

theorem point_lt (t : Fin cfg0.N) : t.val < 32 := t.isLt

/-- The row of the array at a row of a grid point's block. -/
def rowOf (t : Fin cfg0.N) (r : Fin 1024) : Fin 8192 := ⟨t.val / 4 * 1024 + r.val, by have := point_lt t; omega⟩

/-- The column of the result at a column of a grid point's block. -/
def colOf (t : Fin cfg0.N) (n : Fin 512) : Fin 2048 := ⟨t.val % 4 * 512 + n.val, by omega⟩

theorem block0 (c : Dev nD) (t : Fin cfg0.N) (r : Fin 1024) (k : Fin 2048) :
    (iblk m c 0 t : Vec Ideal S1024x2048 .f32) (ix2 r k) = (m ((c : Thread nD τ).loc main_arg0) : Vec Ideal S8192x2048 .f32) (ix2 (rowOf t r) k) := by
  rw [← V_main_arg0 m c]
  blk_simp [iblk]
  refine congrArg (V m c main_arg0) ?_
  funext a
  refine Fin.ext ?_
  match a with
  | ⟨0, _⟩ => blk_simp [index0]; rfl
  | ⟨1, _⟩ => blk_simp [index0]

theorem block1 (c : Dev nD) (t : Fin cfg0.N) (k : Fin 2048) :
    (iblk m c 1 t : Vec Ideal S1x2048 .f32) (ix2 0 k) = (m ((c : Thread nD τ).loc main_arg1) : Vec Ideal S2048 .f32) (ix1 k) := by
  rw [← V_g_apply m c]
  blk_simp [iblk]
  refine congrArg (V m c main_v0) ?_
  funext a
  refine Fin.ext ?_
  match a with
  | ⟨0, _⟩ => blk_simp [index1]
  | ⟨1, _⟩ => blk_simp [index1]

theorem block2 (c : Dev nD) (t : Fin cfg0.N) (k : Fin 2048) :
    (iblk m c 2 t : Vec Ideal S1x2048 .f32) (ix2 0 k) = (m ((c : Thread nD τ).loc main_arg2) : Vec Ideal S1x2048 .f32) (ix2 0 k) := by
  rw [← V_main_arg2 m c]
  blk_simp [iblk]
  refine congrArg (V m c main_arg2) ?_
  funext a
  refine Fin.ext ?_
  match a with
  | ⟨0, _⟩ => blk_simp [index2]
  | ⟨1, _⟩ => blk_simp [index2]

theorem block3 (c : Dev nD) (t : Fin cfg0.N) (k : Fin 2048) :
    (iblk m c 3 t : Vec Ideal S1x2048 .f32) (ix2 0 k) = (m ((c : Thread nD τ).loc main_arg3) : Vec Ideal S1x2048 .f32) (ix2 0 k) := by
  rw [← V_main_arg3 m c]
  blk_simp [iblk]
  refine congrArg (V m c main_arg3) ?_
  funext a
  refine Fin.ext ?_
  match a with
  | ⟨0, _⟩ => blk_simp [index3]
  | ⟨1, _⟩ => blk_simp [index3]

theorem block4 (c : Dev nD) (t : Fin cfg0.N) (k : Fin 2048) (n : Fin 512) :
    (iblk m c 4 t : Vec Ideal S2048x512 .f32) (ix2 k n) = (m ((c : Thread nD τ).loc main_arg4) : Vec Ideal S2048x4096 .f32) (ix2 k ⟨(colOf t n).val, by omega⟩) := by
  rw [← V_main_arg4 m c]
  blk_simp [iblk]
  refine congrArg (V m c main_arg4) ?_
  funext a
  refine Fin.ext ?_
  match a with
  | ⟨0, _⟩ => blk_simp [index4]
  | ⟨1, _⟩ => blk_simp [index4]; rfl

theorem block5 (c : Dev nD) (t : Fin cfg0.N) (k : Fin 2048) (n : Fin 512) :
    (iblk m c 5 t : Vec Ideal S2048x512 .f32) (ix2 k n) = (m ((c : Thread nD τ).loc main_arg4) : Vec Ideal S2048x4096 .f32) (ix2 k ⟨2048 + (colOf t n).val, by omega⟩) := by
  rw [← V_main_arg4 m c]
  blk_simp [iblk]
  refine congrArg (V m c main_arg4) ?_
  funext a
  refine Fin.ext ?_
  match a with
  | ⟨0, _⟩ => blk_simp [index5]
  | ⟨1, _⟩ => blk_simp [index5]; change (t.val % 4 + 4) * 512 + n.val = 2048 + (t.val % 4 * 512 + n.val); omega

theorem block6 (c : Dev nD) (t : Fin cfg0.N) (n : Fin 512) :
    (iblk m c 6 t : Vec Ideal S1x512 .f32) (ix2 0 n) = (m ((c : Thread nD τ).loc main_arg5) : Vec Ideal S4096 .f32) (ix1 ⟨(colOf t n).val, by omega⟩) := by
  rw [← V_b_apply m c]
  blk_simp [iblk]
  refine congrArg (V m c main_v1) ?_
  funext a
  refine Fin.ext ?_
  match a with
  | ⟨0, _⟩ => blk_simp [index6]
  | ⟨1, _⟩ => blk_simp [index6]; rfl

theorem block7 (c : Dev nD) (t : Fin cfg0.N) (n : Fin 512) :
    (iblk m c 7 t : Vec Ideal S1x512 .f32) (ix2 0 n) = (m ((c : Thread nD τ).loc main_arg5) : Vec Ideal S4096 .f32) (ix1 ⟨2048 + (colOf t n).val, by omega⟩) := by
  rw [← V_b_apply m c]
  blk_simp [iblk]
  refine congrArg (V m c main_v1) ?_
  funext a
  refine Fin.ext ?_
  match a with
  | ⟨0, _⟩ => blk_simp [index7]
  | ⟨1, _⟩ => blk_simp [index7]; change (t.val % 4 + 4) * 512 + n.val = 2048 + (t.val % 4 * 512 + n.val); omega

/-- The normalized rows of a grid point's block, from the arrays. -/
def hrows (c : Dev nD) (t : Fin cfg0.N) : Vec Ideal S1024x2048 .bf16 := fun y =>
  Cert.Reference5Ideal.Glu.normRows (m ((c : Thread nD τ).loc main_arg0)) (m ((c : Thread nD τ).loc main_arg1)) (m ((c : Thread nD τ).loc main_arg2))
    (m ((c : Thread nD τ).loc main_arg3)) (ix2 (rowOf t (y 0)) (y 1))

theorem hblk_eq (c : Dev nD) (t : Fin cfg0.N) : hblk (iblk m c 0 t) (iblk m c 1 t) (iblk m c 2 t) (iblk m c 3 t) = hrows m c t := by
  funext y
  obtain ⟨r, k, rfl⟩ : ∃ (r : Fin 1024) (k : Fin 2048), y = ix2 r k := ⟨y 0, y 1, eq_ix2 y⟩
  refine Eq.trans ?_ (Cert.Reference5Ideal.Glu.normRows_apply _ _ _ _ (rowOf t r) k).symm
  change normed (fun k => (iblk m c 0 t : Vec Ideal S1024x2048 .f32) (ix2 r k)) (fun k => (iblk m c 1 t : Vec Ideal S1x2048 .f32) (ix2 0 k))
    (fun k => (iblk m c 2 t : Vec Ideal S1x2048 .f32) (ix2 0 k)) (fun k => (iblk m c 3 t : Vec Ideal S1x2048 .f32) (ix2 0 k)) k = _
  simp only [block0, block1, block2, block3]

/-- Points of one block of rows have the same normalized rows. -/
theorem hrows_same (c : Dev nD) (t t' : Fin cfg0.N) (h : t.val / 4 = t'.val / 4) : hrows m c t = hrows m c t' := by
  funext y
  have e : ∀ r, rowOf t r = rowOf t' r := fun r => Fin.ext (by change t.val / 4 * 1024 + r.val = t'.val / 4 * 1024 + r.val; rw [h])
  exact congrArg (fun i => Cert.Reference5Ideal.Glu.normRows (m ((c : Thread nD τ).loc main_arg0)) (m ((c : Thread nD τ).loc main_arg1))
    (m ((c : Thread nD τ).loc main_arg2)) (m ((c : Thread nD τ).loc main_arg3)) (ix2 i (y 1))) (e (y 0))

/-- At every point the scratch ends with the normalized rows of the point's block. -/
theorem scratch (c : Dev nD) : ∀ (n : ℕ) (hn : n < cfg0.N), (outsAt0 m c n hn).2 = hrows m c ⟨n, hn⟩ := by
  intro n
  induction n with
  | zero =>
    intro hn
    have h := congrArg Prod.snd (outsAt0_A m c ⟨0, hn⟩ rfl)
    exact h.trans ((scratch_A _ _ _ _ _ _ _ _ _ _ _ _ _ _ _ _ _ _ _ _ _ _ _ _ _ _ _ _ _ _ _).trans (hblk_eq m c ⟨0, hn⟩))
  | succ n ih =>
    intro hn
    by_cases h4 : (n + 1) % 4 = 0
    · have h := congrArg Prod.snd (outsAt0_A m c ⟨n + 1, hn⟩ h4)
      exact h.trans ((scratch_A _ _ _ _ _ _ _ _ _ _ _ _ _ _ _ _ _ _ _ _ _ _ _ _ _ _ _ _ _ _ _).trans (hblk_eq m c ⟨n + 1, hn⟩))
    · have h := congrArg Prod.snd (outsAt0_B m c ⟨n + 1, hn⟩ h4)
      refine h.trans ?_
      unfold sout0_B_0
      exact (ih (Nat.lt_of_succ_lt hn)).trans (hrows_same m c _ _ (by change n / 4 = (n + 1) / 4; omega))

/-- What every point stores. -/
theorem stored (c : Dev nD) (t : Fin cfg0.N) :
    (outsAt0 m c t.val t.isLt).1 = k0_pay2 (hrows m c t) (iblk m c 4 t) (iblk m c 6 t) (iblk m c 5 t) (iblk m c 7 t) := by
  by_cases h4 : t.val % 4 = 0
  · rw [outsAt0_A m c t h4]
    dsimp only
    rw [out_A, hblk_eq]
  · rw [outsAt0_B m c t h4]
    dsimp only
    rw [out_B, scratch, hrows_same m c _ t (by change (t.val - 1) / 4 = t.val / 4; omega)]

/-- The kernel's final array is the reference's result. -/
theorem final (c : Dev nD) :
    (dats m 0 c).arrAt 8 cfg0.N = Cert.Reference5Ideal.Glu.refOut (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, stored]
  obtain ⟨r, n, rfl⟩ : ∃ (r : Fin 1024) (n : Fin 512), y = ix2 r n := ⟨y 0, y 1, eq_ix2 y⟩
  rw [pay2_apply]
  simp only [block4, block5, block6, block7]
  refine (Cert.Reference5Ideal.Glu.refOut_apply _ _ _ _ _ _ (rowOf t r) (colOf t n)).symm.trans ?_
  refine congrArg (Cert.Reference5Ideal.Glu.refOut _ _ _ _ _ _) ?_
  funext a
  refine Fin.ext ?_
  match a with
  | ⟨0, _⟩ => blk_simp [index8]; rfl
  | ⟨1, _⟩ => blk_simp [index8]; rfl

end Cert.Kernel5Ideal.Glu

end
-- ==== Proof.lean ====
/- The certificate: the frames of the five calls and of their references; that over the extended reals the attention and
   its reference compute the same array from real queries and keys; that the experts' call and its reference compute the
   same rows for the tokens, from tables that dispatch them; and that the projection with the residual, the last norm and
   the first half of the convolution's mixer compute the same arrays as their references, from any arrays. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Final
public import proofs.«01_k».proof.Proof.RefRun
public import proofs.«01_k».proof.Proof.Pre
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Loops
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_dispatched_tokens
public import proofs.«01_k».proof.Proof.Gen.On_token_rows
public import proofs.«01_k».proof.Proof.MoeFinal
public import proofs.«01_k».proof.Proof.MoeBits
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.ResidualValue
public import proofs.«01_k».proof.Proof.LastNormValue
public import proofs.«01_k».proof.Proof.GluFinal
public import Idealize.ShloMosaic.Adequacy
public import Idealize.ShloMosaic.Init

@[expose] public section

noncomputable section

namespace Cert.Proof

open Idealize.ShloMosaic Idealize.ShloMosaic.TcCoe Idealize.SL.Sem

/-- The reference runs, its arguments unchanged and its counters zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From real queries and keys, the attention and its reference end with the same array. -/
theorem equal_results : Cert.algebraic_KernelIdeal_ReferenceIdeal_pre_finite_queries_keys (hKernelIdeal := Cert.KernelIdeal.Gen.facts)
    (hReferenceIdeal := Cert.ReferenceIdeal.Gen.facts) (hPre_finite_queries_keys := Cert.Pre_finite_queries_keys.facts) := by
  intro m g m' g' hp hargs
  letI := Cert.Pre_finite_queries_keys.facts
  refine ⟨fun c => Cert.ReferenceIdeal.Attn.refOut
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)), ?_,
    Cert.ReferenceIdeal.Attn.run_out m' g'⟩
  refine (θ_run _ _ _).mono (fun r h c => ⟨(h c).1.trans ?_, (h c).2⟩) (Cert.KernelIdeal.Value.run_blocks (F := Ideal) m g)
  obtain ⟨p0, p1, p2, p3⟩ := hp c
  obtain ⟨e0, e1, e2, e3, e4⟩ := hargs c
  rw [← e0, ← e1, ← e2, ← e3, ← e4] at p0 p1 p2 p3
  exact Cert.KernelIdeal.Attn.final m c _ _ _ _ _ (Cert.Pre_finite_queries_keys.real_q _ _ _ _ _ p0)
    (Cert.Pre_finite_queries_keys.real_qpe _ _ _ _ _ p1) (Cert.Pre_finite_queries_keys.real_k _ _ _ _ _ p2)
    (Cert.Pre_finite_queries_keys.real_kpe _ _ _ _ _ p3) e0.symm e1.symm e2.symm e3.symm e4.symm

/-- The experts' call runs from tables that dispatch the tokens, its arguments unchanged and its counters zero. -/
theorem frame_experts : Cert.quiescent_Kernel2Ideal (hKernel2Ideal := Cert.Kernel2Ideal.Gen.facts) (hPre_dispatched_tokens := Cert.Pre_dispatched_tokens.Gen.facts) :=
  fun m ρ hp => (θ_run Cert.Kernel2Ideal.defs _ _).mono (fun _ h => ⟨fun c => (h.1 c).2, h.2⟩)
    (Cert.Kernel2Ideal.Moe.run_out (F := Ideal) m ρ (Cert.Pre_dispatched_tokens.routed (F := Ideal) _ _ _ _ _ _ _ _ _ _ _ _ _ _ (hp 0)))

/-- So does its run on bit patterns. -/
theorem frame_experts_bits : Cert.quiescent_Kernel2 (hKernel2 := Cert.Kernel2.Gen.facts) (hPre_dispatched_tokens := Cert.Pre_dispatched_tokens.Gen.facts) := by
  intro m ρ hp
  refine Cert.Kernel2.Moe.run_same m ρ _ ?_
  have R : Cert.Kernel2Ideal.Moe.Routes (F := Bits) m := Cert.Pre_dispatched_tokens.routed (F := Bits) _ _ _ _ _ _ _ _ _ _ _ _ _ _ (hp 0)
  have H := Cert.Kernel2Ideal.Moe.run_out (F := Bits) m ρ R
  exact (θ_run (Cert.Kernel2Ideal.defs (F := Bits)) _ _).mono (fun _ h => ⟨fun c => (h.1 c).2, h.2⟩) H

/-- The experts' reference runs, its arguments unchanged and its counters zero. -/
theorem frame_experts_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- From tables that dispatch the tokens, the experts' call and its reference end with the same rows for the tokens. -/
theorem equal_rows : Cert.algebraic_Kernel2Ideal_Reference2Ideal_on_token_rows (hKernel2Ideal := Cert.Kernel2Ideal.Gen.facts)
    (hReference2Ideal := Cert.Reference2Ideal.Gen.facts) (hPre_dispatched_tokens := Cert.Pre_dispatched_tokens.Gen.facts)
    (hOn_token_rows := Cert.On_token_rows.Gen.facts) := by
  intro m g m' g' hp hargs
  letI := Cert.On_token_rows.Gen.facts
  letI := Cert.Pre_dispatched_tokens.Gen.facts
  have R : Cert.Kernel2Ideal.Moe.Routes m := Cert.Pre_dispatched_tokens.routed (F := Ideal) _ _ _ _ _ _ _ _ _ _ _ _ _ _ (hp 0)
  refine ⟨fun c => Cert.Reference2Ideal.Moe.refOut (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8))
      (m ((c.tc : Thread Cert.Kernel2Ideal.nD Cert.Kernel2Ideal.τ).loc Cert.Kernel2Ideal.main_arg9))
      (m ((c.tc : Thread Cert.Kernel2Ideal.nD Cert.Kernel2Ideal.τ).loc Cert.Kernel2Ideal.main_arg10))
      (m ((c.tc : Thread Cert.Kernel2Ideal.nD Cert.Kernel2Ideal.τ).loc Cert.Kernel2Ideal.main_arg11))
      (m ((c.tc : Thread Cert.Kernel2Ideal.nD Cert.Kernel2Ideal.τ).loc Cert.Kernel2Ideal.main_arg13)), ?_, ?_⟩
  · refine (θ_run _ _ _).mono (fun r h c => ⟨fun i hi => ?_, (h.1 c).2⟩) (Cert.Kernel2Ideal.Moe.run_out (F := Ideal) m g R)
    obtain ⟨t, a, b, rfl⟩ : ∃ (t : Fin 8704) (a : Fin 16) (b : Fin 128), i = ix3 t a b := ⟨i 0, i 1, i 2, eq_ix3 i⟩
    have ht := Cert.Kernel2Ideal.Moe.selected _ _ _ _ _ _ _ _ _ _ _ _ _ _ t a b hi
    exact (congrFun (h.1 c).1 (ix3 t a b)).trans (Cert.Kernel2Ideal.Moe.final m R c t ht a b)
  · refine (θ_run _ _ _).mono (fun r h c => ⟨fun i _ => ?_, (h c).2⟩) (Cert.Reference2Ideal.Value.run (F := Ideal) m' g')
    obtain ⟨_, _, _, _, e4, e5, e6, e7, e8, e9, e10, e11, _, e13⟩ := hargs c
    refine congrFun ((h c).1.trans ((Cert.Reference2Ideal.Moe.res_eq m' c).trans ?_)) i
    rw [e4, e5, e6, e7, e8, e9, e10, e11, e13]

/-- The reference of the projection with the residual runs, its arguments unchanged and its counters zero. -/
theorem frame_projection_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The projection with the residual and its reference end with the same array. -/
theorem equal_projection : Cert.algebraic_Kernel3Ideal_Reference3Ideal (hKernel3Ideal := Cert.Kernel3Ideal.Gen.facts)
    (hReference3Ideal := Cert.Reference3Ideal.Gen.facts) := by
  intro m g m' g' hp hargs
  refine ⟨fun c => Cert.Reference3Ideal.Res.refOut
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4)), ?_,
    Cert.Reference3Ideal.Value.run (F := Ideal) m' g'⟩
  refine (θ_run _ _ _).mono (fun r h c => ⟨(h c).1.trans ?_, (h c).2⟩) (Cert.Kernel3Ideal.Value.run_blocks (F := Ideal) m g)
  obtain ⟨e0, e1, e2, e3, e4⟩ := hargs c
  dsimp only
  rw [e0, e1, e2, e3, e4]
  exact Cert.Kernel3Ideal.Res.final m c

/-- The reference of the last norm runs, its arguments unchanged and its counters zero. -/
theorem frame_last_norm_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The last norm and its reference end with the same array. -/
theorem equal_last_norm : Cert.algebraic_Kernel4Ideal_Reference4Ideal (hKernel4Ideal := Cert.Kernel4Ideal.Gen.facts)
    (hReference4Ideal := Cert.Reference4Ideal.Gen.facts) := by
  intro m g m' g' hp hargs
  refine ⟨fun c => Cert.Reference4Ideal.Last.refOut
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)), ?_,
    Cert.Reference4Ideal.Value.run (F := Ideal) m' g'⟩
  refine (θ_run _ _ _).mono (fun r h c => ⟨(h c).1.trans ?_, (h c).2⟩) (Cert.Kernel4Ideal.Value.run_blocks (F := Ideal) m g)
  obtain ⟨e0, e1⟩ := hargs c
  dsimp only
  rw [e0, e1]
  exact Cert.Kernel4Ideal.Last.final m c

/-- The reference of the convolution mixer's first half runs, its arguments unchanged and its counters zero. -/
theorem frame_glu_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The convolution mixer's first half and its reference end with the same array. -/
theorem equal_glu : Cert.algebraic_Kernel5Ideal_Reference5Ideal (hKernel5Ideal := Cert.Kernel5Ideal.Gen.facts)
    (hReference5Ideal := Cert.Reference5Ideal.Gen.facts) := by
  intro m g m' g' hp hargs
  refine ⟨fun c => Cert.Reference5Ideal.Glu.refOut
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5)), ?_,
    Cert.Reference5Ideal.Value.run (F := Ideal) m' g'⟩
  refine (θ_run _ _ _).mono (fun r h c => ⟨(h c).1.trans ?_, (h c).2⟩) (Cert.Kernel5Ideal.Value.run_blocks (F := Ideal) m g)
  obtain ⟨e0, e1, e2, e3, e4, e5⟩ := hargs c
  dsimp only
  rw [e0, e1, e2, e3, e4, e5]
  exact Cert.Kernel5Ideal.Glu.final m c

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_queries_keys.facts, Cert.Pre_dispatched_tokens.Gen.facts, Cert.On_token_rows.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  frame_experts_bits, frame_experts, frame_experts_reference, fun m ρ _ => frame_experts_reference m ρ trivial,
  fun m ρ _ => Cert.Kernel3.Gen.frame m ρ, fun m ρ _ => Cert.Kernel3Ideal.Gen.frame m ρ, frame_projection_reference,
  fun m ρ _ => Cert.Kernel4.Gen.frame m ρ, fun m ρ _ => Cert.Kernel4Ideal.Gen.frame m ρ, frame_last_norm_reference,
  fun m ρ _ => Cert.Kernel5.Gen.frame m ρ, fun m ρ _ => Cert.Kernel5Ideal.Gen.frame m ρ, frame_glu_reference,
  trivial, equal_results, trivial, equal_rows, trivial, equal_projection, trivial, equal_last_norm, trivial, equal_glu⟩

end Cert.Proof

end
